-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_KernelIdeal [hPre_finite_KernelIdeal : Cert.Pre_finite_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_finite_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_ReferenceIdeal [hPre_finite_ReferenceIdeal : Cert.Pre_finite_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite_KernelIdeal [hKernelIdeal : Cert.KernelIdeal.Facts] [hPre_finite_KernelIdeal : Cert.Pre_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite_ReferenceIdeal [hReferenceIdeal : Cert.ReferenceIdeal.Facts] [hPre_finite_ReferenceIdeal : Cert.Pre_finite_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal_pre_finite_KernelIdeal [hKernelIdeal : Cert.KernelIdeal.Facts] [hReferenceIdeal : Cert.ReferenceIdeal.Facts] [hPre_finite_KernelIdeal : Cert.Pre_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = Layout.block ⟨2, ![768, 512]⟩ ⟨2, ![768, 4096]⟩ 1 8 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = m' (((0 : Dev Cert.ReferenceIdeal.nD).tc : Thread Cert.ReferenceIdeal.nD Cert.ReferenceIdeal.τ).loc Cert.ReferenceIdeal.main_arg2)
      ∧ m ((c.tc : Thread Cert.KernelIdeal.nD Cert.KernelIdeal.τ).loc Cert.KernelIdeal.main_arg3) = m' (((0 : Dev Cert.ReferenceIdeal.nD).tc : Thread Cert.ReferenceIdeal.nD Cert.ReferenceIdeal.τ).loc Cert.ReferenceIdeal.main_arg3)
      ∧ m ((c.tc : Thread Cert.KernelIdeal.nD Cert.KernelIdeal.τ).loc Cert.KernelIdeal.main_arg4) = Layout.block ⟨2, ![512, 768]⟩ ⟨2, ![4096, 768]⟩ 0 8 c (m' (((0 : Dev Cert.ReferenceIdeal.nD).tc : Thread Cert.ReferenceIdeal.nD Cert.ReferenceIdeal.τ).loc Cert.ReferenceIdeal.main_arg4))) →
    ∃ (v0 : Buf (Elt Ideal) (((0 : Dev Cert.ReferenceIdeal.nD).tc : Thread Cert.ReferenceIdeal.nD Cert.ReferenceIdeal.τ).loc Cert.ReferenceIdeal.main_v25)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v18) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v25) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_KernelIdeal : Cert.Pre_finite_KernelIdeal.Facts) (hPre_finite_ReferenceIdeal : Cert.Pre_finite_ReferenceIdeal.Facts),
    quiescent_Kernel (hKernel := hKernel)
    ∧ quiescent_KernelIdeal (hKernelIdeal := hKernelIdeal)
    ∧ quiescent_KernelIdeal_pre_finite_KernelIdeal (hKernelIdeal := hKernelIdeal) (hPre_finite_KernelIdeal := hPre_finite_KernelIdeal)
    ∧ quiescent_ReferenceIdeal (hReferenceIdeal := hReferenceIdeal)
    ∧ quiescent_ReferenceIdeal_pre_finite_ReferenceIdeal (hReferenceIdeal := hReferenceIdeal) (hPre_finite_ReferenceIdeal := hPre_finite_ReferenceIdeal)
    ∧ preserves_Kernel_KernelIdeal
    ∧ algebraic_KernelIdeal_ReferenceIdeal_pre_finite_KernelIdeal (hKernelIdeal := hKernelIdeal) (hReferenceIdeal := hReferenceIdeal) (hPre_finite_KernelIdeal := hPre_finite_KernelIdeal)
-- ==== Pre_finite_KernelIdeal.lean ====
abbrev S2x256x768 : Shape := ⟨3, ![2, 256, 768]⟩
abbrev S768x512 : Shape := ⟨2, ![768, 512]⟩
abbrev S2x512x64x64 : Shape := ⟨4, ![2, 512, 64, 64]⟩
abbrev S512x768 : Shape := ⟨2, ![512, 768]⟩
abbrev S_ : Shape := ⟨0, ![]⟩

class Facts : Prop where
  bcast_S_S2x256x768 : S_.BroadcastsInDim S2x256x768 (![] : Fin 0 → Fin S2x256x768.rank)
  reducesTo_S2x256x768_S_d0_1_2 : S2x256x768.ReducesTo [0, 1, 2] S_
  h_S_ : 0 < S_.numel
  bcast_S_S768x512 : S_.BroadcastsInDim S768x512 (![] : Fin 0 → Fin S768x512.rank)
  reducesTo_S768x512_S_d0_1 : S768x512.ReducesTo [0, 1] S_
  bcast_S_S2x512x64x64 : S_.BroadcastsInDim S2x512x64x64 (![] : Fin 0 → Fin S2x512x64x64.rank)
  reducesTo_S2x512x64x64_S_d0_1_2_3 : S2x512x64x64.ReducesTo [0, 1, 2, 3] S_

variable [Facts]

def fn {F : FTy → Type} [FloatOps F] (main_arg0 : FVec F S2x256x768 .bf16) (main_arg1 : FVec F S768x512 .bf16) (main_arg2 : FVec F S2x512x64x64 .bf16) (main_arg3 : FVec F S2x512x64x64 .bf16) (main_arg4 : FVec F S512x768 .bf16) : IVec S_ 1 :=
  let main_v0 : FVec F S2x256x768 .bf16 := Host.absf main_arg0
  let main_cst : FVec F S_ .bf16 := constant S_ .bf16 0x7F80#16
  let main_v1 : FVec F S2x256x768 .bf16 := broadcastInDim S2x256x768 ![] bcast_S_S2x256x768 main_cst
  let main_v2 : IVec S2x256x768 1 := cmpf .olt main_v0 main_v1
  let main_c : IVec S_ 1 := constantI S_ 1 1#1
  let main_v3 : IVec S_ 1 := (fun x v => Host.reduce IntOp.andi x v reducesTo_S2x256x768_S_d0_1_2 h_S_) main_v2 main_c
  let main_v4 : FVec F S768x512 .bf16 := Host.absf main_arg1
  let main_cst_0 : FVec F S_ .bf16 := constant S_ .bf16 0x7F80#16
  let main_v5 : FVec F S768x512 .bf16 := broadcastInDim S768x512 ![] bcast_S_S768x512 main_cst_0
  let main_v6 : IVec S768x512 1 := cmpf .olt main_v4 main_v5
  let main_c_1 : IVec S_ 1 := constantI S_ 1 1#1
  let main_v7 : IVec S_ 1 := (fun x v => Host.reduce IntOp.andi x v reducesTo_S768x512_S_d0_1 h_S_) main_v6 main_c_1
  let main_v8 : IVec S_ 1 := andi main_v3 main_v7
  let main_v9 : FVec F S2x512x64x64 .bf16 := Host.absf main_arg2
  let main_cst_2 : FVec F S_ .bf16 := constant S_ .bf16 0x7F80#16
  let main_v10 : FVec F S2x512x64x64 .bf16 := broadcastInDim S2x512x64x64 ![] bcast_S_S2x512x64x64 main_cst_2
  let main_v11 : IVec S2x512x64x64 1 := cmpf .olt main_v9 main_v10
  let main_c_3 : IVec S_ 1 := constantI S_ 1 1#1
  let main_v12 : IVec S_ 1 := (fun x v => Host.reduce IntOp.andi x v reducesTo_S2x512x64x64_S_d0_1_2_3 h_S_) main_v11 main_c_3
  let main_v13 : IVec S_ 1 := andi main_v8 main_v12
  main_v13
-- ==== Pre_finite_ReferenceIdeal.lean ====
abbrev S2x256x768 : Shape := ⟨3, ![2, 256, 768]⟩
abbrev S768x4096 : Shape := ⟨2, ![768, 4096]⟩
abbrev S2x512x64x64 : Shape := ⟨4, ![2, 512, 64, 64]⟩
abbrev S4096x768 : Shape := ⟨2, ![4096, 768]⟩
abbrev S_ : Shape := ⟨0, ![]⟩

class Facts : Prop where
  bcast_S_S2x256x768 : S_.BroadcastsInDim S2x256x768 (![] : Fin 0 → Fin S2x256x768.rank)
  reducesTo_S2x256x768_S_d0_1_2 : S2x256x768.ReducesTo [0, 1, 2] S_
  h_S_ : 0 < S_.numel
  bcast_S_S768x4096 : S_.BroadcastsInDim S768x4096 (![] : Fin 0 → Fin S768x4096.rank)
  reducesTo_S768x4096_S_d0_1 : S768x4096.ReducesTo [0, 1] S_
  bcast_S_S2x512x64x64 : S_.BroadcastsInDim S2x512x64x64 (![] : Fin 0 → Fin S2x512x64x64.rank)
  reducesTo_S2x512x64x64_S_d0_1_2_3 : S2x512x64x64.ReducesTo [0, 1, 2, 3] S_

variable [Facts]

def fn {F : FTy → Type} [FloatOps F] (main_arg0 : FVec F S2x256x768 .bf16) (main_arg1 : FVec F S768x4096 .bf16) (main_arg2 : FVec F S2x512x64x64 .bf16) (main_arg3 : FVec F S2x512x64x64 .bf16) (main_arg4 : FVec F S4096x768 .bf16) : IVec S_ 1 :=
  let main_v0 : FVec F S2x256x768 .bf16 := Host.absf main_arg0
  let main_cst : FVec F S_ .bf16 := constant S_ .bf16 0x7F80#16
  let main_v1 : FVec F S2x256x768 .bf16 := broadcastInDim S2x256x768 ![] bcast_S_S2x256x768 main_cst
  let main_v2 : IVec S2x256x768 1 := cmpf .olt main_v0 main_v1
  let main_c : IVec S_ 1 := constantI S_ 1 1#1
  let main_v3 : IVec S_ 1 := (fun x v => Host.reduce IntOp.andi x v reducesTo_S2x256x768_S_d0_1_2 h_S_) main_v2 main_c
  let main_v4 : FVec F S768x4096 .bf16 := Host.absf main_arg1
  let main_cst_0 : FVec F S_ .bf16 := constant S_ .bf16 0x7F80#16
  let main_v5 : FVec F S768x4096 .bf16 := broadcastInDim S768x4096 ![] bcast_S_S768x4096 main_cst_0
  let main_v6 : IVec S768x4096 1 := cmpf .olt main_v4 main_v5
  let main_c_1 : IVec S_ 1 := constantI S_ 1 1#1
  let main_v7 : IVec S_ 1 := (fun x v => Host.reduce IntOp.andi x v reducesTo_S768x4096_S_d0_1 h_S_) main_v6 main_c_1
  let main_v8 : IVec S_ 1 := andi main_v3 main_v7
  let main_v9 : FVec F S2x512x64x64 .bf16 := Host.absf main_arg2
  let main_cst_2 : FVec F S_ .bf16 := constant S_ .bf16 0x7F80#16
  let main_v10 : FVec F S2x512x64x64 .bf16 := broadcastInDim S2x512x64x64 ![] bcast_S_S2x512x64x64 main_cst_2
  let main_v11 : IVec S2x512x64x64 1 := cmpf .olt main_v9 main_v10
  let main_c_3 : IVec S_ 1 := constantI S_ 1 1#1
  let main_v12 : IVec S_ 1 := (fun x v => Host.reduce IntOp.andi x v reducesTo_S2x512x64x64_S_d0_1_2_3 h_S_) main_v11 main_c_3
  let main_v13 : IVec S_ 1 := andi main_v8 main_v12
  main_v13
-- ==== Kernel.lean ====
abbrev S2x256x768 : Shape := ⟨3, ![2, 256, 768]⟩
abbrev S768x512 : Shape := ⟨2, ![768, 512]⟩
abbrev S2x512x64x64 : Shape := ⟨4, ![2, 512, 64, 64]⟩
abbrev S512x768 : Shape := ⟨2, ![512, 768]⟩
abbrev S_ : Shape := ⟨0, ![]⟩
abbrev S2x512x8x64 : Shape := ⟨4, ![2, 512, 8, 64]⟩
abbrev S2x8x512x64 : Shape := ⟨4, ![2, 8, 512, 64]⟩
abbrev S8x64x768 : Shape := ⟨3, ![8, 64, 768]⟩
abbrev S512x512 : Shape := ⟨2, ![512, 512]⟩
abbrev S8x2 : Shape := ⟨2, ![8, 2]⟩
abbrev S256x64 : Shape := ⟨2, ![256, 64]⟩
abbrev S1x1x512x64 : Shape := ⟨4, ![1, 1, 512, 64]⟩
abbrev S512x64 : Shape := ⟨2, ![512, 64]⟩
abbrev S256x512 : Shape := ⟨2, ![256, 512]⟩
abbrev S256 : Shape := ⟨1, ![256]⟩
abbrev S256x1 : Shape := ⟨2, ![256, 1]⟩
abbrev S256x768 : Shape := ⟨2, ![256, 768]⟩
abbrev S4x64x768 : Shape := ⟨3, ![4, 64, 768]⟩
abbrev S1x1 : Shape := ⟨2, ![1, 1]⟩
abbrev S1x64x384 : Shape := ⟨3, ![1, 64, 384]⟩
abbrev S64x384 : Shape := ⟨2, ![64, 384]⟩
abbrev S1x64x768 : Shape := ⟨3, ![1, 64, 768]⟩
abbrev S8x64x384 : Shape := ⟨3, ![8, 64, 384]⟩

abbrev nBuf : Space → Nat
  | .hbm => 37
  | .vmem => 12
  | .smem => 0
  | _ => 0

abbrev bufTy : (tb : Table) → Fin (tcTables nBuf tb) → BufTy
  | .hbm, ⟨0, _⟩ => ⟨S2x256x768, .bf16⟩
  | .hbm, ⟨1, _⟩ => ⟨S768x512, .bf16⟩
  | .hbm, ⟨2, _⟩ => ⟨S2x512x64x64, .bf16⟩
  | .hbm, ⟨3, _⟩ => ⟨S2x512x64x64, .bf16⟩
  | .hbm, ⟨4, _⟩ => ⟨S512x768, .bf16⟩
  | .hbm, ⟨5, _⟩ => ⟨S_, .i32⟩
  | .hbm, ⟨6, _⟩ => ⟨S_, .i32⟩
  | .hbm, ⟨7, _⟩ => ⟨S_, .i32⟩
  | .hbm, ⟨8, _⟩ => ⟨S_, .i32⟩
  | .hbm, ⟨9, _⟩ => ⟨S_, .i32⟩
  | .hbm, ⟨10, _⟩ => ⟨S_, .i32⟩
  | .hbm, ⟨11, _⟩ => ⟨S_, .i32⟩
  | .hbm, ⟨12, _⟩ => ⟨S_, .i32⟩
  | .hbm, ⟨13, _⟩ => ⟨S_, .i32⟩
  | .hbm, ⟨14, _⟩ => ⟨S_, .i1⟩
  | .hbm, ⟨15, _⟩ => ⟨S_, .i32⟩
  | .hbm, ⟨16, _⟩ => ⟨S_, .i32⟩
  | .hbm, ⟨17, _⟩ => ⟨S_, .i32⟩
  | .hbm, ⟨18, _⟩ => ⟨S_, .i32⟩
  | .hbm, ⟨19, _⟩ => ⟨S_, .i32⟩
  | .hbm, ⟨20, _⟩ => ⟨S_, .i32⟩
  | .hbm, ⟨21, _⟩ => ⟨S2x512x8x64, .bf16⟩
  | .hbm, ⟨22, _⟩ => ⟨S_, .i32⟩
  | .hbm, ⟨23, _⟩ => ⟨S_, .i32⟩
  | .hbm, ⟨24, _⟩ => ⟨S_, .i32⟩
  | .hbm, ⟨25, _⟩ => ⟨S_, .i1⟩
  | .hbm, ⟨26, _⟩ => ⟨S_, .i32⟩
  | .hbm, ⟨27, _⟩ => ⟨S_, .i32⟩
  | .hbm, ⟨28, _⟩ => ⟨S_, .i32⟩
  | .hbm, ⟨29, _⟩ => ⟨S_, .i32⟩
  | .hbm, ⟨30, _⟩ => ⟨S_, .i32⟩
  | .hbm, ⟨31, _⟩ => ⟨S_, .i32⟩
  | .hbm, ⟨32, _⟩ => ⟨S2x512x8x64, .bf16⟩
  | .hbm, ⟨33, _⟩ => ⟨S2x8x512x64, .bf16⟩
  | .hbm, ⟨34, _⟩ => ⟨S2x8x512x64, .bf16⟩
  | .hbm, ⟨35, _⟩ => ⟨S8x64x768, .f32⟩
  | .hbm, ⟨36, _⟩ => ⟨S2x256x768, .f32⟩
  | .local _ .vmem, ⟨0, _⟩ => ⟨S2x256x768, .bf16⟩
  | .local _ .vmem, ⟨1, _⟩ => ⟨S768x512, .bf16⟩
  | .local _ .vmem, ⟨2, _⟩ => ⟨S2x8x512x64, .bf16⟩
  | .local _ .vmem, ⟨3, _⟩ => ⟨S2x8x512x64, .bf16⟩
  | .local _ .vmem, ⟨4, _⟩ => ⟨S512x768, .bf16⟩
  | .local _ .vmem, ⟨5, _⟩ => ⟨S8x64x768, .f32⟩
  | .local _ .vmem, ⟨6, _⟩ => ⟨S512x512, .bf16⟩
  | .local _ .vmem, ⟨7, _⟩ => ⟨S512x512, .bf16⟩
  | .local _ .vmem, ⟨8, _⟩ => ⟨S8x64x768, .bf16⟩
  | .local _ .vmem, ⟨9, _⟩ => ⟨S8x64x768, .bf16⟩
  | .local _ .vmem, ⟨10, _⟩ => ⟨S8x64x768, .bf16⟩
  | .local _ .vmem, ⟨11, _⟩ => ⟨S512x768, .bf16⟩
  | _, _ => ⟨S2x256x768, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 1 → Bool
  | ⟨0, _⟩ => false
  | _ => false

abbrev dmaSemScoped : Fin 70 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | _ => false

abbrev sig : RefSig :=
  (ofTc nBuf bufTy 1 70 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_c_0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_c_1 : Ref sig .tc := ⟨.hbm, 11, rfl⟩
abbrev main_v5 : Ref sig .tc := ⟨.hbm, 12, rfl⟩
abbrev main_c_2 : Ref sig .tc := ⟨.hbm, 13, rfl⟩
abbrev main_v6 : Ref sig .tc := ⟨.hbm, 14, rfl⟩
abbrev main_c_3 : Ref sig .tc := ⟨.hbm, 15, rfl⟩
abbrev main_v7 : Ref sig .tc := ⟨.hbm, 16, rfl⟩
abbrev main_v8 : Ref sig .tc := ⟨.hbm, 17, rfl⟩
abbrev main_c_4 : Ref sig .tc := ⟨.hbm, 18, rfl⟩
abbrev main_c_5 : Ref sig .tc := ⟨.hbm, 19, rfl⟩
abbrev main_c_6 : Ref sig .tc := ⟨.hbm, 20, rfl⟩
abbrev main_v9 : Ref sig .tc := ⟨.hbm, 21, rfl⟩
abbrev main_c_7 : Ref sig .tc := ⟨.hbm, 22, rfl⟩
abbrev main_v10 : Ref sig .tc := ⟨.hbm, 23, rfl⟩
abbrev main_c_8 : Ref sig .tc := ⟨.hbm, 24, rfl⟩
abbrev main_v11 : Ref sig .tc := ⟨.hbm, 25, rfl⟩
abbrev main_c_9 : Ref sig .tc := ⟨.hbm, 26, rfl⟩
abbrev main_v12 : Ref sig .tc := ⟨.hbm, 27, rfl⟩
abbrev main_v13 : Ref sig .tc := ⟨.hbm, 28, rfl⟩
abbrev main_c_10 : Ref sig .tc := ⟨.hbm, 29, rfl⟩
abbrev main_c_11 : Ref sig .tc := ⟨.hbm, 30, rfl⟩
abbrev main_c_12 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_scratch0 : Ref sig .tc := ⟨.vmem, 6, rfl⟩
abbrev cc0_scratch1 : Ref sig .tc := ⟨.vmem, 7, rfl⟩
abbrev cc0_scratch2 : Ref sig .tc := ⟨.vmem, 8, rfl⟩
abbrev cc0_scratch3 : Ref sig .tc := ⟨.vmem, 9, rfl⟩
abbrev cc0_scratch4 : Ref sig .tc := ⟨.vmem, 10, rfl⟩
abbrev cc0_scratch5 : Ref sig .tc := ⟨.vmem, 11, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev barrier0 : Sem sig := 0

abbrev nD : Nat := 8
abbrev τ : Topo := Topo.v7x

variable {F : FTy → Type} [FloatOps F]

abbrev grid0 : Pipeline.Grid := .none

def k0_dev1 (d0 : Dev nD) : Nat :=
  let c0_i32_9 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v4 : BitVec 32 := Scalar.addi v2 c1_i32_0
  let c0_i32 : BitVec 32 := 0#32
  let v5 : BitVec 32 := Scalar.addi v4 c0_i32
  let c8_i32_1 : BitVec 32 := 8#32
  let c0_i32_2 : BitVec 32 := 0#32
  let v6 : BitVec 1 := Scalar.cmpi .eq c8_i32_1 c0_i32_2
  let c1_i32_3 : BitVec 32 := 1#32
  let v7 : BitVec 32 := Scalar.select v6 c1_i32_3 c8_i32_1
  let v8 : BitVec 32 := Scalar.remsi v5 v7
  let c0_i32_5 : BitVec 32 := 0#32
  let v10 : BitVec 1 := Scalar.cmpi .slt v8 c0_i32_5
  let c0_i32_6 : BitVec 32 := 0#32
  let v11 : BitVec 1 := Scalar.cmpi .slt v7 c0_i32_6
  let v12 : BitVec 1 := Scalar.xori v10 v11
  let c0_i32_4 : BitVec 32 := 0#32
  let v9 : BitVec 1 := Scalar.cmpi .ne v8 c0_i32_4
  let v13 : BitVec 1 := Scalar.andi v12 v9
  let v14 : BitVec 32 := Scalar.addi v8 v7
  let v15 : BitVec 32 := Scalar.select v13 v14 v8
  let c1_i32_8 : BitVec 32 := 1#32
  let v16 : BitVec 32 := Scalar.muli v15 c1_i32_8
  let v17 : BitVec 32 := Scalar.addi c0_i32_9 v16
  v17.toNat
def k0_dev2 (d0 : Dev nD) : Nat :=
  let c0_i32_20 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_10 : BitVec 32 := 1#32
  let v18 : BitVec 32 := Scalar.addi v2 c1_i32_10
  let c1_i32_11 : BitVec 32 := 1#32
  let v19 : BitVec 32 := Scalar.addi v18 c1_i32_11
  let c8_i32_12 : BitVec 32 := 8#32
  let c0_i32_13 : BitVec 32 := 0#32
  let v20 : BitVec 1 := Scalar.cmpi .eq c8_i32_12 c0_i32_13
  let c1_i32_14 : BitVec 32 := 1#32
  let v21 : BitVec 32 := Scalar.select v20 c1_i32_14 c8_i32_12
  let v22 : BitVec 32 := Scalar.remsi v19 v21
  let c0_i32_16 : BitVec 32 := 0#32
  let v24 : BitVec 1 := Scalar.cmpi .slt v22 c0_i32_16
  let c0_i32_17 : BitVec 32 := 0#32
  let v25 : BitVec 1 := Scalar.cmpi .slt v21 c0_i32_17
  let v26 : BitVec 1 := Scalar.xori v24 v25
  let c0_i32_15 : BitVec 32 := 0#32
  let v23 : BitVec 1 := Scalar.cmpi .ne v22 c0_i32_15
  let v27 : BitVec 1 := Scalar.andi v26 v23
  let v28 : BitVec 32 := Scalar.addi v22 v21
  let v29 : BitVec 32 := Scalar.select v27 v28 v22
  let c1_i32_19 : BitVec 32 := 1#32
  let v30 : BitVec 32 := Scalar.muli v29 c1_i32_19
  let v31 : BitVec 32 := Scalar.addi c0_i32_20 v30
  v31.toNat
def k0_dev3 (d0 : Dev nD) : Nat :=
  let c0_i32_30 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_21 : BitVec 32 := 1#32
  let v32 : BitVec 32 := Scalar.addi v2 c1_i32_21
  let c2_i32 : BitVec 32 := 2#32
  let v33 : BitVec 32 := Scalar.addi v32 c2_i32
  let c8_i32_22 : BitVec 32 := 8#32
  let c0_i32_23 : BitVec 32 := 0#32
  let v34 : BitVec 1 := Scalar.cmpi .eq c8_i32_22 c0_i32_23
  let c1_i32_24 : BitVec 32 := 1#32
  let v35 : BitVec 32 := Scalar.select v34 c1_i32_24 c8_i32_22
  let v36 : BitVec 32 := Scalar.remsi v33 v35
  let c0_i32_26 : BitVec 32 := 0#32
  let v38 : BitVec 1 := Scalar.cmpi .slt v36 c0_i32_26
  let c0_i32_27 : BitVec 32 := 0#32
  let v39 : BitVec 1 := Scalar.cmpi .slt v35 c0_i32_27
  let v40 : BitVec 1 := Scalar.xori v38 v39
  let c0_i32_25 : BitVec 32 := 0#32
  let v37 : BitVec 1 := Scalar.cmpi .ne v36 c0_i32_25
  let v41 : BitVec 1 := Scalar.andi v40 v37
  let v42 : BitVec 32 := Scalar.addi v36 v35
  let v43 : BitVec 32 := Scalar.select v41 v42 v36
  let c1_i32_29 : BitVec 32 := 1#32
  let v44 : BitVec 32 := Scalar.muli v43 c1_i32_29
  let v45 : BitVec 32 := Scalar.addi c0_i32_30 v44
  v45.toNat
def k0_dev4 (d0 : Dev nD) : Nat :=
  let c0_i32_40 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_31 : BitVec 32 := 1#32
  let v46 : BitVec 32 := Scalar.addi v2 c1_i32_31
  let c3_i32 : BitVec 32 := 3#32
  let v47 : BitVec 32 := Scalar.addi v46 c3_i32
  let c8_i32_32 : BitVec 32 := 8#32
  let c0_i32_33 : BitVec 32 := 0#32
  let v48 : BitVec 1 := Scalar.cmpi .eq c8_i32_32 c0_i32_33
  let c1_i32_34 : BitVec 32 := 1#32
  let v49 : BitVec 32 := Scalar.select v48 c1_i32_34 c8_i32_32
  let v50 : BitVec 32 := Scalar.remsi v47 v49
  let c0_i32_36 : BitVec 32 := 0#32
  let v52 : BitVec 1 := Scalar.cmpi .slt v50 c0_i32_36
  let c0_i32_37 : BitVec 32 := 0#32
  let v53 : BitVec 1 := Scalar.cmpi .slt v49 c0_i32_37
  let v54 : BitVec 1 := Scalar.xori v52 v53
  let c0_i32_35 : BitVec 32 := 0#32
  let v51 : BitVec 1 := Scalar.cmpi .ne v50 c0_i32_35
  let v55 : BitVec 1 := Scalar.andi v54 v51
  let v56 : BitVec 32 := Scalar.addi v50 v49
  let v57 : BitVec 32 := Scalar.select v55 v56 v50
  let c1_i32_39 : BitVec 32 := 1#32
  let v58 : BitVec 32 := Scalar.muli v57 c1_i32_39
  let v59 : BitVec 32 := Scalar.addi c0_i32_40 v58
  v59.toNat
def k0_dev5 (d0 : Dev nD) : Nat :=
  let c0_i32_50 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_41 : BitVec 32 := 1#32
  let v60 : BitVec 32 := Scalar.addi v2 c1_i32_41
  let c4_i32 : BitVec 32 := 4#32
  let v61 : BitVec 32 := Scalar.addi v60 c4_i32
  let c8_i32_42 : BitVec 32 := 8#32
  let c0_i32_43 : BitVec 32 := 0#32
  let v62 : BitVec 1 := Scalar.cmpi .eq c8_i32_42 c0_i32_43
  let c1_i32_44 : BitVec 32 := 1#32
  let v63 : BitVec 32 := Scalar.select v62 c1_i32_44 c8_i32_42
  let v64 : BitVec 32 := Scalar.remsi v61 v63
  let c0_i32_46 : BitVec 32 := 0#32
  let v66 : BitVec 1 := Scalar.cmpi .slt v64 c0_i32_46
  let c0_i32_47 : BitVec 32 := 0#32
  let v67 : BitVec 1 := Scalar.cmpi .slt v63 c0_i32_47
  let v68 : BitVec 1 := Scalar.xori v66 v67
  let c0_i32_45 : BitVec 32 := 0#32
  let v65 : BitVec 1 := Scalar.cmpi .ne v64 c0_i32_45
  let v69 : BitVec 1 := Scalar.andi v68 v65
  let v70 : BitVec 32 := Scalar.addi v64 v63
  let v71 : BitVec 32 := Scalar.select v69 v70 v64
  let c1_i32_49 : BitVec 32 := 1#32
  let v72 : BitVec 32 := Scalar.muli v71 c1_i32_49
  let v73 : BitVec 32 := Scalar.addi c0_i32_50 v72
  v73.toNat
def k0_dev6 (d0 : Dev nD) : Nat :=
  let c0_i32_60 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_51 : BitVec 32 := 1#32
  let v74 : BitVec 32 := Scalar.addi v2 c1_i32_51
  let c5_i32 : BitVec 32 := 5#32
  let v75 : BitVec 32 := Scalar.addi v74 c5_i32
  let c8_i32_52 : BitVec 32 := 8#32
  let c0_i32_53 : BitVec 32 := 0#32
  let v76 : BitVec 1 := Scalar.cmpi .eq c8_i32_52 c0_i32_53
  let c1_i32_54 : BitVec 32 := 1#32
  let v77 : BitVec 32 := Scalar.select v76 c1_i32_54 c8_i32_52
  let v78 : BitVec 32 := Scalar.remsi v75 v77
  let c0_i32_56 : BitVec 32 := 0#32
  let v80 : BitVec 1 := Scalar.cmpi .slt v78 c0_i32_56
  let c0_i32_57 : BitVec 32 := 0#32
  let v81 : BitVec 1 := Scalar.cmpi .slt v77 c0_i32_57
  let v82 : BitVec 1 := Scalar.xori v80 v81
  let c0_i32_55 : BitVec 32 := 0#32
  let v79 : BitVec 1 := Scalar.cmpi .ne v78 c0_i32_55
  let v83 : BitVec 1 := Scalar.andi v82 v79
  let v84 : BitVec 32 := Scalar.addi v78 v77
  let v85 : BitVec 32 := Scalar.select v83 v84 v78
  let c1_i32_59 : BitVec 32 := 1#32
  let v86 : BitVec 32 := Scalar.muli v85 c1_i32_59
  let v87 : BitVec 32 := Scalar.addi c0_i32_60 v86
  v87.toNat
def k0_dev7 (d0 : Dev nD) : Nat :=
  let c0_i32_70 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_61 : BitVec 32 := 1#32
  let v88 : BitVec 32 := Scalar.addi v2 c1_i32_61
  let c6_i32 : BitVec 32 := 6#32
  let v89 : BitVec 32 := Scalar.addi v88 c6_i32
  let c8_i32_62 : BitVec 32 := 8#32
  let c0_i32_63 : BitVec 32 := 0#32
  let v90 : BitVec 1 := Scalar.cmpi .eq c8_i32_62 c0_i32_63
  let c1_i32_64 : BitVec 32 := 1#32
  let v91 : BitVec 32 := Scalar.select v90 c1_i32_64 c8_i32_62
  let v92 : BitVec 32 := Scalar.remsi v89 v91
  let c0_i32_66 : BitVec 32 := 0#32
  let v94 : BitVec 1 := Scalar.cmpi .slt v92 c0_i32_66
  let c0_i32_67 : BitVec 32 := 0#32
  let v95 : BitVec 1 := Scalar.cmpi .slt v91 c0_i32_67
  let v96 : BitVec 1 := Scalar.xori v94 v95
  let c0_i32_65 : BitVec 32 := 0#32
  let v93 : BitVec 1 := Scalar.cmpi .ne v92 c0_i32_65
  let v97 : BitVec 1 := Scalar.andi v96 v93
  let v98 : BitVec 32 := Scalar.addi v92 v91
  let v99 : BitVec 32 := Scalar.select v97 v98 v92
  let c1_i32_69 : BitVec 32 := 1#32
  let v100 : BitVec 32 := Scalar.muli v99 c1_i32_69
  let v101 : BitVec 32 := Scalar.addi c0_i32_70 v100
  v101.toNat
def k0_cond1 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_203 : BitVec 32 := 0#32
  let v277 : BitVec 1 := Scalar.cmpi .ne v2 c0_i32_203
  let v278 : BitVec 32 := Scalar.extui v277
  let c0_i32_204 : BitVec 32 := 0#32
  let v279 : BitVec 1 := Scalar.cmpi .ne v278 c0_i32_204
  v279

def k0_off1 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_490 : BitVec 32 := 0#32
  ![v2.toNat, 0]
def k0_off2 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_496 : BitVec 32 := 0#32
  let c0_i32_497 : BitVec 32 := 0#32
  ![v2.toNat, 0, 0]
def k0_dev8 : Nat :=
  let c0_i32_495 : BitVec 32 := 0#32
  let c0_i32_493 : BitVec 32 := 0#32
  let c1_i32_494 : BitVec 32 := 1#32
  let v656 : BitVec 32 := Scalar.muli c0_i32_493 c1_i32_494
  let v657 : BitVec 32 := Scalar.addi c0_i32_495 v656
  v657.toNat
def k0_off3 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_501 : BitVec 32 := 1#32
  ![v2.toNat, 1]
def k0_off4 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_507 : BitVec 32 := 0#32
  let c384_i32 : BitVec 32 := 384#32
  ![v2.toNat, 0, 384]
def k0_dev9 : Nat :=
  let c0_i32_506 : BitVec 32 := 0#32
  let c0_i32_504 : BitVec 32 := 0#32
  let c1_i32_505 : BitVec 32 := 1#32
  let v666 : BitVec 32 := Scalar.muli c0_i32_504 c1_i32_505
  let v667 : BitVec 32 := Scalar.addi c0_i32_506 v666
  v667.toNat
def k0_cond2 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_205 : BitVec 32 := 1#32
  let v280 : BitVec 1 := Scalar.cmpi .ne v2 c1_i32_205
  let v281 : BitVec 32 := Scalar.extui v280
  let c0_i32_206 : BitVec 32 := 0#32
  let v282 : BitVec 1 := Scalar.cmpi .ne v281 c0_i32_206
  v282

def k0_off5 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_490 : BitVec 32 := 0#32
  ![v2.toNat, 0]
def k0_off6 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_496 : BitVec 32 := 0#32
  let c0_i32_497 : BitVec 32 := 0#32
  ![v2.toNat, 0, 0]
def k0_dev10 : Nat :=
  let c0_i32_495 : BitVec 32 := 0#32
  let c1_i32_493 : BitVec 32 := 1#32
  let c1_i32_494 : BitVec 32 := 1#32
  let v656 : BitVec 32 := Scalar.muli c1_i32_493 c1_i32_494
  let v657 : BitVec 32 := Scalar.addi c0_i32_495 v656
  v657.toNat
def k0_off7 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_501 : BitVec 32 := 1#32
  ![v2.toNat, 1]
def k0_off8 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_507 : BitVec 32 := 0#32
  let c384_i32 : BitVec 32 := 384#32
  ![v2.toNat, 0, 384]
def k0_dev11 : Nat :=
  let c0_i32_506 : BitVec 32 := 0#32
  let c1_i32_504 : BitVec 32 := 1#32
  let c1_i32_505 : BitVec 32 := 1#32
  let v666 : BitVec 32 := Scalar.muli c1_i32_504 c1_i32_505
  let v667 : BitVec 32 := Scalar.addi c0_i32_506 v666
  v667.toNat
def k0_cond3 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_207 : BitVec 32 := 2#32
  let v283 : BitVec 1 := Scalar.cmpi .ne v2 c2_i32_207
  let v284 : BitVec 32 := Scalar.extui v283
  let c0_i32_208 : BitVec 32 := 0#32
  let v285 : BitVec 1 := Scalar.cmpi .ne v284 c0_i32_208
  v285

def k0_off9 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_490 : BitVec 32 := 0#32
  ![v2.toNat, 0]
def k0_off10 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_496 : BitVec 32 := 0#32
  let c0_i32_497 : BitVec 32 := 0#32
  ![v2.toNat, 0, 0]
def k0_dev12 : Nat :=
  let c0_i32_495 : BitVec 32 := 0#32
  let c2_i32_493 : BitVec 32 := 2#32
  let c1_i32_494 : BitVec 32 := 1#32
  let v656 : BitVec 32 := Scalar.muli c2_i32_493 c1_i32_494
  let v657 : BitVec 32 := Scalar.addi c0_i32_495 v656
  v657.toNat
def k0_off11 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_501 : BitVec 32 := 1#32
  ![v2.toNat, 1]
def k0_off12 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_507 : BitVec 32 := 0#32
  let c384_i32 : BitVec 32 := 384#32
  ![v2.toNat, 0, 384]
def k0_dev13 : Nat :=
  let c0_i32_506 : BitVec 32 := 0#32
  let c2_i32_504 : BitVec 32 := 2#32
  let c1_i32_505 : BitVec 32 := 1#32
  let v666 : BitVec 32 := Scalar.muli c2_i32_504 c1_i32_505
  let v667 : BitVec 32 := Scalar.addi c0_i32_506 v666
  v667.toNat
def k0_cond4 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_209 : BitVec 32 := 3#32
  let v286 : BitVec 1 := Scalar.cmpi .ne v2 c3_i32_209
  let v287 : BitVec 32 := Scalar.extui v286
  let c0_i32_210 : BitVec 32 := 0#32
  let v288 : BitVec 1 := Scalar.cmpi .ne v287 c0_i32_210
  v288

def k0_off13 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_490 : BitVec 32 := 0#32
  ![v2.toNat, 0]
def k0_off14 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_496 : BitVec 32 := 0#32
  let c0_i32_497 : BitVec 32 := 0#32
  ![v2.toNat, 0, 0]
def k0_dev14 : Nat :=
  let c0_i32_495 : BitVec 32 := 0#32
  let c3_i32_493 : BitVec 32 := 3#32
  let c1_i32_494 : BitVec 32 := 1#32
  let v656 : BitVec 32 := Scalar.muli c3_i32_493 c1_i32_494
  let v657 : BitVec 32 := Scalar.addi c0_i32_495 v656
  v657.toNat
def k0_off15 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_501 : BitVec 32 := 1#32
  ![v2.toNat, 1]
def k0_off16 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_507 : BitVec 32 := 0#32
  let c384_i32 : BitVec 32 := 384#32
  ![v2.toNat, 0, 384]
def k0_dev15 : Nat :=
  let c0_i32_506 : BitVec 32 := 0#32
  let c3_i32_504 : BitVec 32 := 3#32
  let c1_i32_505 : BitVec 32 := 1#32
  let v666 : BitVec 32 := Scalar.muli c3_i32_504 c1_i32_505
  let v667 : BitVec 32 := Scalar.addi c0_i32_506 v666
  v667.toNat
def k0_cond5 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_347 : BitVec 32 := 4#32
  let v449 : BitVec 1 := Scalar.cmpi .ne v2 c4_i32_347
  let v450 : BitVec 32 := Scalar.extui v449
  let c0_i32_348 : BitVec 32 := 0#32
  let v451 : BitVec 1 := Scalar.cmpi .ne v450 c0_i32_348
  v451

def k0_off17 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_490 : BitVec 32 := 0#32
  ![v2.toNat, 0]
def k0_off18 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_496 : BitVec 32 := 0#32
  let c0_i32_497 : BitVec 32 := 0#32
  ![v2.toNat, 0, 0]
def k0_dev16 : Nat :=
  let c0_i32_495 : BitVec 32 := 0#32
  let c4_i32_493 : BitVec 32 := 4#32
  let c1_i32_494 : BitVec 32 := 1#32
  let v656 : BitVec 32 := Scalar.muli c4_i32_493 c1_i32_494
  let v657 : BitVec 32 := Scalar.addi c0_i32_495 v656
  v657.toNat
def k0_off19 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_501 : BitVec 32 := 1#32
  ![v2.toNat, 1]
def k0_off20 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_507 : BitVec 32 := 0#32
  let c384_i32 : BitVec 32 := 384#32
  ![v2.toNat, 0, 384]
def k0_dev17 : Nat :=
  let c0_i32_506 : BitVec 32 := 0#32
  let c4_i32_504 : BitVec 32 := 4#32
  let c1_i32_505 : BitVec 32 := 1#32
  let v666 : BitVec 32 := Scalar.muli c4_i32_504 c1_i32_505
  let v667 : BitVec 32 := Scalar.addi c0_i32_506 v666
  v667.toNat
def k0_cond6 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_349 : BitVec 32 := 5#32
  let v452 : BitVec 1 := Scalar.cmpi .ne v2 c5_i32_349
  let v453 : BitVec 32 := Scalar.extui v452
  let c0_i32_350 : BitVec 32 := 0#32
  let v454 : BitVec 1 := Scalar.cmpi .ne v453 c0_i32_350
  v454

def k0_off21 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_490 : BitVec 32 := 0#32
  ![v2.toNat, 0]
def k0_off22 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_496 : BitVec 32 := 0#32
  let c0_i32_497 : BitVec 32 := 0#32
  ![v2.toNat, 0, 0]
def k0_dev18 : Nat :=
  let c0_i32_495 : BitVec 32 := 0#32
  let c5_i32_493 : BitVec 32 := 5#32
  let c1_i32_494 : BitVec 32 := 1#32
  let v656 : BitVec 32 := Scalar.muli c5_i32_493 c1_i32_494
  let v657 : BitVec 32 := Scalar.addi c0_i32_495 v656
  v657.toNat
def k0_off23 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_501 : BitVec 32 := 1#32
  ![v2.toNat, 1]
def k0_off24 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_507 : BitVec 32 := 0#32
  let c384_i32 : BitVec 32 := 384#32
  ![v2.toNat, 0, 384]
def k0_dev19 : Nat :=
  let c0_i32_506 : BitVec 32 := 0#32
  let c5_i32_504 : BitVec 32 := 5#32
  let c1_i32_505 : BitVec 32 := 1#32
  let v666 : BitVec 32 := Scalar.muli c5_i32_504 c1_i32_505
  let v667 : BitVec 32 := Scalar.addi c0_i32_506 v666
  v667.toNat
def k0_cond7 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_351 : BitVec 32 := 6#32
  let v455 : BitVec 1 := Scalar.cmpi .ne v2 c6_i32_351
  let v456 : BitVec 32 := Scalar.extui v455
  let c0_i32_352 : BitVec 32 := 0#32
  let v457 : BitVec 1 := Scalar.cmpi .ne v456 c0_i32_352
  v457

def k0_off25 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_490 : BitVec 32 := 0#32
  ![v2.toNat, 0]
def k0_off26 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_496 : BitVec 32 := 0#32
  let c0_i32_497 : BitVec 32 := 0#32
  ![v2.toNat, 0, 0]
def k0_dev20 : Nat :=
  let c0_i32_495 : BitVec 32 := 0#32
  let c6_i32_493 : BitVec 32 := 6#32
  let c1_i32_494 : BitVec 32 := 1#32
  let v656 : BitVec 32 := Scalar.muli c6_i32_493 c1_i32_494
  let v657 : BitVec 32 := Scalar.addi c0_i32_495 v656
  v657.toNat
def k0_off27 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_501 : BitVec 32 := 1#32
  ![v2.toNat, 1]
def k0_off28 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_507 : BitVec 32 := 0#32
  let c384_i32 : BitVec 32 := 384#32
  ![v2.toNat, 0, 384]
def k0_dev21 : Nat :=
  let c0_i32_506 : BitVec 32 := 0#32
  let c6_i32_504 : BitVec 32 := 6#32
  let c1_i32_505 : BitVec 32 := 1#32
  let v666 : BitVec 32 := Scalar.muli c6_i32_504 c1_i32_505
  let v667 : BitVec 32 := Scalar.addi c0_i32_506 v666
  v667.toNat
def k0_cond8 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_353 : BitVec 32 := 7#32
  let v458 : BitVec 1 := Scalar.cmpi .ne v2 c7_i32_353
  let v459 : BitVec 32 := Scalar.extui v458
  let c0_i32_354 : BitVec 32 := 0#32
  let v460 : BitVec 1 := Scalar.cmpi .ne v459 c0_i32_354
  v460

def k0_off29 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_490 : BitVec 32 := 0#32
  ![v2.toNat, 0]
def k0_off30 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_496 : BitVec 32 := 0#32
  let c0_i32_497 : BitVec 32 := 0#32
  ![v2.toNat, 0, 0]
def k0_dev22 : Nat :=
  let c0_i32_495 : BitVec 32 := 0#32
  let c7_i32_493 : BitVec 32 := 7#32
  let c1_i32_494 : BitVec 32 := 1#32
  let v656 : BitVec 32 := Scalar.muli c7_i32_493 c1_i32_494
  let v657 : BitVec 32 := Scalar.addi c0_i32_495 v656
  v657.toNat
def k0_off31 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_501 : BitVec 32 := 1#32
  ![v2.toNat, 1]
def k0_off32 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_507 : BitVec 32 := 0#32
  let c384_i32 : BitVec 32 := 384#32
  ![v2.toNat, 0, 384]
def k0_dev23 : Nat :=
  let c0_i32_506 : BitVec 32 := 0#32
  let c7_i32_504 : BitVec 32 := 7#32
  let c1_i32_505 : BitVec 32 := 1#32
  let v666 : BitVec 32 := Scalar.muli c7_i32_504 c1_i32_505
  let v667 : BitVec 32 := Scalar.addi c0_i32_506 v666
  v667.toNat
def k0_off33 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v461 : Index := Scalar.indexCast v2
  let c0_355 : Index := 0#32
  let c0_356 : Index := 0#32
  ![v461.toNat, 0, 0]
def k0_off34 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v496 : Index := Scalar.indexCast v2
  let c0_379 : Index := 0#32
  let c0_380 : Index := 0#32
  ![v496.toNat, 0, 0]
def k0_cond17 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_381 : BitVec 32 := 0#32
  let v500 : BitVec 1 := Scalar.cmpi .ne v2 c0_i32_381
  let v501 : BitVec 32 := Scalar.extui v500
  let c0_i32_382 : BitVec 32 := 0#32
  let v502 : BitVec 1 := Scalar.cmpi .ne v501 c0_i32_382
  v502

def k0_off35 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_489 : BitVec 32 := 0#32
  ![v2.toNat, 0]
def k0_off36 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_495 : BitVec 32 := 0#32
  let c0_i32_496 : BitVec 32 := 0#32
  ![v2.toNat, 0, 0]
def k0_dev24 : Nat :=
  let c0_i32_494 : BitVec 32 := 0#32
  let c0_i32_492 : BitVec 32 := 0#32
  let c1_i32_493 : BitVec 32 := 1#32
  let v656 : BitVec 32 := Scalar.muli c0_i32_492 c1_i32_493
  let v657 : BitVec 32 := Scalar.addi c0_i32_494 v656
  v657.toNat
def k0_cond18 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_383 : BitVec 32 := 1#32
  let v503 : BitVec 1 := Scalar.cmpi .ne v2 c1_i32_383
  let v504 : BitVec 32 := Scalar.extui v503
  let c0_i32_384 : BitVec 32 := 0#32
  let v505 : BitVec 1 := Scalar.cmpi .ne v504 c0_i32_384
  v505

def k0_off37 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_489 : BitVec 32 := 0#32
  ![v2.toNat, 0]
def k0_off38 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_495 : BitVec 32 := 0#32
  let c0_i32_496 : BitVec 32 := 0#32
  ![v2.toNat, 0, 0]
def k0_dev25 : Nat :=
  let c0_i32_494 : BitVec 32 := 0#32
  let c1_i32_492 : BitVec 32 := 1#32
  let c1_i32_493 : BitVec 32 := 1#32
  let v656 : BitVec 32 := Scalar.muli c1_i32_492 c1_i32_493
  let v657 : BitVec 32 := Scalar.addi c0_i32_494 v656
  v657.toNat
def k0_cond19 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_385 : BitVec 32 := 2#32
  let v506 : BitVec 1 := Scalar.cmpi .ne v2 c2_i32_385
  let v507 : BitVec 32 := Scalar.extui v506
  let c0_i32_386 : BitVec 32 := 0#32
  let v508 : BitVec 1 := Scalar.cmpi .ne v507 c0_i32_386
  v508

def k0_off39 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_489 : BitVec 32 := 0#32
  ![v2.toNat, 0]
def k0_off40 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_495 : BitVec 32 := 0#32
  let c0_i32_496 : BitVec 32 := 0#32
  ![v2.toNat, 0, 0]
def k0_dev26 : Nat :=
  let c0_i32_494 : BitVec 32 := 0#32
  let c2_i32_492 : BitVec 32 := 2#32
  let c1_i32_493 : BitVec 32 := 1#32
  let v656 : BitVec 32 := Scalar.muli c2_i32_492 c1_i32_493
  let v657 : BitVec 32 := Scalar.addi c0_i32_494 v656
  v657.toNat
def k0_cond20 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_387 : BitVec 32 := 3#32
  let v509 : BitVec 1 := Scalar.cmpi .ne v2 c3_i32_387
  let v510 : BitVec 32 := Scalar.extui v509
  let c0_i32_388 : BitVec 32 := 0#32
  let v511 : BitVec 1 := Scalar.cmpi .ne v510 c0_i32_388
  v511

def k0_off41 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_489 : BitVec 32 := 0#32
  ![v2.toNat, 0]
def k0_off42 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_495 : BitVec 32 := 0#32
  let c0_i32_496 : BitVec 32 := 0#32
  ![v2.toNat, 0, 0]
def k0_dev27 : Nat :=
  let c0_i32_494 : BitVec 32 := 0#32
  let c3_i32_492 : BitVec 32 := 3#32
  let c1_i32_493 : BitVec 32 := 1#32
  let v656 : BitVec 32 := Scalar.muli c3_i32_492 c1_i32_493
  let v657 : BitVec 32 := Scalar.addi c0_i32_494 v656
  v657.toNat
def k0_cond21 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_389 : BitVec 32 := 4#32
  let v512 : BitVec 1 := Scalar.cmpi .ne v2 c4_i32_389
  let v513 : BitVec 32 := Scalar.extui v512
  let c0_i32_390 : BitVec 32 := 0#32
  let v514 : BitVec 1 := Scalar.cmpi .ne v513 c0_i32_390
  v514

def k0_off43 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_489 : BitVec 32 := 0#32
  ![v2.toNat, 0]
def k0_off44 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_495 : BitVec 32 := 0#32
  let c0_i32_496 : BitVec 32 := 0#32
  ![v2.toNat, 0, 0]
def k0_dev28 : Nat :=
  let c0_i32_494 : BitVec 32 := 0#32
  let c4_i32_492 : BitVec 32 := 4#32
  let c1_i32_493 : BitVec 32 := 1#32
  let v656 : BitVec 32 := Scalar.muli c4_i32_492 c1_i32_493
  let v657 : BitVec 32 := Scalar.addi c0_i32_494 v656
  v657.toNat
def k0_cond22 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_391 : BitVec 32 := 5#32
  let v515 : BitVec 1 := Scalar.cmpi .ne v2 c5_i32_391
  let v516 : BitVec 32 := Scalar.extui v515
  let c0_i32_392 : BitVec 32 := 0#32
  let v517 : BitVec 1 := Scalar.cmpi .ne v516 c0_i32_392
  v517

def k0_off45 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_489 : BitVec 32 := 0#32
  ![v2.toNat, 0]
def k0_off46 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_495 : BitVec 32 := 0#32
  let c0_i32_496 : BitVec 32 := 0#32
  ![v2.toNat, 0, 0]
def k0_dev29 : Nat :=
  let c0_i32_494 : BitVec 32 := 0#32
  let c5_i32_492 : BitVec 32 := 5#32
  let c1_i32_493 : BitVec 32 := 1#32
  let v656 : BitVec 32 := Scalar.muli c5_i32_492 c1_i32_493
  let v657 : BitVec 32 := Scalar.addi c0_i32_494 v656
  v657.toNat
def k0_cond23 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_393 : BitVec 32 := 6#32
  let v518 : BitVec 1 := Scalar.cmpi .ne v2 c6_i32_393
  let v519 : BitVec 32 := Scalar.extui v518
  let c0_i32_394 : BitVec 32 := 0#32
  let v520 : BitVec 1 := Scalar.cmpi .ne v519 c0_i32_394
  v520

def k0_off47 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_489 : BitVec 32 := 0#32
  ![v2.toNat, 0]
def k0_off48 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_495 : BitVec 32 := 0#32
  let c0_i32_496 : BitVec 32 := 0#32
  ![v2.toNat, 0, 0]
def k0_dev30 : Nat :=
  let c0_i32_494 : BitVec 32 := 0#32
  let c6_i32_492 : BitVec 32 := 6#32
  let c1_i32_493 : BitVec 32 := 1#32
  let v656 : BitVec 32 := Scalar.muli c6_i32_492 c1_i32_493
  let v657 : BitVec 32 := Scalar.addi c0_i32_494 v656
  v657.toNat
def k0_cond24 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_395 : BitVec 32 := 7#32
  let v521 : BitVec 1 := Scalar.cmpi .ne v2 c7_i32_395
  let v522 : BitVec 32 := Scalar.extui v521
  let c0_i32_396 : BitVec 32 := 0#32
  let v523 : BitVec 1 := Scalar.cmpi .ne v522 c0_i32_396
  v523

def k0_off49 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_489 : BitVec 32 := 0#32
  ![v2.toNat, 0]
def k0_off50 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_495 : BitVec 32 := 0#32
  let c0_i32_496 : BitVec 32 := 0#32
  ![v2.toNat, 0, 0]
def k0_dev31 : Nat :=
  let c0_i32_494 : BitVec 32 := 0#32
  let c7_i32_492 : BitVec 32 := 7#32
  let c1_i32_493 : BitVec 32 := 1#32
  let v656 : BitVec 32 := Scalar.muli c7_i32_492 c1_i32_493
  let v657 : BitVec 32 := Scalar.addi c0_i32_494 v656
  v657.toNat
def k0_off51 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v553 : Index := Scalar.indexCast v2
  let c0_417 : Index := 0#32
  let c384_418 : Index := 384#32
  ![v553.toNat, 0, 384]
def k0_cond33 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_419 : BitVec 32 := 0#32
  let v557 : BitVec 1 := Scalar.cmpi .ne v2 c0_i32_419
  let v558 : BitVec 32 := Scalar.extui v557
  let c0_i32_420 : BitVec 32 := 0#32
  let v559 : BitVec 1 := Scalar.cmpi .ne v558 c0_i32_420
  v559

def k0_off52 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_489 : BitVec 32 := 1#32
  ![v2.toNat, 1]
def k0_off53 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_495 : BitVec 32 := 0#32
  let c384_i32 : BitVec 32 := 384#32
  ![v2.toNat, 0, 384]
def k0_dev32 : Nat :=
  let c0_i32_494 : BitVec 32 := 0#32
  let c0_i32_492 : BitVec 32 := 0#32
  let c1_i32_493 : BitVec 32 := 1#32
  let v656 : BitVec 32 := Scalar.muli c0_i32_492 c1_i32_493
  let v657 : BitVec 32 := Scalar.addi c0_i32_494 v656
  v657.toNat
def k0_cond34 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_421 : BitVec 32 := 1#32
  let v560 : BitVec 1 := Scalar.cmpi .ne v2 c1_i32_421
  let v561 : BitVec 32 := Scalar.extui v560
  let c0_i32_422 : BitVec 32 := 0#32
  let v562 : BitVec 1 := Scalar.cmpi .ne v561 c0_i32_422
  v562

def k0_off54 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_489 : BitVec 32 := 1#32
  ![v2.toNat, 1]
def k0_off55 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_495 : BitVec 32 := 0#32
  let c384_i32 : BitVec 32 := 384#32
  ![v2.toNat, 0, 384]
def k0_dev33 : Nat :=
  let c0_i32_494 : BitVec 32 := 0#32
  let c1_i32_492 : BitVec 32 := 1#32
  let c1_i32_493 : BitVec 32 := 1#32
  let v656 : BitVec 32 := Scalar.muli c1_i32_492 c1_i32_493
  let v657 : BitVec 32 := Scalar.addi c0_i32_494 v656
  v657.toNat
def k0_cond35 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_423 : BitVec 32 := 2#32
  let v563 : BitVec 1 := Scalar.cmpi .ne v2 c2_i32_423
  let v564 : BitVec 32 := Scalar.extui v563
  let c0_i32_424 : BitVec 32 := 0#32
  let v565 : BitVec 1 := Scalar.cmpi .ne v564 c0_i32_424
  v565

def k0_off56 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_489 : BitVec 32 := 1#32
  ![v2.toNat, 1]
def k0_off57 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_495 : BitVec 32 := 0#32
  let c384_i32 : BitVec 32 := 384#32
  ![v2.toNat, 0, 384]
def k0_dev34 : Nat :=
  let c0_i32_494 : BitVec 32 := 0#32
  let c2_i32_492 : BitVec 32 := 2#32
  let c1_i32_493 : BitVec 32 := 1#32
  let v656 : BitVec 32 := Scalar.muli c2_i32_492 c1_i32_493
  let v657 : BitVec 32 := Scalar.addi c0_i32_494 v656
  v657.toNat
def k0_cond36 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_425 : BitVec 32 := 3#32
  let v566 : BitVec 1 := Scalar.cmpi .ne v2 c3_i32_425
  let v567 : BitVec 32 := Scalar.extui v566
  let c0_i32_426 : BitVec 32 := 0#32
  let v568 : BitVec 1 := Scalar.cmpi .ne v567 c0_i32_426
  v568

def k0_off58 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_489 : BitVec 32 := 1#32
  ![v2.toNat, 1]
def k0_off59 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_495 : BitVec 32 := 0#32
  let c384_i32 : BitVec 32 := 384#32
  ![v2.toNat, 0, 384]
def k0_dev35 : Nat :=
  let c0_i32_494 : BitVec 32 := 0#32
  let c3_i32_492 : BitVec 32 := 3#32
  let c1_i32_493 : BitVec 32 := 1#32
  let v656 : BitVec 32 := Scalar.muli c3_i32_492 c1_i32_493
  let v657 : BitVec 32 := Scalar.addi c0_i32_494 v656
  v657.toNat
def k0_cond37 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_427 : BitVec 32 := 4#32
  let v569 : BitVec 1 := Scalar.cmpi .ne v2 c4_i32_427
  let v570 : BitVec 32 := Scalar.extui v569
  let c0_i32_428 : BitVec 32 := 0#32
  let v571 : BitVec 1 := Scalar.cmpi .ne v570 c0_i32_428
  v571

def k0_off60 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_489 : BitVec 32 := 1#32
  ![v2.toNat, 1]
def k0_off61 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_495 : BitVec 32 := 0#32
  let c384_i32 : BitVec 32 := 384#32
  ![v2.toNat, 0, 384]
def k0_dev36 : Nat :=
  let c0_i32_494 : BitVec 32 := 0#32
  let c4_i32_492 : BitVec 32 := 4#32
  let c1_i32_493 : BitVec 32 := 1#32
  let v656 : BitVec 32 := Scalar.muli c4_i32_492 c1_i32_493
  let v657 : BitVec 32 := Scalar.addi c0_i32_494 v656
  v657.toNat
def k0_cond38 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_429 : BitVec 32 := 5#32
  let v572 : BitVec 1 := Scalar.cmpi .ne v2 c5_i32_429
  let v573 : BitVec 32 := Scalar.extui v572
  let c0_i32_430 : BitVec 32 := 0#32
  let v574 : BitVec 1 := Scalar.cmpi .ne v573 c0_i32_430
  v574

def k0_off62 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_489 : BitVec 32 := 1#32
  ![v2.toNat, 1]
def k0_off63 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_495 : BitVec 32 := 0#32
  let c384_i32 : BitVec 32 := 384#32
  ![v2.toNat, 0, 384]
def k0_dev37 : Nat :=
  let c0_i32_494 : BitVec 32 := 0#32
  let c5_i32_492 : BitVec 32 := 5#32
  let c1_i32_493 : BitVec 32 := 1#32
  let v656 : BitVec 32 := Scalar.muli c5_i32_492 c1_i32_493
  let v657 : BitVec 32 := Scalar.addi c0_i32_494 v656
  v657.toNat
def k0_cond39 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_431 : BitVec 32 := 6#32
  let v575 : BitVec 1 := Scalar.cmpi .ne v2 c6_i32_431
  let v576 : BitVec 32 := Scalar.extui v575
  let c0_i32_432 : BitVec 32 := 0#32
  let v577 : BitVec 1 := Scalar.cmpi .ne v576 c0_i32_432
  v577

def k0_off64 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_489 : BitVec 32 := 1#32
  ![v2.toNat, 1]
def k0_off65 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_495 : BitVec 32 := 0#32
  let c384_i32 : BitVec 32 := 384#32
  ![v2.toNat, 0, 384]
def k0_dev38 : Nat :=
  let c0_i32_494 : BitVec 32 := 0#32
  let c6_i32_492 : BitVec 32 := 6#32
  let c1_i32_493 : BitVec 32 := 1#32
  let v656 : BitVec 32 := Scalar.muli c6_i32_492 c1_i32_493
  let v657 : BitVec 32 := Scalar.addi c0_i32_494 v656
  v657.toNat
def k0_cond40 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_433 : BitVec 32 := 7#32
  let v578 : BitVec 1 := Scalar.cmpi .ne v2 c7_i32_433
  let v579 : BitVec 32 := Scalar.extui v578
  let c0_i32_434 : BitVec 32 := 0#32
  let v580 : BitVec 1 := Scalar.cmpi .ne v579 c0_i32_434
  v580

def k0_off66 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_489 : BitVec 32 := 1#32
  ![v2.toNat, 1]
def k0_off67 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_495 : BitVec 32 := 0#32
  let c384_i32 : BitVec 32 := 384#32
  ![v2.toNat, 0, 384]
def k0_dev39 : Nat :=
  let c0_i32_494 : BitVec 32 := 0#32
  let c7_i32_492 : BitVec 32 := 7#32
  let c1_i32_493 : BitVec 32 := 1#32
  let v656 : BitVec 32 := Scalar.muli c7_i32_492 c1_i32_493
  let v657 : BitVec 32 := Scalar.addi c0_i32_494 v656
  v657.toNat
def k0_cond57 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_473 : BitVec 32 := 0#32
  let v632 : BitVec 1 := Scalar.cmpi .ne v2 c0_i32_473
  let v633 : BitVec 32 := Scalar.extui v632
  let c0_i32_474 : BitVec 32 := 0#32
  let v634 : BitVec 1 := Scalar.cmpi .ne v633 c0_i32_474
  v634

def k0_off68 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_495 : BitVec 32 := 0#32
  let c0_i32_496 : BitVec 32 := 0#32
  ![v2.toNat, 0, 0]
def k0_off69 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_505 : BitVec 32 := 0#32
  let c384_i32 : BitVec 32 := 384#32
  ![v2.toNat, 0, 384]
def k0_cond58 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_475 : BitVec 32 := 1#32
  let v635 : BitVec 1 := Scalar.cmpi .ne v2 c1_i32_475
  let v636 : BitVec 32 := Scalar.extui v635
  let c0_i32_476 : BitVec 32 := 0#32
  let v637 : BitVec 1 := Scalar.cmpi .ne v636 c0_i32_476
  v637

def k0_off70 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_495 : BitVec 32 := 0#32
  let c0_i32_496 : BitVec 32 := 0#32
  ![v2.toNat, 0, 0]
def k0_off71 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_505 : BitVec 32 := 0#32
  let c384_i32 : BitVec 32 := 384#32
  ![v2.toNat, 0, 384]
def k0_cond59 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_477 : BitVec 32 := 2#32
  let v638 : BitVec 1 := Scalar.cmpi .ne v2 c2_i32_477
  let v639 : BitVec 32 := Scalar.extui v638
  let c0_i32_478 : BitVec 32 := 0#32
  let v640 : BitVec 1 := Scalar.cmpi .ne v639 c0_i32_478
  v640

def k0_off72 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_495 : BitVec 32 := 0#32
  let c0_i32_496 : BitVec 32 := 0#32
  ![v2.toNat, 0, 0]
def k0_off73 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_505 : BitVec 32 := 0#32
  let c384_i32 : BitVec 32 := 384#32
  ![v2.toNat, 0, 384]
def k0_cond60 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_479 : BitVec 32 := 3#32
  let v641 : BitVec 1 := Scalar.cmpi .ne v2 c3_i32_479
  let v642 : BitVec 32 := Scalar.extui v641
  let c0_i32_480 : BitVec 32 := 0#32
  let v643 : BitVec 1 := Scalar.cmpi .ne v642 c0_i32_480
  v643

def k0_off74 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_495 : BitVec 32 := 0#32
  let c0_i32_496 : BitVec 32 := 0#32
  ![v2.toNat, 0, 0]
def k0_off75 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_505 : BitVec 32 := 0#32
  let c384_i32 : BitVec 32 := 384#32
  ![v2.toNat, 0, 384]
def k0_cond61 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_481 : BitVec 32 := 4#32
  let v644 : BitVec 1 := Scalar.cmpi .ne v2 c4_i32_481
  let v645 : BitVec 32 := Scalar.extui v644
  let c0_i32_482 : BitVec 32 := 0#32
  let v646 : BitVec 1 := Scalar.cmpi .ne v645 c0_i32_482
  v646

def k0_off76 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_495 : BitVec 32 := 0#32
  let c0_i32_496 : BitVec 32 := 0#32
  ![v2.toNat, 0, 0]
def k0_off77 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_505 : BitVec 32 := 0#32
  let c384_i32 : BitVec 32 := 384#32
  ![v2.toNat, 0, 384]
def k0_cond62 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_483 : BitVec 32 := 5#32
  let v647 : BitVec 1 := Scalar.cmpi .ne v2 c5_i32_483
  let v648 : BitVec 32 := Scalar.extui v647
  let c0_i32_484 : BitVec 32 := 0#32
  let v649 : BitVec 1 := Scalar.cmpi .ne v648 c0_i32_484
  v649

def k0_off78 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_495 : BitVec 32 := 0#32
  let c0_i32_496 : BitVec 32 := 0#32
  ![v2.toNat, 0, 0]
def k0_off79 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_505 : BitVec 32 := 0#32
  let c384_i32 : BitVec 32 := 384#32
  ![v2.toNat, 0, 384]
def k0_cond63 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_485 : BitVec 32 := 6#32
  let v650 : BitVec 1 := Scalar.cmpi .ne v2 c6_i32_485
  let v651 : BitVec 32 := Scalar.extui v650
  let c0_i32_486 : BitVec 32 := 0#32
  let v652 : BitVec 1 := Scalar.cmpi .ne v651 c0_i32_486
  v652

def k0_off80 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_495 : BitVec 32 := 0#32
  let c0_i32_496 : BitVec 32 := 0#32
  ![v2.toNat, 0, 0]
def k0_off81 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_505 : BitVec 32 := 0#32
  let c384_i32 : BitVec 32 := 384#32
  ![v2.toNat, 0, 384]
def k0_cond64 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_487 : BitVec 32 := 7#32
  let v653 : BitVec 1 := Scalar.cmpi .ne v2 c7_i32_487
  let v654 : BitVec 32 := Scalar.extui v653
  let c0_i32_488 : BitVec 32 := 0#32
  let v655 : BitVec 1 := Scalar.cmpi .ne v654 c0_i32_488
  v655

def k0_off82 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_495 : BitVec 32 := 0#32
  let c0_i32_496 : BitVec 32 := 0#32
  ![v2.toNat, 0, 0]
def k0_off83 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_505 : BitVec 32 := 0#32
  let c384_i32 : BitVec 32 := 384#32
  ![v2.toNat, 0, 384]
abbrev stage0_0 : Fin 1 → Memref sig .tc .vmem S2x256x768 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S768x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2x8x512x64 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2x8x512x64 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S512x768 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S8x64x768 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== ReferenceIdeal.lean ====
abbrev S2x256x768 : Shape := ⟨3, ![2, 256, 768]⟩
abbrev S768x4096 : Shape := ⟨2, ![768, 4096]⟩
abbrev S2x512x64x64 : Shape := ⟨4, ![2, 512, 64, 64]⟩
abbrev S4096x768 : Shape := ⟨2, ![4096, 768]⟩
abbrev S512x768 : Shape := ⟨2, ![512, 768]⟩
abbrev S512x4096 : Shape := ⟨2, ![512, 4096]⟩
abbrev S2x256x64x64 : Shape := ⟨4, ![2, 256, 64, 64]⟩
abbrev S2x64x256x512 : Shape := ⟨4, ![2, 64, 256, 512]⟩
abbrev S_ : Shape := ⟨0, ![]⟩
abbrev S2x64x256 : Shape := ⟨3, ![2, 64, 256]⟩
abbrev S2x64x256x1 : Shape := ⟨4, ![2, 64, 256, 1]⟩
abbrev S2x64x64x256 : Shape := ⟨4, ![2, 64, 64, 256]⟩
abbrev S2x256x64x1 : Shape := ⟨4, ![2, 256, 64, 1]⟩

abbrev nBuf : Space → Nat
  | .hbm => 34
  | .vmem => 0
  | .smem => 0
  | _ => 0

abbrev bufTy : (tb : Table) → Fin (tcTables nBuf tb) → BufTy
  | .hbm, ⟨0, _⟩ => ⟨S2x256x768, .bf16⟩
  | .hbm, ⟨1, _⟩ => ⟨S768x4096, .bf16⟩
  | .hbm, ⟨2, _⟩ => ⟨S2x512x64x64, .bf16⟩
  | .hbm, ⟨3, _⟩ => ⟨S2x512x64x64, .bf16⟩
  | .hbm, ⟨4, _⟩ => ⟨S4096x768, .bf16⟩
  | .hbm, ⟨5, _⟩ => ⟨S2x256x768, .f32⟩
  | .hbm, ⟨6, _⟩ => ⟨S768x4096, .f32⟩
  | .hbm, ⟨7, _⟩ => ⟨S2x512x64x64, .f32⟩
  | .hbm, ⟨8, _⟩ => ⟨S2x512x64x64, .f32⟩
  | .hbm, ⟨9, _⟩ => ⟨S4096x768, .f32⟩
  | .hbm, ⟨10, _⟩ => ⟨S512x768, .f32⟩
  | .hbm, ⟨11, _⟩ => ⟨S512x4096, .f32⟩
  | .hbm, ⟨12, _⟩ => ⟨S2x256x64x64, .f32⟩
  | .hbm, ⟨13, _⟩ => ⟨S2x64x256x512, .f32⟩
  | .hbm, ⟨14, _⟩ => ⟨S_, .f32⟩
  | .hbm, ⟨15, _⟩ => ⟨S2x64x256x512, .f32⟩
  | .hbm, ⟨16, _⟩ => ⟨S2x64x256x512, .f32⟩
  | .hbm, ⟨17, _⟩ => ⟨S_, .f32⟩
  | .hbm, ⟨18, _⟩ => ⟨S2x64x256, .f32⟩
  | .hbm, ⟨19, _⟩ => ⟨S2x64x256x1, .f32⟩
  | .hbm, ⟨20, _⟩ => ⟨S2x64x256x512, .f32⟩
  | .hbm, ⟨21, _⟩ => ⟨S2x64x256x512, .f32⟩
  | .hbm, ⟨22, _⟩ => ⟨S2x64x256x512, .f32⟩
  | .hbm, ⟨23, _⟩ => ⟨S_, .f32⟩
  | .hbm, ⟨24, _⟩ => ⟨S2x64x256, .f32⟩
  | .hbm, ⟨25, _⟩ => ⟨S2x64x256x1, .f32⟩
  | .hbm, ⟨26, _⟩ => ⟨S2x64x64x256, .f32⟩
  | .hbm, ⟨27, _⟩ => ⟨S2x256x64x64, .f32⟩
  | .hbm, ⟨28, _⟩ => ⟨S2x256x64x1, .f32⟩
  | .hbm, ⟨29, _⟩ => ⟨S2x256x64x64, .f32⟩
  | .hbm, ⟨30, _⟩ => ⟨S2x256x64x64, .f32⟩
  | .hbm, ⟨31, _⟩ => ⟨S512x4096, .f32⟩
  | .hbm, ⟨32, _⟩ => ⟨S512x768, .f32⟩
  | .hbm, ⟨33, _⟩ => ⟨S2x256x768, .f32⟩
  | _, _ => ⟨S2x256x768, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst : Ref sig .tc := ⟨.hbm, 14, rfl⟩
abbrev main_v9 : Ref sig .tc := ⟨.hbm, 15, rfl⟩
abbrev main_v10 : Ref sig .tc := ⟨.hbm, 16, rfl⟩
abbrev main_cst_0 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_cst_1 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩

abbrev nD : Nat := 1
abbrev τ : Topo := Topo.v7x

variable {F : FTy → Type} [FloatOps F]
-- ==== Proof.Blocks.lean ====
/-
  The half-rows of the three exchange buffers (shape 8×64×768: slot, row, column), and the sixty-four
  semaphores of the exchange. Slot `t`, half `h` is the set of the indices of slot `t` whose column lies in
  the `h`-th half of the 768.
-/
module

public import proofs.«01_k».proof.Proof.Gen.KernelIdeal.Skeleton
public import proofs.«01_k».proof.Proof.Gen.KernelIdeal.Launch
public import Idealize.ShloMosaic.Lib.Rounds
public import Idealize.ShloMosaic.Lib.ShareLeaves
public import Idealize.ShloMosaic.Lib.Tactic

@[expose] public section

set_option maxRecDepth 16384

noncomputable section

namespace Cert.KernelIdeal.Proto

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type}

/-- Contents of one exchange buffer. -/
abbrev Buf8 (F : FTy → Type) : Type := S8x64x768.Idx → Elt F .bf16

/-! ## Half-rows -/

/-- Slot `t`, half `h`. -/
def blk (t : Dev nD) (h : Fin 2) : Finset S8x64x768.Idx :=
  Finset.univ.filter fun i => (i 0).val = t.val ∧ (i 2).val / 384 = h.val
/-- Slot `t`, both halves. -/
def row (t : Dev nD) : Finset S8x64x768.Idx := Finset.univ.filter fun i => (i 0).val = t.val
/-- Half `h` of all slots. -/
def col (h : Fin 2) : Finset S8x64x768.Idx := Finset.univ.filter fun i => (i 2).val / 384 = h.val

theorem mem_blk {t : Dev nD} {h : Fin 2} {i : S8x64x768.Idx} : i ∈ blk t h ↔ (i 0).val = t.val ∧ (i 2).val / 384 = h.val := by
  simp [blk]
theorem mem_row {t : Dev nD} {i : S8x64x768.Idx} : i ∈ row t ↔ (i 0).val = t.val := by simp [row]
theorem mem_col {h : Fin 2} {i : S8x64x768.Idx} : i ∈ col h ↔ (i 2).val / 384 = h.val := by simp [col]

theorem half_lt (i : S8x64x768.Idx) : (i 2).val / 384 < 2 := by
  have h : (i 2).val < 768 := (i 2).isLt
  omega
theorem slot_lt (i : S8x64x768.Idx) : (i 0).val < 8 := (i 0).isLt

theorem row_eq (t : Dev nD) : row t = blk t 0 ∪ blk t 1 := by
  ext i; have := half_lt i
  simp only [Finset.mem_union, mem_row, mem_blk, Fin.val_zero, Fin.val_one]; omega
theorem blk_disj_half (t t' : Dev nD) : Disjoint (blk t 0) (blk t' 1) := by
  rw [Finset.disjoint_left]; intro i hi hj
  rw [mem_blk] at hi hj; have h1 := hi.2; have h2 := hj.2; simp at h1 h2; omega
theorem blk_disj {t t' : Dev nD} (hne : t ≠ t') (h h' : Fin 2) : Disjoint (blk t h) (blk t' h') := by
  rw [Finset.disjoint_left]; intro i hi hj
  rw [mem_blk] at hi hj; exact hne (Fin.ext (hi.1.symm.trans hj.1))
theorem row_disj {t t' : Dev nD} (hne : t ≠ t') : Disjoint (row t) (row t') := by
  rw [Finset.disjoint_left]; intro i hi hj
  rw [mem_row] at hi hj; exact hne (Fin.ext (hi.symm.trans hj))
theorem univ_rows : (Finset.univ : Finset S8x64x768.Idx) = Finset.univ.biUnion row := by
  ext i; simp only [Finset.mem_univ, Finset.mem_biUnion, true_and, true_iff, mem_row]
  exact ⟨⟨(i 0).val, slot_lt i⟩, rfl⟩
theorem col_blks (h : Fin 2) : col h = Finset.univ.biUnion fun t => blk t h := by
  ext i; simp only [Finset.mem_biUnion, Finset.mem_univ, true_and, mem_blk, mem_col]
  exact ⟨fun hc => ⟨⟨(i 0).val, slot_lt i⟩, rfl, hc⟩, fun ⟨_, _, hc⟩ => hc⟩

/-- The half-row of a whole 8×64×768 buffer as the program writes it: a slice, its leading axis dropped. -/
abbrev halfM (b : Memref sig .tc .vmem S8x64x768 .bf16) (o : Fin 3 → ℕ) (inb : ∀ a, o a + S1x64x384.size a ≤ S8x64x768.size a) :
    Memref sig .tc .vmem S64x384 .bf16 :=
  (b.slice (Rect.unit (s := S8x64x768) o S1x64x384.size inb) (fun _ => rfl)).squeeze S64x384 squeezes_S1x64x384_S64x384

theorem mem_unit_half {t : Dev nD} {h : Fin 2} {o : Fin 3 → ℕ} {inb : ∀ a, o a + S1x64x384.size a ≤ S8x64x768.size a}
    (ho : o = ![t.val, 0, 384 * h.val]) (i : S8x64x768.Idx) :
    i ∈ (Rect.unit (s := S8x64x768) o S1x64x384.size inb).set ↔ i ∈ blk t h := by
  subst ho
  have h1 : (i 1).val < 64 := (i 1).isLt
  have hh : h.val < 2 := h.isLt
  rw [Rect.mem_set_unit, mem_blk]
  constructor
  · intro H
    have a0 := H 0; have a2 := H 2
    simp [S1x64x384] at a0 a2
    omega
  · rintro ⟨e0, e2⟩ a
    fin_cases a <;> simp [S1x64x384] <;> omega

/-- A half-row's elements. -/
theorem unit_half_set {t : Dev nD} {h : Fin 2} {o : Fin 3 → ℕ} {inb : ∀ a, o a + S1x64x384.size a ≤ S8x64x768.size a}
    (ho : o = ![t.val, 0, 384 * h.val]) : (Rect.unit (s := S8x64x768) o S1x64x384.size inb).set = blk t h :=
  Finset.ext (mem_unit_half ho)

theorem halfM_set2 {t : Dev nD} {h : Fin 2} {o : Fin 3 → ℕ} {inb} (ho : o = ![t.val, 0, 384 * h.val]) :
    (halfM (Memref.whole cc0_scratch2) o inb).view.set = blk t h := by
  rw [Memref.set_view_squeeze]; exact (View.set_slice_whole _ _).trans (unit_half_set ho)
theorem halfM_set3 {t : Dev nD} {h : Fin 2} {o : Fin 3 → ℕ} {inb} (ho : o = ![t.val, 0, 384 * h.val]) :
    (halfM (Memref.whole cc0_scratch3) o inb).view.set = blk t h := by
  rw [Memref.set_view_squeeze]; exact (View.set_slice_whole _ _).trans (unit_half_set ho)
theorem halfM_set4 {t : Dev nD} {h : Fin 2} {o : Fin 3 → ℕ} {inb} (ho : o = ![t.val, 0, 384 * h.val]) :
    (halfM (Memref.whole cc0_scratch4) o inb).view.set = blk t h := by
  rw [Memref.set_view_squeeze]; exact (View.set_slice_whole _ _).trans (unit_half_set ho)

end Cert.KernelIdeal.Proto

end
-- ==== Proof.Sems.lean ====
/-
  The semaphores of the exchange: the barrier, and four arrays of sixteen transfer semaphores (slot `t`, half `h`):
  0 for the partial sums sent, 1 for those received, 2 for the totals sent, 3 for those received.
-/
module

public import proofs.«01_k».proof.Proof.Blocks

@[expose] public section

set_option maxRecDepth 16384

noncomputable section

namespace Cert.KernelIdeal.Proto

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

abbrev barS : Sem sig := sig.barrier 0 rfl

/-- Semaphore `(t, h)` of array `k`. -/
def xsem (k : Fin 4) (t : Dev nD) (h : Fin 2) : DmaSem sig :=
  ⟨6 + 16 * k.val + 2 * t.val + h.val, by
    have h1 := k.isLt; have h2 : t.val < 8 := t.isLt; have h3 := h.isLt
    show _ < 70
    omega⟩

theorem xsem_val (k : Fin 4) (t : Dev nD) (h : Fin 2) : (xsem k t h).val = 6 + 16 * k.val + 2 * t.val + h.val := rfl

theorem xsem_dec (k : Fin 4) (t : Dev nD) (h : Fin 2) :
    6 ≤ (xsem k t h).val ∧ ((xsem k t h).val - 6) / 16 = k.val ∧ ((xsem k t h).val - 6) % 16 / 2 = t.val ∧ ((xsem k t h).val - 6) % 2 = h.val := by
  have h1 := k.isLt; have h2 : t.val < 8 := t.isLt; have h3 := h.isLt
  rw [xsem_val]; omega

theorem xsem_inj {k k' : Fin 4} {t t' : Dev nD} {h h' : Fin 2} (e : xsem k t h = xsem k' t' h') : k = k' ∧ t = t' ∧ h = h' := by
  obtain ⟨-, a, b, c⟩ := xsem_dec k t h
  obtain ⟨-, a', b', c'⟩ := xsem_dec k' t' h'
  rw [e] at a b c
  exact ⟨Fin.ext (a.symm.trans a'), Fin.ext (b.symm.trans b'), Fin.ext (c.symm.trans c')⟩

/-- Slot `(t, h)` of an array of 8×2 consecutive semaphores from `b`. -/
theorem slice_sem_val (b : ℕ) (hb : b + S8x2.numel ≤ sig.nDmaSem) {t : Dev nD} {h : Fin 2} {o : Fin 2 → ℕ} {inb : ∀ a, o a + S1x1.size a ≤ S8x2.size a}
    (ho : o = ![t.val, h.val]) :
    (((SemArray.consecutive b S8x2 hb).slice (Rect.unit (s := S8x2) o S1x1.size inb)).squeeze S_ squeezes_S1x1_S_).sem.val
      = b + 2 * t.val + h.val := by
  subst ho
  show b + (S8x2.rowMajor ((Rect.unit (s := S8x2) ![t.val, h.val] S1x1.size inb).emb
    (Shape.reshapeEquiv squeezes_S1x1_S_.numel_eq fun i => i.elim0))).val = _
  rw [Shape.rowMajor_val_two]
  set j := Shape.reshapeEquiv squeezes_S1x1_S_.numel_eq (fun i => i.elim0) with hj
  have e0 : (j 0).val = 0 := by have : (j 0).val < 1 := (j 0).isLt; omega
  have e1 : (j 1).val = 0 := by have : (j 1).val < 1 := (j 1).isLt; omega
  rw [Rect.emb_apply, Rect.emb_apply]
  show b + ((t.val + 1 * (j 0).val) * 2 + (h.val + 1 * (j 1).val)) = _
  omega

section
variable {t : Dev nD} {h : Fin 2} {o : Fin 2 → ℕ} {inb : ∀ a, o a + S1x1.size a ≤ S8x2.size a} (ho : o = ![t.val, h.val])
include ho

theorem sem6 : ((cc0_scratch6.slice (Rect.unit (s := S8x2) o S1x1.size inb)).squeeze S_ squeezes_S1x1_S_).sem = xsem 0 t h :=
  Fin.ext ((slice_sem_val _ _ ho).trans (by rw [xsem_val]; rfl))
theorem sem7 : ((cc0_scratch7.slice (Rect.unit (s := S8x2) o S1x1.size inb)).squeeze S_ squeezes_S1x1_S_).sem = xsem 1 t h :=
  Fin.ext ((slice_sem_val _ _ ho).trans (by rw [xsem_val]; rfl))
theorem sem8 : ((cc0_scratch8.slice (Rect.unit (s := S8x2) o S1x1.size inb)).squeeze S_ squeezes_S1x1_S_).sem = xsem 2 t h :=
  Fin.ext ((slice_sem_val _ _ ho).trans (by rw [xsem_val]; rfl))
theorem sem9 : ((cc0_scratch9.slice (Rect.unit (s := S8x2) o S1x1.size inb)).squeeze S_ squeezes_S1x1_S_).sem = xsem 3 t h :=
  Fin.ext ((slice_sem_val _ _ ho).trans (by rw [xsem_val]; rfl))
end

/-! ## The words that decide who takes part -/

theorem wordne (d : Dev nD) (k : Fin 8) :
    (Scalar.cmpi .ne (Scalar.extui (Scalar.cmpi .ne (Scalar.remsi (Scalar.divsi (Dev.word d) 1#32) 8#32) (BitVec.ofNat 32 k.val)) : BitVec 32) 0#32 = 1#1) ↔ k.val ≠ d.val := by
  revert d k; decide

theorem cond1_iff (d : Dev nD) : k0_cond1 d = 1#1 ↔ 0 ≠ d.val := by revert d; decide

end Cert.KernelIdeal.Proto

end
-- ==== Proof.Family.lean ====
/-
  A resource for every device but one, worked through in the order of the devices: those before step `k` are done,
  the rest are still to do. Beside it, what is owed to the devices still to come.
-/
module

public import proofs.«01_k».proof.Proof.Sems

@[expose] public section

noncomputable section

namespace Cert.KernelIdeal.Proto

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type}

/-- The pipeline's rounds, duties unnamed, and the exchange's, duties named by devices. -/
abbrev UR : Type := URounds (GSem nD τ sig) Unit
abbrev UX : Type := URounds (GSem nD τ sig) (Dev nD)
abbrev UU : Type := UR × UX

local notation "𝕄" => MT nD τ sig Unit (Elt F) ℕ UU ℕ

abbrev EP : Emb UR (MT nD τ sig Unit (Elt F) ℕ UU ℕ) := embL
abbrev ER : Emb UX (MT nD τ sig Unit (Elt F) ℕ UU ℕ) := embR

/-- For every device but `c`: done before step `k`, to do from there on. -/
def Fam (c : Dev nD) (k : ℕ) (T D : Dev nD → sProp 𝕄) : sProp 𝕄 :=
  bigSep Finset.univ fun p => if p = c then iprop(emp) else if p.val < k then D p else T p

/-- For every device but `c`. -/
def Oth (c : Dev nD) (A : Dev nD → sProp 𝕄) : sProp 𝕄 := bigSep Finset.univ fun p => if p = c then iprop(emp) else A p

variable {c : Dev nD} {T D A B : Dev nD → sProp (MT nD τ sig Unit (Elt F) ℕ UU ℕ)}

theorem Fam_zero : Fam c 0 T D = Oth c T := by
  unfold Fam Oth; refine BI.bigSep_congr fun p _ => ?_
  rw [if_neg (Nat.not_lt_zero _)]
theorem Fam_eight : Fam c 8 T D = Oth c D := by
  unfold Fam Oth; refine BI.bigSep_congr fun p _ => ?_
  rw [if_pos (show p.val < 8 from p.isLt)]

theorem Fam_skip {t : Dev nD} (h : t = c) : Fam c t.val T D = Fam c (t.val + 1) T D := by
  subst h; unfold Fam; refine BI.bigSep_congr fun p _ => ?_
  by_cases hp : p = t
  · rw [if_pos hp, if_pos hp]
  · rw [if_neg hp, if_neg hp]
    have : p.val ≠ t.val := fun e => hp (Fin.ext e)
    by_cases h : p.val < t.val
    · rw [if_pos h, if_pos (by omega)]
    · rw [if_neg h, if_neg (by omega)]

theorem split_at {I : Type} [Fintype I] [DecidableEq I] (s : I) (Φ : I → sProp (MT nD τ sig Unit (Elt F) ℕ UU ℕ)) :
    bigSep Finset.univ Φ = iprop(Φ s ∗ bigSep (Finset.univ.erase s) Φ) := BI.bigSep_univ_split s

/-- One step: the device's to-do resource out, its done resource in. -/
theorem Fam_step {t : Dev nD} (h : t ≠ c) : Fam c t.val T D ⊢ iprop(T t ∗ (D t -∗ Fam c (t.val + 1) T D)) := by
  unfold Fam
  rw [split_at t (fun p => if p = c then iprop(emp) else if p.val < t.val then D p else T p),
    split_at t (fun p => if p = c then iprop(emp) else if p.val < t.val + 1 then D p else T p)]
  rw [if_neg h, if_neg (Nat.lt_irrefl _), if_neg h, if_pos (Nat.lt_succ_self _)]
  have e : bigSep (Finset.univ.erase t) (fun p => if p = c then iprop(emp) else if p.val < t.val then D p else T p)
      = (bigSep (Finset.univ.erase t) (fun p => if p = c then iprop(emp) else if p.val < t.val + 1 then D p else T p) : sProp 𝕄) := by
    refine BI.bigSep_congr fun p hp => ?_
    have hne : p.val ≠ t.val := fun e => (Finset.mem_erase.mp hp).1 (Fin.ext e)
    by_cases hc : p = c
    · rw [if_pos hc, if_pos hc]
    · rw [if_neg hc, if_neg hc]
      by_cases h : p.val < t.val
      · rw [if_pos h, if_pos (by omega)]
      · rw [if_neg h, if_neg (by omega)]
  rw [e]
  iintro ⟨HT, HR⟩
  isplitl [HT]; · iexact HT
  iintro HD
  isplitl [HD]; · iexact HD
  iexact HR

theorem Oth_sep : Oth c (fun p => iprop(A p ∗ B p)) = iprop(Oth c A ∗ Oth c B) := by
  unfold Oth
  refine (BI.bigSep_congr fun p _ => ?_).trans (BI.bigSep_sep _ _ _)
  by_cases hp : p = c
  · rw [if_pos hp, if_pos hp, if_pos hp]; exact (BI.Entails.antisymm emp_sep.1 emp_sep.2).symm
  · rw [if_neg hp, if_neg hp, if_neg hp]; rfl

theorem Oth_mono (h : ∀ p, p ≠ c → A p ⊢ B p) : Oth c A ⊢ Oth c B := by
  unfold Oth; refine BI.bigSep_mono fun p _ => ?_
  by_cases hp : p = c
  · rw [if_pos hp, if_pos hp]; exact BI.Entails.refl _
  · rw [if_neg hp, if_neg hp]; exact h p hp

/-- Owed to every device but `c` from step `k` on. -/
def Tal (c : Dev nD) (k : ℕ) (f : Dev nD → CellTallies nD τ sig Unit) : CellTallies nD τ sig Unit :=
  ∑ p : Dev nD, if p = c ∨ p.val < k then 0 else f p

variable {f : Dev nD → CellTallies nD τ sig Unit}

theorem Tal_eight : Tal c 8 f = 0 := Finset.sum_eq_zero fun p _ => if_pos (Or.inr p.isLt)

theorem Tal_skip {t : Dev nD} (h : t = c) : Tal c t.val f = Tal c (t.val + 1) f := by
  subst h; unfold Tal; refine Finset.sum_congr rfl fun p _ => ?_
  by_cases hp : p = t
  · rw [if_pos (Or.inl hp), if_pos (Or.inl hp)]
  · have : p.val ≠ t.val := fun e => hp (Fin.ext e)
    by_cases h : p.val < t.val
    · rw [if_pos (Or.inr h), if_pos (Or.inr (by omega))]
    · rw [if_neg (by simp only [hp, false_or]; exact h), if_neg (by simp only [hp, false_or]; omega)]

theorem Tal_step {t : Dev nD} (h : t ≠ c) : Tal c t.val f = Tal c (t.val + 1) f + f t := by
  unfold Tal
  rw [← Finset.add_sum_erase _ _ (Finset.mem_univ t), ← Finset.add_sum_erase (a := t) _ (fun p => if p = c ∨ p.val < t.val + 1 then 0 else f p) (Finset.mem_univ t)]
  rw [if_neg (by simp only [h, false_or]; exact Nat.lt_irrefl _), if_pos (Or.inr (Nat.lt_succ_self _)), zero_add, add_comm]
  congr 1
  refine Finset.sum_congr rfl fun p hp => ?_
  have hne : p.val ≠ t.val := fun e => (Finset.mem_erase.mp hp).1 (Fin.ext e)
  by_cases hc : p = c
  · rw [if_pos (Or.inl hc), if_pos (Or.inl hc)]
  · by_cases h : p.val < t.val
    · rw [if_pos (Or.inr h), if_pos (Or.inr (by omega))]
    · rw [if_neg (by simp only [hc, false_or]; exact h), if_neg (by simp only [hc, false_or]; omega)]

theorem Tal_pos {k : ℕ} {g : GSem nD τ sig} {u : Unit} (h : 0 < Tal c k f g u) : ∃ p, p ≠ c ∧ 0 < f p g u := by
  unfold Tal at h
  rw [Finset.sum_apply, Finsupp.finset_sum_apply] at h
  obtain ⟨p, -, hp⟩ := Finset.exists_ne_zero_of_sum_ne_zero (Nat.pos_iff_ne_zero.mp h)
  by_cases hc : p = c ∨ p.val < k
  · rw [if_pos hc] at hp; exact absurd rfl hp
  · rw [if_neg hc] at hp; exact ⟨p, fun e => hc (Or.inl e), Nat.pos_of_ne_zero hp⟩

end Cert.KernelIdeal.Proto

end
-- ==== Proof.Protocol.lean ====
/-
  The protocol of the exchange. Device `c` computes eight partial row blocks, one for each device; it sends block `t`
  to device `t` in two halves, adds up the eight blocks it receives, and sends the total to all.
  Two families of contents are left open here: `sC c`, the partial blocks device `c` computed, and `gC`, the totals.
-/
module

public import proofs.«01_k».proof.Proof.Family

@[expose] public section

set_option maxRecDepth 16384

noncomputable section

namespace Cert.KernelIdeal.Proto

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type}

local notation "𝕄" => MT nD τ sig Unit (Elt F) ℕ UU ℕ

/-! ## Cells, buffers, shares -/

abbrev barCell (c : Dev nD) : GSem nD τ sig := ((c : Thread nD τ), .reg barS)
/-- Device `c`'s semaphore `(t, h)` of array `k`. -/
abbrev xCell (k : Fin 4) (t : Dev nD) (h : Fin 2) (c : Dev nD) : GSem nD τ sig := ((c : Thread nD τ), .dma (xsem k t h))

abbrev sM : Memref sig .tc .vmem S8x64x768 .bf16 := Memref.whole cc0_scratch2
abbrev rM : Memref sig .tc .vmem S8x64x768 .bf16 := Memref.whole cc0_scratch3
abbrev gM : Memref sig .tc .vmem S8x64x768 .bf16 := Memref.whole cc0_scratch4

abbrev sPt (c : Dev nD) (I : Finset S8x64x768.Idx) (f : Buf8 F) : sProp (MT nD τ sig Unit (Elt F) ℕ UU ℕ) :=
  (sM : Memref sig .tc .vmem S8x64x768 .bf16).view.loc (c : Thread nD τ) ↦[I]{fullShare} f
abbrev rPt (c : Dev nD) (I : Finset S8x64x768.Idx) (f : Buf8 F) : sProp (MT nD τ sig Unit (Elt F) ℕ UU ℕ) :=
  (rM : Memref sig .tc .vmem S8x64x768 .bf16).view.loc (c : Thread nD τ) ↦[I]{fullShare} f
abbrev gPt (c : Dev nD) (I : Finset S8x64x768.Idx) (q : PosShare TreeShare) (f : Buf8 F) : sProp (MT nD τ sig Unit (Elt F) ℕ UU ℕ) :=
  (gM : Memref sig .tc .vmem S8x64x768 .bf16).view.loc (c : Thread nD τ) ↦[I]{q} f

/-- The share of a total lent to the copy for device `t`. -/
def lf (t : Dev nD) : PosShare TreeShare := ShareLeaves.leaf 3 fullShare ⟨t.val, t.isLt⟩

/-- The credit of a half-row, with its leading axis dropped or not. -/
abbrev N : ℕ := (halfM sM ![0, 0, 0] inb_S8x64x768_S1x64x384_0_0_0).view.dmaCredit
theorem N_pos : 0 < N := View.dmaCredit_pos _ (by decide)

/-- Row `t` of an index moved to slot `d`. -/
def at0 (d : Dev nD) (i : S8x64x768.Idx) : S8x64x768.Idx := Function.update i 0 (d : Fin 8)
theorem at0_zero (d : Dev nD) (i : S8x64x768.Idx) : at0 d i 0 = (d : Fin 8) := Function.update_self ..
theorem at0_one (d : Dev nD) (i : S8x64x768.Idx) : at0 d i 1 = i 1 := Function.update_of_ne (by decide) ..
theorem at0_two (d : Dev nD) (i : S8x64x768.Idx) : at0 d i 2 = i 2 := Function.update_of_ne (by decide) ..

variable (sC : Dev nD → Buf8 F) (gC : Buf8 F)

/-- The partial blocks device `c` receives: slot `t` from device `t`. -/
def rC (c : Dev nD) : Buf8 F := fun i => sC (i 0) (at0 c i)

/-! ## The schedule -/

/-- The room on device `p` for what device `c` sends it: its half of the slot for partial sums, and that the receive cell is open. -/
def roomR (c p : Dev nD) (h : Fin 2) : sProp (MT nD τ sig Unit (Elt F) ℕ UU ℕ) := iprop((∃ f, rPt p (blk c h) f) ∗ reached ER (xCell 1 c h p) 0)
/-- The same for the totals. -/
def roomG (c p : Dev nD) (h : Fin 2) : sProp (MT nD τ sig Unit (Elt F) ℕ UU ℕ) := iprop((∃ f, gPt p (blk c h) fullShare f) ∗ reached ER (xCell 3 c h p) 0)

/-- What device `p`'s signal hands to device `c`. -/
def barPay (c p : Dev nD) : sProp (MT nD τ sig Unit (Elt F) ℕ UU ℕ) :=
  iprop((roomR c p 0 ∗ roomR c p 1) ∗ (roomG c p 0 ∗ roomG c p 1))

/-- What the transfer semaphores carry. -/
def xPay (k : ℕ) (t : Dev nD) (h : Fin 2) (c : Dev nD) : sProp (MT nD τ sig Unit (Elt F) ℕ UU ℕ) :=
  if k = 0 then sPt c (blk t h) (sC c) else if k = 1 then rPt c (blk t h) (rC sC c)
  else if k = 2 then gPt c (blk c h) (lf t) gC else gPt c (blk t h) fullShare gC

def slotOf (n : ℕ) : Dev nD := ⟨(n - 6) % 16 / 2, by show _ < 8; omega⟩
def halfOf (n : ℕ) : Fin 2 := ⟨(n - 6) % 2, by omega⟩

def dutiesAt (c : Dev nD) : SemLoc sig → Finset (Dev nD)
  | .reg s => if s = barS then Finset.univ.erase c else ∅
  | .dma n => if 6 ≤ n.val ∧ slotOf n.val ≠ c then {0} else ∅

/-- One round: a barrier cell is paid by every other device, a transfer cell once. -/
def Rd : Rounds.Schedule (GSem nD τ sig) (Dev nD) (MT nD τ sig Unit (Elt F) ℕ UU ℕ) where
  duties g r := if r = 0 ∧ g.1.2 = .tc then dutiesAt g.1.1 g.2 else ∅
  unitless _ := False
  amount g _ _ := match g.2 with | .reg _ => 1 | .dma _ => N
  payload g _ d := match g.2 with
    | .reg _ => barPay g.1.1 d
    | .dma n => xPay sC gC ((n.val - 6) / 16) (slotOf n.val) (halfOf n.val) g.1.1
  amount_pos g _ _ _ := by
    rcases g with ⟨_, s | n⟩
    · exact Nat.one_pos
    · exact N_pos

instance Rd_storable (g : GSem nD τ sig) (r : ℕ) (d : Dev nD) :
    BI.Storable (upEmb : UEmb _ (MT nD τ sig Unit (Elt F) ℕ UU ℕ)) ((Rd sC gC).payload g r d) := by
  rcases g with ⟨_, s | n⟩
  · show BI.Storable upEmb (barPay _ _)
    unfold barPay roomR roomG
    infer_instance
  · show BI.Storable upEmb (xPay sC gC _ _ _ _)
    unfold xPay
    (repeat' split) <;> infer_instance

section Facts
variable (c : Dev nD) (k : Fin 4) (t : Dev nD) (h : Fin 2)

theorem slotOf_xsem : slotOf (xsem k t h).val = t := Fin.ext (xsem_dec k t h).2.2.1
theorem halfOf_xsem : halfOf (xsem k t h).val = h := Fin.ext (xsem_dec k t h).2.2.2

theorem duties_bar : (Rd sC gC).duties (barCell c) 0 = Finset.univ.erase c := by
  show (if 0 = 0 ∧ ((c : Thread nD τ)).2 = .tc then dutiesAt c (.reg barS) else ∅) = _
  rw [if_pos ⟨rfl, rfl⟩]; show (if barS = barS then Finset.univ.erase c else ∅) = _; exact if_pos rfl
theorem duties_x (ht : t ≠ c) : (Rd sC gC).duties (xCell k t h c) 0 = {0} := by
  show (if 0 = 0 ∧ ((c : Thread nD τ)).2 = .tc then dutiesAt c (.dma (xsem k t h)) else ∅) = _
  rw [if_pos ⟨rfl, rfl⟩]; exact if_pos ⟨(xsem_dec k t h).1, by rw [slotOf_xsem]; exact ht⟩
theorem duties_self (r : ℕ) : (Rd sC gC).duties (xCell k c h c) r = ∅ := by
  show (if r = 0 ∧ ((c : Thread nD τ)).2 = .tc then dutiesAt c (.dma (xsem k c h)) else ∅) = _
  split
  · exact if_neg fun e => e.2 (slotOf_xsem k c h)
  · rfl
theorem duties_later (g : GSem nD τ sig) : ∀ r, 1 ≤ r → (Rd sC gC).duties g r = ∅ := fun r hr => if_neg fun e => by omega

theorem amount_bar (d : Dev nD) : (Rd sC gC).amount (barCell c) 0 d = 1 := rfl
theorem amount_x (d : Dev nD) : (Rd sC gC).amount (xCell k t h c) 0 d = N := rfl

theorem expect_bar : (Rd sC gC).expect (barCell c) 0 = 7 := by
  unfold Schedule.expect Schedule.amountOf
  rw [duties_bar, Finset.sum_congr rfl fun d _ => amount_bar sC gC c d]
  simp
theorem expect_x (ht : t ≠ c) : (Rd sC gC).expect (xCell k t h c) 0 = N := by
  unfold Schedule.expect Schedule.amountOf
  rw [duties_x sC gC c k t h ht, Finset.sum_singleton, amount_x]

theorem payload_bar (d : Dev nD) : (Rd sC gC).payload (barCell c) 0 d = barPay c d := rfl
theorem payload_x (d : Dev nD) : (Rd sC gC).payload (xCell k t h c) 0 d = xPay sC gC k.val t h c := by
  show xPay sC gC ((_ - 6) / 16) (slotOf _) (halfOf _) c = _
  rw [slotOf_xsem, halfOf_xsem, (xsem_dec k t h).2.1]

theorem rest_bar : bigSep ((Rd sC gC).duties (barCell c) 0 \ ∅) (fun d => (Rd sC gC).payload (barCell c) 0 d)
    = (Oth c (fun p => barPay c p) : sProp 𝕄) := by
  rw [Finset.sdiff_empty, duties_bar]
  unfold Oth
  rw [split_at c (fun p => if p = c then iprop(emp) else barPay c p), if_pos rfl]
  refine (BI.bigSep_congr (Ψ := fun p => if p = c then iprop(emp) else barPay c p) fun p hp => ?_).trans (BI.Entails.antisymm emp_sep.2 emp_sep.1)
  rw [if_neg (Finset.mem_erase.mp hp).1, payload_bar]
theorem rest_x (ht : t ≠ c) : bigSep ((Rd sC gC).duties (xCell k t h c) 0 \ ∅) (fun d => (Rd sC gC).payload (xCell k t h c) 0 d)
    = xPay sC gC k.val t h c := by
  rw [Finset.sdiff_empty, duties_x sC gC c k t h ht, bigSep_singleton, payload_x]
end Facts

/-! ## What is owed; the levels -/

/-- The barrier signals still owed: to the devices `c + 1 + t` from `t = k` on. -/
def sgn (c : Dev nD) (t : Fin 8) : Dev nD := ⟨(c.val + 1 + t.val) % 8, Nat.mod_lt _ (by decide)⟩
def owB (c : Dev nD) (k : ℕ) : CellTallies nD τ sig Unit :=
  ∑ t : Fin 8, if t.val = 7 ∨ t.val < k then 0 else tallyAt (barCell (sgn c t)) () 1
/-- The copies of partial sums still owed, from device `k` on, both halves. -/
def owR (c : Dev nD) (k : ℕ) : CellTallies nD τ sig Unit :=
  Tal c k fun p => tallyAt (xCell 1 c 0 p) () N + tallyAt (xCell 1 c 1 p) () N
/-- The copies of totals still owed, half `h`. -/
def owG (h : Fin 2) (c : Dev nD) (k : ℕ) : CellTallies nD τ sig Unit := Tal c k fun p => tallyAt (xCell 3 c h p) () N

def O₀ (c : Dev nD) : CellTallies nD τ sig Unit := owG 1 c 0 + owG 0 c 0 + owR c 0 + owB c 0

def L (g : GSem nD τ sig) : Finset Unit := if g.1.2 = .tc then {()} else ∅
/-- Barrier 1, partial sums received 2, totals received 3, the rest 0. -/
def lv (g : GSem nD τ sig) (_ : Unit) : ℕ := match g.2 with
  | .reg s => if s = barS then 1 else 0
  | .dma n => if 6 ≤ n.val then (if (n.val - 6) / 16 = 1 then 2 else if (n.val - 6) / 16 = 3 then 3 else 0) else 0

theorem L_of_ne (g : GSem nD τ sig) (h : g.1.2 ≠ .tc) : L g = ∅ := if_neg h
theorem L_tc (c : Dev nD) (sm : SemLoc sig) : L ((c : Thread nD τ), sm) = {()} := if_pos rfl

theorem lv_bar (c : Dev nD) : lv (barCell c) () = 1 := by show (if barS = barS then 1 else 0) = 1; exact if_pos rfl
theorem lv_x (k : Fin 4) (t : Dev nD) (h : Fin 2) (c : Dev nD) :
    lv (xCell k t h c) () = if k.val = 1 then 2 else if k.val = 3 then 3 else 0 := by
  show (if 6 ≤ (xsem k t h).val then (if ((xsem k t h).val - 6) / 16 = 1 then 2 else if ((xsem k t h).val - 6) / 16 = 3 then 3 else 0) else 0) = _
  rw [if_pos (xsem_dec k t h).1, (xsem_dec k t h).2.1]

theorem tallyAt_pos {g g' : GSem nD τ sig} {u : Unit} {n : ℕ} (h : 0 < (tallyAt g () n : CellTallies nD τ sig Unit) g' u) : g' = g := by
  rw [tallyAt_apply] at h
  by_cases e : g' = g ∧ u = ()
  · exact e.1
  · rw [if_neg e] at h; exact absurd h (Nat.lt_irrefl 0)

theorem owG_pos {h : Fin 2} {c : Dev nD} {k : ℕ} {g : GSem nD τ sig} {u : Unit} (H : 0 < owG h c k g u) : ∃ p, g = xCell 3 c h p := by
  obtain ⟨p, -, hp⟩ := Tal_pos H
  exact ⟨p, tallyAt_pos hp⟩
theorem owR_pos {c : Dev nD} {k : ℕ} {g : GSem nD τ sig} {u : Unit} (H : 0 < owR c k g u) : ∃ h p, g = xCell 1 c h p := by
  obtain ⟨p, -, hp⟩ := Tal_pos H
  rw [Pi.add_apply, Finsupp.add_apply] at hp
  rcases Nat.add_pos_iff_pos_or_pos.mp hp with hp | hp
  · exact ⟨0, p, tallyAt_pos hp⟩
  · exact ⟨1, p, tallyAt_pos hp⟩
theorem owB_pos {c : Dev nD} {k : ℕ} {g : GSem nD τ sig} {u : Unit} (H : 0 < owB c k g u) : ∃ p, g = barCell p := by
  unfold owB at H
  rw [Finset.sum_apply, Finsupp.finset_sum_apply] at H
  obtain ⟨t, -, ht⟩ := Finset.exists_ne_zero_of_sum_ne_zero (Nat.pos_iff_ne_zero.mp H)
  by_cases hc : t.val = 7 ∨ t.val < k
  · rw [if_pos hc] at ht; exact absurd rfl ht
  · rw [if_neg hc] at ht; exact ⟨_, tallyAt_pos (Nat.pos_of_ne_zero ht)⟩

theorem owB_step (c : Dev nD) (t : Fin 8) (h : t.val ≠ 7) : owB c t.val = owB c (t.val + 1) + tallyAt (barCell (sgn c t)) () 1 := by
  unfold owB
  rw [← Finset.add_sum_erase _ _ (Finset.mem_univ t), ← Finset.add_sum_erase (a := t) _ (fun t' : Fin 8 => if t'.val = 7 ∨ t'.val < t.val + 1 then 0 else tallyAt (barCell (sgn c t')) () 1) (Finset.mem_univ t)]
  rw [if_neg (by simp only [h, false_or]; exact Nat.lt_irrefl _), if_pos (Or.inr (Nat.lt_succ_self _)), zero_add, add_comm]
  congr 1
  refine Finset.sum_congr rfl fun p hp => ?_
  have hne : p.val ≠ t.val := fun e => (Finset.mem_erase.mp hp).1 (Fin.ext e)
  by_cases hc : p.val = 7
  · rw [if_pos (Or.inl hc), if_pos (Or.inl hc)]
  · by_cases h : p.val < t.val
    · rw [if_pos (Or.inr h), if_pos (Or.inr (by omega))]
    · rw [if_neg (by simp only [hc, false_or]; exact h), if_neg (by simp only [hc, false_or]; omega)]
theorem owB_seven (c : Dev nD) : owB c 7 = 0 := Finset.sum_eq_zero fun t _ => if_pos (by have := t.isLt; omega)

/-- A wait at a cell of level `b`, owing only at cells of levels above it. -/
theorem mayWait (c : Dev nD) (sm : SemLoc sig) (b : ℕ) (O : CellTallies nD τ sig Unit) (hb : lv ((c : Thread nD τ), sm) () ≤ b)
    (hO : ∀ g u, 0 < O g u → g.1.2 = .tc ∧ b < lv g ()) :
    (levAts L lv : sProp 𝕄) ⊢ MayWait (c : Thread nD τ) sm () O :=
  MayOwe.of_cut (L := L) (lev := lv) b (fun p hp => by rw [Finset.mem_singleton.mp hp, L_tc]; exact Finset.mem_singleton_self _)
    (fun g u hg => by unfold L; rw [if_pos (hO g u hg).1]; exact Finset.mem_singleton_self _)
    (fun p hp => by rw [Finset.mem_singleton.mp hp]; exact hb)
    (fun g u hg => (hO g u hg).2)

theorem mayWait_bar (c : Dev nD) : (levAts L lv : sProp 𝕄) ⊢ MayWait (c : Thread nD τ) (.reg barS) () (owG 1 c 0 + owG 0 c 0 + owR c 0) := by
  refine mayWait c _ 1 _ (le_of_eq (lv_bar c)) fun g u h => ?_
  rw [Pi.add_apply, Pi.add_apply, Finsupp.add_apply, Finsupp.add_apply] at h
  rcases Nat.add_pos_iff_pos_or_pos.mp h with h | h
  · rcases Nat.add_pos_iff_pos_or_pos.mp h with h | h
    · obtain ⟨p, rfl⟩ := owG_pos h; exact ⟨rfl, by rw [lv_x]; decide⟩
    · obtain ⟨p, rfl⟩ := owG_pos h; exact ⟨rfl, by rw [lv_x]; decide⟩
  · obtain ⟨h, p, rfl⟩ := owR_pos h; exact ⟨rfl, by rw [lv_x]; decide⟩

theorem mayWait_r0 (c t : Dev nD) (h : Fin 2) : (levAts L lv : sProp 𝕄) ⊢ MayWait (c : Thread nD τ) (.dma (xsem 1 t h)) () (owG 1 c 0 + owG 0 c 0) := by
  refine mayWait c _ 2 _ (le_of_eq (lv_x 1 t h c)) fun g u h => ?_
  rw [Pi.add_apply, Finsupp.add_apply] at h
  rcases Nat.add_pos_iff_pos_or_pos.mp h with h | h
  · obtain ⟨p, rfl⟩ := owG_pos h; exact ⟨rfl, by rw [lv_x]; decide⟩
  · obtain ⟨p, rfl⟩ := owG_pos h; exact ⟨rfl, by rw [lv_x]; decide⟩
theorem mayWait_r1 (c t : Dev nD) (h : Fin 2) : (levAts L lv : sProp 𝕄) ⊢ MayWait (c : Thread nD τ) (.dma (xsem 1 t h)) () (owG 1 c 0) := by
  refine mayWait c _ 2 _ (le_of_eq (lv_x 1 t h c)) fun g u h => ?_
  obtain ⟨p, rfl⟩ := owG_pos h; exact ⟨rfl, by rw [lv_x]; decide⟩

/-! ## The cells' invariants -/

/-- The cells of the exchange on one device. -/
abbrev CellIx : Type := Option (Fin 4 × Dev nD × Fin 2)
def cellAt (c : Dev nD) : CellIx → GSem nD τ sig
  | none => barCell c
  | some (k, t, h) => xCell k t h c

/-- Every cell's invariant, at the names the launch gave. -/
def invs (K : GSem nD τ sig → ℕ) : sProp (MT nD τ sig Unit (Elt F) ℕ UU ℕ) :=
  bigSep Finset.univ fun p : Dev nD × CellIx => cellInv ER (Rd sC gC) (K (cellAt p.1 p.2)) (cellAt p.1 p.2)

instance invs_persistent (K : GSem nD τ sig → ℕ) : BI.Persistent (invs sC gC K) := by unfold invs; infer_instance

theorem invs_bar (K : GSem nD τ sig → ℕ) (c : Dev nD) : invs sC gC K ⊢ cellInv ER (Rd sC gC) (K (barCell c)) (barCell c) := by
  unfold invs
  exact BI.bigSep_elim (i := ((c, none) : Dev nD × CellIx)) (Finset.mem_univ _)
theorem invs_x (K : GSem nD τ sig → ℕ) (k : Fin 4) (t : Dev nD) (h : Fin 2) (c : Dev nD) :
    invs sC gC K ⊢ cellInv ER (Rd sC gC) (K (xCell k t h c)) (xCell k t h c) := by
  unfold invs
  exact BI.bigSep_elim (i := ((c, some (k, t, h)) : Dev nD × CellIx)) (Finset.mem_univ _)

end Cert.KernelIdeal.Proto

end
-- ==== Proof.Steps.lean ====
/-
  The steps of the exchange: one copy of a half-row of partial sums, one of a total, one wait; and each of them as it
  stands in the program, for every device but the one that runs.
-/
module

public import proofs.«01_k».proof.Proof.Protocol

@[expose] public section

set_option maxRecDepth 16384

noncomputable section

namespace Cert.KernelIdeal.Proto

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ UU ℕ

abbrev 𝒱₀ : Variants := Variants.none

/-- What a half-row slice addresses. -/
theorem half_emb_val {o : Fin 3 → ℕ} {inb : ∀ a, o a + S1x64x384.size a ≤ S8x64x768.size a} (x : S1x64x384.Idx) (a : Fin 3) :
    ((Rect.unit (s := S8x64x768) o S1x64x384.size inb).emb x a).val = o a + 1 * (x a).val := Rect.emb_apply ..

variable (sC : Dev nD → Buf8 F) (gC : Buf8 F)

/-- Slot `c` of device `t`'s receive buffer, once device `c`'s half-row `(t, h)` has landed. -/
theorem landed_r {c t : Dev nD} {h : Fin 2} {so do' : Fin 3 → ℕ} {inbs inbd} (hso : so = ![t.val, 0, 384 * h.val]) (hdo : do' = ![c.val, 0, 384 * h.val])
    {fs : Buf8 F} (hfs : ∀ i ∈ blk t h, fs i = sC c i) (fd : Buf8 F) :
    ∀ i ∈ blk c h, (halfM rM do' inbd).view.write (Elt F) fd ((halfM sM so inbs).view.read (Elt F) fs) Finset.univ i = rC sC t i := by
  intro i hi
  rw [← halfM_set3 (inb := inbd) hdo] at hi
  obtain ⟨x, -, rfl⟩ := Finset.mem_map.mp hi
  rw [View.write_emb_of_mem _ _ (Finset.mem_univ _), View.read_apply]
  have hs : (halfM sM so inbs).view.emb x ∈ blk t h := by
    rw [← halfM_set2 (inb := inbs) hso]; exact Finset.mem_map_of_mem _ (Finset.mem_univ _)
  show fs ((halfM sM so inbs).view.emb x) = sC ((halfM rM do' inbd).view.emb x 0) (at0 t ((halfM rM do' inbd).view.emb x))
  rw [hfs _ hs]
  obtain ⟨y, hy⟩ : ∃ y : S1x64x384.Idx, y = Shape.reshapeEquiv squeezes_S1x64x384_S64x384.numel_eq x := ⟨_, rfl⟩
  have h0 : (y 0).val = 0 := by have : (y 0).val < 1 := (y 0).isLt; omega
  have es : ∀ a : Fin 3, ((halfM sM so inbs).view.emb x a).val = so a + 1 * (y a).val := fun a => by rw [hy]; exact half_emb_val _ _
  have ed : ∀ a : Fin 3, ((halfM rM do' inbd).view.emb x a).val = do' a + 1 * (y a).val := fun a => by rw [hy]; exact half_emb_val _ _
  have s0 : so 0 = t.val := by rw [hso]; rfl
  have s1 : so 1 = do' 1 := by rw [hso, hdo]; rfl
  have s2 : so 2 = do' 2 := by rw [hso, hdo]; rfl
  have d0 : do' 0 = c.val := by rw [hdo]; rfl
  have e0 : ((halfM rM do' inbd).view.emb x 0 : Dev nD) = c := Fin.ext (by have := ed 0; omega)
  have e : (halfM sM so inbs).view.emb x = at0 t ((halfM rM do' inbd).view.emb x) := by
    funext a
    refine Fin.ext ((es a).trans ?_)
    fin_cases a
    · exact (show so 0 + 1 * (y 0).val = t.val by omega).trans (congrArg Fin.val (at0_zero t _)).symm
    · exact (show so 1 + 1 * (y 1).val = do' 1 + 1 * (y 1).val by omega).trans ((ed 1).symm.trans (congrArg Fin.val (at0_one t _)).symm)
    · exact (show so 2 + 1 * (y 2).val = do' 2 + 1 * (y 2).val by omega).trans ((ed 2).symm.trans (congrArg Fin.val (at0_two t _)).symm)
  rw [e, e0]

abbrev gHalf (o : Fin 3 → ℕ) (inb : ∀ a, o a + S1x64x384.size a ≤ S8x64x768.size a) : Memref sig .tc .vmem S1x64x384 .bf16 :=
  (gM : Memref sig .tc .vmem S8x64x768 .bf16).slice (Rect.unit (s := S8x64x768) o S1x64x384.size inb) (fun _ => rfl)

theorem gHalf_set {t : Dev nD} {h : Fin 2} {o : Fin 3 → ℕ} {inb} (ho : o = ![t.val, 0, 384 * h.val]) : (gHalf o inb).view.set = blk t h :=
  (View.set_slice_whole _ _).trans (unit_half_set ho)

/-- A total copied from one device's slot to the same slot of another's. -/
theorem landed_g {o o' : Fin 3 → ℕ} {inb inb'} (e : o' = o) (f fd : Buf8 F) :
    ∀ i ∈ (gHalf o' inb').view.set, (gHalf o' inb').view.write (Elt F) fd ((gHalf o inb).view.read (Elt F) f) Finset.univ i = f i := by
  subst e
  intro i hi
  obtain ⟨x, -, rfl⟩ := Finset.mem_map.mp hi
  rw [View.write_emb_of_mem _ _ (Finset.mem_univ _), View.read_apply]
  rfl

/-- Every device's cells, and the levels. -/
def Ctx (K : GSem nD τ sig → ℕ) : sProp (MT nD τ sig Unit (Elt F) ℕ UU ℕ) := iprop(invs sC gC K ∗ levAts L lv)
instance Ctx_persistent (K : GSem nD τ sig → ℕ) : BI.Persistent (Ctx sC gC K) := by unfold Ctx; infer_instance
theorem Ctx_invs (K : GSem nD τ sig → ℕ) : Ctx sC gC K ⊢ invs sC gC K := by unfold Ctx; iintro ⟨H, -⟩; iexact H
theorem Ctx_lev (K : GSem nD τ sig → ℕ) : Ctx sC gC K ⊢ levAts L lv := by unfold Ctx; iintro ⟨-, H⟩; iexact H
theorem Ctx_x (K : GSem nD τ sig → ℕ) (k : Fin 4) (t : Dev nD) (h : Fin 2) (c : Dev nD) :
    Ctx sC gC K ⊢ cellInv ER (Rd sC gC) (K (xCell k t h c)) (xCell k t h c) := (Ctx_invs sC gC K).trans (invs_x sC gC K k t h c)
theorem Ctx_bar (K : GSem nD τ sig → ℕ) (c : Dev nD) :
    Ctx sC gC K ⊢ cellInv ER (Rd sC gC) (K (barCell c)) (barCell c) := (Ctx_invs sC gC K).trans (invs_bar sC gC K c)

/-- What the device owes, whatever it has waited for. -/
def ow (c : Dev nD) (O : CellTallies nD τ sig Unit) : sProp (MT nD τ sig Unit (Elt F) ℕ UU ℕ) := iprop(∃ W, owes (c : Thread nD τ) O W)

/-- For the copy of the partial half-row `(t, h)`: the room on device `t` and the two duties. -/
def rT (c : Dev nD) (h : Fin 2) (t : Dev nD) : sProp (MT nD τ sig Unit (Elt F) ℕ UU ℕ) :=
  iprop(roomR c t h ∗ dutyTok ER (xCell 0 t h c) 0 0 ∗ reached ER (xCell 0 t h c) 0 ∗ dutyTok ER (xCell 1 c h t) 0 0)
/-- For the copy of the total, half `h`, to device `t`: the source's share, the room on device `t` and the two duties. -/
def gT (c : Dev nD) (h : Fin 2) (t : Dev nD) : sProp (MT nD τ sig Unit (Elt F) ℕ UU ℕ) :=
  iprop(gPt c (blk c h) (lf t) gC ∗ roomG c t h ∗ dutyTok ER (xCell 2 t h c) 0 0 ∗ reached ER (xCell 2 t h c) 0 ∗ dutyTok ER (xCell 3 c h t) 0 0)
/-- Its credit once issued. -/
def crd (k : Fin 4) (c : Dev nD) (h : Fin 2) (t : Dev nD) : sProp (MT nD τ sig Unit (Elt F) ℕ UU ℕ) := cred (tallyAt (xCell k t h c) () N)
/-- The position on a cell not yet waited for. -/
def pos (k : Fin 4) (c : Dev nD) (h : Fin 2) (t : Dev nD) : sProp (MT nD τ sig Unit (Elt F) ℕ UU ℕ) := atPos ER (xCell k t h c) 0 ∅ 0
def wT (k : Fin 4) (c : Dev nD) (h : Fin 2) (t : Dev nD) : sProp (MT nD τ sig Unit (Elt F) ℕ UU ℕ) := iprop(crd k c h t ∗ pos k c h t)
/-- Waited for: past the round, its payload received. -/
def wD (k : Fin 4) (c : Dev nD) (h : Fin 2) (t : Dev nD) : sProp (MT nD τ sig Unit (Elt F) ℕ UU ℕ) :=
  iprop(atPos ER (xCell k t h c) 1 ∅ 0 ∗ xPay sC gC k.val t h c)

variable {sC gC}
variable {K : GSem nD τ sig → ℕ} {α : Type} {Q : α → sProp (MT nD τ sig Unit (Elt F) ℕ UU ℕ)}

/-- One copy of a partial half-row. -/
theorem step_r {c t : Dev nD} (ht : t ≠ c) (h : Fin 2) {so do' : Fin 3 → ℕ} {inbs inbd} (hso : so = ![t.val, 0, 384 * h.val])
    (hdo : do' = ![c.val, 0, 384 * h.val]) {s₁ s₂ : DmaSem sig} (h₁ : s₁ = xsem 0 t h) (h₂ : s₂ = xsem 1 c h) {dv : Dev nD} (hdv : dv = t)
    {f : Buf8 F} (hf : ∀ i ∈ blk t h, f i = sC c i) {O₀ O : CellTallies nD τ sig Unit} (hO : O₀ = O + tallyAt (xCell 1 c h t) () N)
    {hsrc hdst hsem} {k : PUnit → Prog (TpuEff nD τ sig (Elt F) Λ₀ .tc) α} :
    iprop(Ctx sC gC K ∗ sPt c (blk t h) f ∗ rT c h t ∗ ow c O₀)
      ⊢ iprop(((crd 0 c h t ∗ ow c O) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (halfM sM so inbs) (.remote (Dev.tc dv) (halfM rM do' inbd) (.dma s₁)) (.dma s₂) hsrc hdst hsem) k) Q) := by
  subst h₁ h₂ hdv
  unfold rT roomR ow crd
  iintro ⟨#HC, Hs, ⟨⟨⟨%fd, Hd⟩, #HrV⟩, HtS, #HrS, HtV⟩, ⟨%W, HO⟩⟩ Hk
  iapply (Rounds.wp_send_pointsTo 𝒱₀ ER (Rd sC gC) (c : Thread nD τ) none (c' := (dv : Thread nD τ)) (src := halfM sM so inbs) (dst := halfM rM do' inbd)
      (sS := .dma (xsem 0 dv h)) (sem := .dma (xsem 1 c h)) (q := fullShare) (fs := f) (κ₁ := K (xCell 0 dv h c)) (κ₂ := K (xCell 1 c h dv))
      (r₁ := 0) (r₂ := 0) (d₁ := 0) (d₂ := 0) (fd := fd)
      (by rw [duties_x sC gC c 0 dv h ht]; exact Finset.mem_singleton_self _) (by rw [duties_x sC gC dv 1 c h ht.symm]; exact Finset.mem_singleton_self _)
      () () N rfl (amount_x sC gC c 0 dv h 0) (amount_x sC gC dv 1 c h 0) O hO (W := W)
      (by rw [payload_x, halfM_set2 hso]; exact Entails.of_eq (pointsTo_congr hf))
      (by rw [payload_x, halfM_set3 hdo]; exact Entails.of_eq (pointsTo_congr (landed_r sC hso hdo hf fd)))) $$ [Hs Hd HO HtS HtV]
  · isplitr; · iapply (Ctx_x sC gC K 0 dv h c); iexact HC
    isplitr; · iapply (Ctx_x sC gC K 1 c h dv); iexact HC
    isplitl [Hs]; · rw [halfM_set2 hso]; iexact Hs
    isplitl [Hd]; · rw [halfM_set3 hdo]; iexact Hd
    isplitl [HO]; · iexact HO
    isplitl [HtS]; · iexact HtS
    isplitr; · iexact HrS
    isplitl [HtV]; · iexact HtV
    iexact HrV
  iintro ⟨Hc, HO⟩
  iapply Hk
  isplitl [Hc]; · iexact Hc
  iexists W; iexact HO

/-- One copy of a total. -/
theorem step_g {c t : Dev nD} (ht : t ≠ c) (h : Fin 2) {so do' : Fin 3 → ℕ} {inbs inbd} (hso : so = ![c.val, 0, 384 * h.val])
    (hdo : do' = so) {s₁ s₂ : DmaSem sig} (h₁ : s₁ = xsem 2 t h) (h₂ : s₂ = xsem 3 c h) {dv : Dev nD} (hdv : dv = t)
    {O₀ O : CellTallies nD τ sig Unit} (hO : O₀ = O + tallyAt (xCell 3 c h t) () N)
    {hsrc hdst hsem} {k : PUnit → Prog (TpuEff nD τ sig (Elt F) Λ₀ .tc) α} :
    iprop(Ctx sC gC K ∗ gT gC c h t ∗ ow c O₀)
      ⊢ iprop(((crd 2 c h t ∗ ow c O) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (gHalf so inbs) (.remote (Dev.tc dv) (gHalf do' inbd) (.dma s₁)) (.dma s₂) hsrc hdst hsem) k) Q) := by
  subst h₁ h₂ hdv
  have hdo' : do' = ![c.val, 0, 384 * h.val] := hdo.trans hso
  unfold gT roomG ow crd
  iintro ⟨#HC, ⟨Hs, ⟨⟨%fd, Hd⟩, #HrV⟩, HtS, #HrS, HtV⟩, ⟨%W, HO⟩⟩ Hk
  iapply (Rounds.wp_send_pointsTo 𝒱₀ ER (Rd sC gC) (c : Thread nD τ) none (c' := (dv : Thread nD τ)) (src := gHalf so inbs) (dst := gHalf do' inbd)
      (sS := .dma (xsem 2 dv h)) (sem := .dma (xsem 3 c h)) (q := lf dv) (fs := gC) (κ₁ := K (xCell 2 dv h c)) (κ₂ := K (xCell 3 c h dv))
      (r₁ := 0) (r₂ := 0) (d₁ := 0) (d₂ := 0) (fd := fd)
      (by rw [duties_x sC gC c 2 dv h ht]; exact Finset.mem_singleton_self _) (by rw [duties_x sC gC dv 3 c h ht.symm]; exact Finset.mem_singleton_self _)
      () () N rfl (amount_x sC gC c 2 dv h 0) (amount_x sC gC dv 3 c h 0) O hO (W := W)
      (by rw [payload_x, gHalf_set hso]; exact BI.Entails.refl _)
      (by rw [payload_x, pointsTo_congr (landed_g hdo gC fd), gHalf_set hdo']; exact BI.Entails.refl _)) $$ [Hs Hd HO HtS HtV]
  · isplitr; · iapply (Ctx_x sC gC K 2 dv h c); iexact HC
    isplitr; · iapply (Ctx_x sC gC K 3 c h dv); iexact HC
    isplitl [Hs]; · rw [gHalf_set hso]; iexact Hs
    isplitl [Hd]; · rw [gHalf_set hdo']; iexact Hd
    isplitl [HO]; · iexact HO
    isplitl [HtS]; · iexact HtS
    isplitr; · iexact HrS
    isplitl [HtV]; · iexact HtV
    iexact HrV
  iintro ⟨Hc, HO⟩
  iapply Hk
  isplitl [Hc]; · iexact Hc
  iexists W; iexact HO

/-- One wait at a transfer cell. -/
theorem step_w {c t : Dev nD} (ht : t ≠ c) (k : Fin 4) (h : Fin 2) {sp sp' : Space} {s s' : Shape} {e e' : EltTy} {sm : DmaSem sig} (hs : sm = xsem k t h)
    {src : Memref sig .tc sp' s' e'} {κ' : Kind} {dst : Memref sig κ' sp s e} (hN : dst.view.dmaCredit = N)
    {O : CellTallies nD τ sig Unit} (hM : (levAts L lv : sProp 𝕄) ⊢ MayWait (c : Thread nD τ) (.dma (xsem k t h)) () O)
    {hsrc hdst} {kk : PUnit → Prog (TpuEff nD τ sig (Elt F) Λ₀ .tc) α} :
    iprop(Ctx sC gC K ∗ wT k c h t ∗ ow c O)
      ⊢ iprop(((wD sC gC k c h t ∗ ow c O) -∗ wp frame (wpE (defs₀ (F := F)) 𝒱₀ (c : Thread nD τ) none) Set.univ (kk ⟨⟩) Q)
          -∗ wp frame (wpE (defs₀ (F := F)) 𝒱₀ (c : Thread nD τ) none) Set.univ (.op (.waitDma2 sm src dst hsrc hdst) kk) Q) := by
  subst hs
  unfold wT wD crd pos ow
  iintro ⟨#HC, ⟨Hc, Hat⟩, ⟨%W, HO⟩⟩ Hk
  iapply (Rounds.wp_wait_rest_token 𝒱₀ ER (Rd sC gC) (c : Thread nD τ) none (κ := K (xCell k t h c)) (k' := N)
      (fun K' => (wpE_waitDma2_eq (src := src) (dst := dst) 𝒱₀ (c : Thread nD τ) none Set.univ K').trans (by rw [hN])) (Set.mem_univ _) () (O := O) (W := W) (R := 0) (m := 0) (T := ∅)
      ((Nat.zero_add _).trans (expect_x sC gC c k t h ht).symm)) $$ [Hc HO Hat]
  · isplitr; · iapply (Ctx_x sC gC K k t h c); iexact HC
    isplitl [Hc]; · iexact Hc
    isplitl [HO]; · iexact HO
    isplitr; · iapply hM; iapply (Ctx_lev sC gC K); iexact HC
    iexact Hat
  iintro ⟨HO, Hat, -, Hpay⟩
  ihave Hp := (Entails.of_eq (rest_x sC gC c k t h ht)) $$ Hpay
  iapply Hk
  isplitl [Hat Hp]
  · isplitl [Hat]; · iexact Hat
    iexact Hp
  iexists _; iexact HO

end Cert.KernelIdeal.Proto

end
-- ==== Proof.Phases.lean ====
/-
  The exchange in the order of the program: each statement guarded by "not this device", over the family of the devices
  not yet served.
-/
module

public import proofs.«01_k».proof.Proof.Steps

@[expose] public section

set_option maxRecDepth 16384

noncomputable section

namespace Cert.KernelIdeal.Proto

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ UU ℕ

variable {sC : Dev nD → Buf8 F} {gC : Buf8 F}
variable {K : GSem nD τ sig → ℕ} {α : Type} {Q : α → sProp (MT nD τ sig Unit (Elt F) ℕ UU ℕ)}
variable {R : sProp (MT nD τ sig Unit (Elt F) ℕ UU ℕ)} {c t : Dev nD}

abbrev WP (c : Dev nD) (p : Prog (TpuEff nD τ sig (Elt F) Λ₀ .tc) α) (Q : α → sProp (MT nD τ sig Unit (Elt F) ℕ UU ℕ)) : sProp (MT nD τ sig Unit (Elt F) ℕ UU ℕ) :=
  wp frame (wpE (defs₀ (F := F)) 𝒱₀ (c : Thread nD τ) none) Set.univ p Q

/-! ## The slots still to be sent -/

/-- The slots from `k` on, and the device's own. -/
def sReg (c : Dev nD) (k : ℕ) : Finset S8x64x768.Idx := Finset.univ.filter fun i => (i 0).val = c.val ∨ k ≤ (i 0).val

theorem mem_sReg {c : Dev nD} {k : ℕ} {i : S8x64x768.Idx} : i ∈ sReg c k ↔ (i 0).val = c.val ∨ k ≤ (i 0).val := by simp [sReg]
theorem sReg_zero (c : Dev nD) : sReg c 0 = Finset.univ := by ext i; simp [mem_sReg]
theorem sReg_eight (c : Dev nD) : sReg c 8 = row c := by
  ext i; have := slot_lt i; rw [mem_sReg, mem_row]; omega
theorem sReg_skip (h : t = c) : sReg c t.val = sReg c (t.val + 1) := by
  subst h; ext i; rw [mem_sReg, mem_sReg]; omega
theorem row_sub_sReg : row t ⊆ sReg c t.val := fun i hi => by rw [mem_row] at hi; rw [mem_sReg]; omega
theorem sReg_sdiff (h : t ≠ c) : sReg c t.val \ row t = sReg c (t.val + 1) := by
  have hne : t.val ≠ c.val := fun e => h (Fin.ext e)
  ext i; rw [Finset.mem_sdiff, mem_sReg, mem_sReg, mem_row]; omega

/-- The slot's two halves out of what is still to be sent. -/
theorem sReg_take (h : t ≠ c) (f : Buf8 F) :
    sPt c (sReg c t.val) f ⊢ iprop((sPt c (blk t 0) f ∗ sPt c (blk t 1) f) ∗ sPt c (sReg c (t.val + 1)) f) := by
  refine (pointsTo_split_subset (row_sub_sReg (c := c) (t := t))).1.trans (BIClass.sep_mono ?_ ?_)
  · rw [row_eq]; exact (pointsTo_union (blk_disj_half t t)).1
  · rw [sReg_sdiff h]

/-! ## Guards -/

/-- A guarded statement: what happens if the guard holds, and the state carried over if it does not. -/
theorem guard {cond : Prop} [Decidable cond] (hc : cond ↔ t ≠ c) {A B : sProp (MT nD τ sig Unit (Elt F) ℕ UU ℕ)}
    {P : cond → Prog (TpuEff nD τ sig (Elt F) Λ₀ .tc) α} {k : Prog (TpuEff nD τ sig (Elt F) Λ₀ .tc) α}
    (hP : (B ⊢ WP c k Q) → ∀ (h : cond), t ≠ c → A ⊢ WP c (P h) Q) (hs : t = c → A ⊢ B) (hK : B ⊢ WP c k Q) :
    A ⊢ WP c (dite cond P fun _ => k) Q := by
  by_cases h : cond
  · rw [dif_pos h]; exact hP hK h (hc.mp h)
  · rw [dif_neg h]; exact (hs (by by_contra e; exact h (hc.mpr e))).trans hK

/-! ## Sending the partial sums -/

/-- Before device `k`'s copies. -/
def sndR (sC : Dev nD → Buf8 F) (gC : Buf8 F) (K : GSem nD τ sig → ℕ) (R : sProp (MT nD τ sig Unit (Elt F) ℕ UU ℕ)) (f : Buf8 F) (c : Dev nD) (k : ℕ) :
    sProp (MT nD τ sig Unit (Elt F) ℕ UU ℕ) :=
  iprop(Ctx sC gC K ∗ R ∗ Fam c k (fun t => iprop(rT c 0 t ∗ rT c 1 t)) (fun t => iprop(crd 0 c 0 t ∗ crd 0 c 1 t))
    ∗ sPt c (sReg c k) f ∗ ow c (owG 1 c 0 + owG 0 c 0 + owR c k))

theorem sndR_skip {f : Buf8 F} (h : t = c) : sndR sC gC K R f c t.val ⊢ sndR sC gC K R f c (t.val + 1) := by
  unfold sndR owR
  rw [Fam_skip h, sReg_skip h, Tal_skip h]

theorem sndR_two {f : Buf8 F} (ht : t ≠ c) (hf : ∀ i ∈ row t, f i = sC c i)
    {so do' so' do'' : Fin 3 → ℕ} {inbs inbd inbs' inbd'}
    (hso : so = ![t.val, 0, 384 * (0 : Fin 2).val]) (hdo : do' = ![c.val, 0, 384 * (0 : Fin 2).val])
    (hso' : so' = ![t.val, 0, 384 * (1 : Fin 2).val]) (hdo' : do'' = ![c.val, 0, 384 * (1 : Fin 2).val])
    {s₁ s₂ s₁' s₂' : DmaSem sig} (h₁ : s₁ = xsem 0 t 0) (h₂ : s₂ = xsem 1 c 0) (h₁' : s₁' = xsem 0 t 1) (h₂' : s₂' = xsem 1 c 1)
    {dv dv' : Dev nD} (hdv : dv = t) (hdv' : dv' = t) {hsrc hdst hsem hsrc' hdst' hsem'}
    {k : Prog (TpuEff nD τ sig (Elt F) Λ₀ .tc) α} (hK : sndR sC gC K R f c (t.val + 1) ⊢ WP c k Q) :
    sndR sC gC K R f c t.val ⊢ WP c
      (.op (.enqueueDma (halfM sM so inbs) (.remote (Dev.tc dv) (halfM rM do' inbd) (.dma s₁)) (.dma s₂) hsrc hdst hsem) fun _ =>
        .op (.enqueueDma (halfM sM so' inbs') (.remote (Dev.tc dv') (halfM rM do'' inbd') (.dma s₁')) (.dma s₂') hsrc' hdst' hsem') fun _ => k) Q := by
  unfold sndR
  iintro ⟨#HC, HR, HF, Hs, HO⟩
  ihave HF' := (Fam_step ht) $$ HF
  icases HF' with ⟨⟨Ht0, Ht1⟩, HF⟩
  ihave Hs' := (sReg_take ht f) $$ Hs
  icases Hs' with ⟨⟨Hs0, Hs1⟩, Hs⟩
  iapply (step_r (K := K) (sC := sC) (gC := gC) ht 0 hso hdo h₁ h₂ hdv (f := f) (fun i hi => hf i (by rw [row_eq]; exact Finset.mem_union_left _ hi))
    (O := owG 1 c 0 + owG 0 c 0 + owR c (t.val + 1) + tallyAt (xCell 1 c 1 t) () N)
    (O₀ := owG 1 c 0 + owG 0 c 0 + owR c t.val) (by unfold owR; rw [Tal_step ht]; ac_rfl)) $$ [Hs0 Ht0 HO]
  · isplitr; · iexact HC
    isplitl [Hs0]; · iexact Hs0
    isplitl [Ht0]; · iexact Ht0
    iexact HO
  iintro ⟨Hc0, HO⟩
  iapply (step_r (K := K) (sC := sC) (gC := gC) ht 1 hso' hdo' h₁' h₂' hdv' (f := f) (fun i hi => hf i (by rw [row_eq]; exact Finset.mem_union_right _ hi))
    (O := owG 1 c 0 + owG 0 c 0 + owR c (t.val + 1)) rfl) $$ [Hs1 Ht1 HO]
  · isplitr; · iexact HC
    isplitl [Hs1]; · iexact Hs1
    isplitl [Ht1]; · iexact Ht1
    iexact HO
  iintro ⟨Hc1, HO⟩
  iapply hK
  unfold sndR
  isplitr; · iexact HC
  isplitl [HR]; · iexact HR
  isplitl [HF Hc0 Hc1]
  · iapply HF
    isplitl [Hc0]; · iexact Hc0
    iexact Hc1
  isplitl [Hs]; · iexact Hs
  iexact HO

theorem sndR_guard (t : Dev nD) {j j' : ℕ} (hj : t.val = j) (hj' : j + 1 = j') {f : Buf8 F} {cond : Prop} [Decidable cond] (hc : cond ↔ t ≠ c)
    {P : cond → Prog (TpuEff nD τ sig (Elt F) Λ₀ .tc) α} {k : Prog (TpuEff nD τ sig (Elt F) Λ₀ .tc) α}
    (hP : (sndR sC gC K R f c (t.val + 1) ⊢ WP c k Q) → ∀ (h : cond), t ≠ c → sndR sC gC K R f c t.val ⊢ WP c (P h) Q)
    (hK : sndR sC gC K R f c j' ⊢ WP c k Q) : sndR sC gC K R f c j ⊢ WP c (dite cond P fun _ => k) Q := by
  subst hj hj'
  exact guard hc hP (fun e => sndR_skip e) hK

/-! ## Sending the totals -/

/-- Before the copy of half `h` to device `k`; `X` is owed besides. -/
def sndG (sC : Dev nD → Buf8 F) (gC : Buf8 F) (K : GSem nD τ sig → ℕ) (R : sProp (MT nD τ sig Unit (Elt F) ℕ UU ℕ)) (X : CellTallies nD τ sig Unit)
    (h : Fin 2) (c : Dev nD) (k : ℕ) : sProp (MT nD τ sig Unit (Elt F) ℕ UU ℕ) :=
  iprop(Ctx sC gC K ∗ R ∗ Fam c k (gT gC c h) (crd 2 c h) ∗ ow c (X + owG h c k))

theorem sndG_skip {X : CellTallies nD τ sig Unit} {h : Fin 2} (e : t = c) : sndG sC gC K R X h c t.val ⊢ sndG sC gC K R X h c (t.val + 1) := by
  unfold sndG owG
  rw [Fam_skip e, Tal_skip e]

theorem sndG_one {X : CellTallies nD τ sig Unit} {h : Fin 2} (ht : t ≠ c)
    {so do' : Fin 3 → ℕ} {inbs inbd} (hso : so = ![c.val, 0, 384 * h.val]) (hdo : do' = so)
    {s₁ s₂ : DmaSem sig} (h₁ : s₁ = xsem 2 t h) (h₂ : s₂ = xsem 3 c h) {dv : Dev nD} (hdv : dv = t) {hsrc hdst hsem}
    {k : Prog (TpuEff nD τ sig (Elt F) Λ₀ .tc) α} (hK : sndG sC gC K R X h c (t.val + 1) ⊢ WP c k Q) :
    sndG sC gC K R X h c t.val ⊢ WP c
      (.op (.enqueueDma (gHalf so inbs) (.remote (Dev.tc dv) (gHalf do' inbd) (.dma s₁)) (.dma s₂) hsrc hdst hsem) fun _ => k) Q := by
  unfold sndG
  iintro ⟨#HC, HR, HF, HO⟩
  ihave HF' := (Fam_step ht) $$ HF
  icases HF' with ⟨Ht, HF⟩
  iapply (step_g (K := K) (sC := sC) ht h hso hdo h₁ h₂ hdv (gC := gC) (O := X + owG h c (t.val + 1))
    (O₀ := X + owG h c t.val) (by unfold owG; rw [Tal_step ht]; ac_rfl)) $$ [Ht HO]
  · isplitr; · iexact HC
    isplitl [Ht]; · iexact Ht
    iexact HO
  iintro ⟨Hc, HO⟩
  iapply hK
  unfold sndG
  isplitr; · iexact HC
  isplitl [HR]; · iexact HR
  isplitl [HF Hc]; · iapply HF; iexact Hc
  iexact HO

theorem sndG_guard (t : Dev nD) {j j' : ℕ} (hj : t.val = j) (hj' : j + 1 = j') {X : CellTallies nD τ sig Unit} {h : Fin 2} {cond : Prop} [Decidable cond]
    (hc : cond ↔ t ≠ c) {P : cond → Prog (TpuEff nD τ sig (Elt F) Λ₀ .tc) α} {k : Prog (TpuEff nD τ sig (Elt F) Λ₀ .tc) α}
    (hP : (sndG sC gC K R X h c (t.val + 1) ⊢ WP c k Q) → ∀ (_ : cond), t ≠ c → sndG sC gC K R X h c t.val ⊢ WP c (P ‹_›) Q)
    (hK : sndG sC gC K R X h c j' ⊢ WP c k Q) : sndG sC gC K R X h c j ⊢ WP c (dite cond P fun _ => k) Q := by
  subst hj hj'
  exact guard hc hP (fun e => sndG_skip e) hK

/-! ## Waiting -/

/-- Before the wait for device `k`'s half `h`. -/
def wtOne (sC : Dev nD → Buf8 F) (gC : Buf8 F) (K : GSem nD τ sig → ℕ) (R : sProp (MT nD τ sig Unit (Elt F) ℕ UU ℕ)) (O : CellTallies nD τ sig Unit)
    (a : Fin 4) (h : Fin 2) (c : Dev nD) (k : ℕ) : sProp (MT nD τ sig Unit (Elt F) ℕ UU ℕ) :=
  iprop(Ctx sC gC K ∗ R ∗ Fam c k (wT a c h) (wD sC gC a c h) ∗ ow c O)

theorem wtOne_skip {O : CellTallies nD τ sig Unit} {a : Fin 4} {h : Fin 2} (e : t = c) : wtOne sC gC K R O a h c t.val ⊢ wtOne sC gC K R O a h c (t.val + 1) := by
  unfold wtOne
  rw [Fam_skip e]

theorem wtOne_one {O : CellTallies nD τ sig Unit} {a : Fin 4} {h : Fin 2} (ht : t ≠ c)
    (hM : (levAts L lv : sProp 𝕄) ⊢ MayWait (c : Thread nD τ) (.dma (xsem a t h)) () O)
    {sp sp' : Space} {s s' : Shape} {e e' : EltTy} {sm : DmaSem sig} (hs : sm = xsem a t h)
    {src : Memref sig .tc sp' s' e'} {κ' : Kind} {dst : Memref sig κ' sp s e} (hN : dst.view.dmaCredit = N) {hsrc hdst}
    {k : Prog (TpuEff nD τ sig (Elt F) Λ₀ .tc) α} (hK : wtOne sC gC K R O a h c (t.val + 1) ⊢ WP c k Q) :
    wtOne sC gC K R O a h c t.val ⊢ WP c (.op (.waitDma2 sm src dst hsrc hdst) fun _ => k) Q := by
  unfold wtOne
  iintro ⟨#HC, HR, HF, HO⟩
  ihave HF' := (Fam_step ht) $$ HF
  icases HF' with ⟨Ht, HF⟩
  iapply (step_w (K := K) (sC := sC) (gC := gC) ht a h hs (src := src) hN hM) $$ [Ht HO]
  · isplitr; · iexact HC
    isplitl [Ht]; · iexact Ht
    iexact HO
  iintro ⟨Hc, HO⟩
  iapply hK
  unfold wtOne
  isplitr; · iexact HC
  isplitl [HR]; · iexact HR
  isplitl [HF Hc]; · iapply HF; iexact Hc
  iexact HO

theorem wtOne_guard (t : Dev nD) {j j' : ℕ} (hj : t.val = j) (hj' : j + 1 = j') {O : CellTallies nD τ sig Unit} {a : Fin 4} {h : Fin 2} {cond : Prop} [Decidable cond]
    (hc : cond ↔ t ≠ c) {P : cond → Prog (TpuEff nD τ sig (Elt F) Λ₀ .tc) α} {k : Prog (TpuEff nD τ sig (Elt F) Λ₀ .tc) α}
    (hP : (wtOne sC gC K R O a h c (t.val + 1) ⊢ WP c k Q) → ∀ (_ : cond), t ≠ c → wtOne sC gC K R O a h c t.val ⊢ WP c (P ‹_›) Q)
    (hK : wtOne sC gC K R O a h c j' ⊢ WP c k Q) : wtOne sC gC K R O a h c j ⊢ WP c (dite cond P fun _ => k) Q := by
  subst hj hj'
  exact guard hc hP (fun e => wtOne_skip e) hK

/-- Before the waits for device `k`'s two halves, owing nothing. -/
def wtTwo (sC : Dev nD → Buf8 F) (gC : Buf8 F) (K : GSem nD τ sig → ℕ) (R : sProp (MT nD τ sig Unit (Elt F) ℕ UU ℕ))
    (a : Fin 4) (c : Dev nD) (k : ℕ) : sProp (MT nD τ sig Unit (Elt F) ℕ UU ℕ) :=
  iprop(Ctx sC gC K ∗ R ∗ Fam c k (fun t => iprop(wT a c 0 t ∗ wT a c 1 t)) (fun t => iprop(wD sC gC a c 0 t ∗ wD sC gC a c 1 t)) ∗ ow c 0)

theorem wtTwo_skip {a : Fin 4} (e : t = c) : wtTwo sC gC K R a c t.val ⊢ wtTwo sC gC K R a c (t.val + 1) := by
  unfold wtTwo
  rw [Fam_skip e]

theorem mayWait_none (c : Dev nD) (sm : SemLoc sig) : (levAts L lv : sProp 𝕄) ⊢ MayWait (c : Thread nD τ) sm () 0 := by
  rw [MayWait_zero]; iintro -; iempintro

theorem wtTwo_two {a : Fin 4} (ht : t ≠ c)
    {sp sp' sp₁ sp₁' : Space} {s s' s₁ s₁' : Shape} {e e' e₁ e₁' : EltTy} {sm sm₁ : DmaSem sig} (hs : sm = xsem a t 0) (hs₁ : sm₁ = xsem a t 1)
    {src : Memref sig .tc sp' s' e'} {κ' κ₁' : Kind} {dst : Memref sig κ' sp s e} (hN : dst.view.dmaCredit = N) {hsrc hdst}
    {src₁ : Memref sig .tc sp₁' s₁' e₁'} {dst₁ : Memref sig κ₁' sp₁ s₁ e₁} (hN₁ : dst₁.view.dmaCredit = N) {hsrc₁ hdst₁}
    {k : Prog (TpuEff nD τ sig (Elt F) Λ₀ .tc) α} (hK : wtTwo sC gC K R a c (t.val + 1) ⊢ WP c k Q) :
    wtTwo sC gC K R a c t.val ⊢ WP c (.op (.waitDma2 sm src dst hsrc hdst) fun _ => .op (.waitDma2 sm₁ src₁ dst₁ hsrc₁ hdst₁) fun _ => k) Q := by
  unfold wtTwo
  iintro ⟨#HC, HR, HF, HO⟩
  ihave HF' := (Fam_step ht) $$ HF
  icases HF' with ⟨⟨Ht0, Ht1⟩, HF⟩
  iapply (step_w (K := K) (sC := sC) (gC := gC) ht a 0 hs (src := src) hN (mayWait_none c _)) $$ [Ht0 HO]
  · isplitr; · iexact HC
    isplitl [Ht0]; · iexact Ht0
    iexact HO
  iintro ⟨Hc0, HO⟩
  iapply (step_w (K := K) (sC := sC) (gC := gC) ht a 1 hs₁ (src := src₁) hN₁ (mayWait_none c _)) $$ [Ht1 HO]
  · isplitr; · iexact HC
    isplitl [Ht1]; · iexact Ht1
    iexact HO
  iintro ⟨Hc1, HO⟩
  iapply hK
  unfold wtTwo
  isplitr; · iexact HC
  isplitl [HR]; · iexact HR
  isplitl [HF Hc0 Hc1]
  · iapply HF
    isplitl [Hc0]; · iexact Hc0
    iexact Hc1
  iexact HO

theorem wtTwo_guard (t : Dev nD) {j j' : ℕ} (hj : t.val = j) (hj' : j + 1 = j') {a : Fin 4} {cond : Prop} [Decidable cond]
    (hc : cond ↔ t ≠ c) {P : cond → Prog (TpuEff nD τ sig (Elt F) Λ₀ .tc) α} {k : Prog (TpuEff nD τ sig (Elt F) Λ₀ .tc) α}
    (hP : (wtTwo sC gC K R a c (t.val + 1) ⊢ WP c k Q) → ∀ (_ : cond), t ≠ c → wtTwo sC gC K R a c t.val ⊢ WP c (P ‹_›) Q)
    (hK : wtTwo sC gC K R a c j' ⊢ WP c k Q) : wtTwo sC gC K R a c j ⊢ WP c (dite cond P fun _ => k) Q := by
  subst hj hj'
  exact guard hc hP (fun e => wtTwo_skip e) hK

/-! ## The barrier -/

/-- What device `c`'s signal to device `p` needs. -/
def sgT (c p : Dev nD) : sProp (MT nD τ sig Unit (Elt F) ℕ UU ℕ) :=
  iprop(dutyTok ER (barCell p) 0 c ∗ reached ER (barCell p) 0 ∗ barPay p c)

/-- Before the `k`-th signal. -/
def sgn_ (sC : Dev nD → Buf8 F) (gC : Buf8 F) (K : GSem nD τ sig → ℕ) (R : sProp (MT nD τ sig Unit (Elt F) ℕ UU ℕ)) (c : Dev nD) (k : ℕ) :
    sProp (MT nD τ sig Unit (Elt F) ℕ UU ℕ) :=
  iprop(Ctx sC gC K ∗ R ∗ bigSep Finset.univ (fun t : Fin 8 => if t.val = 7 ∨ t.val < k then iprop(emp) else sgT c (sgn c t))
    ∗ ow c (owG 1 c 0 + owG 0 c 0 + owR c 0 + owB c k))

theorem sgn_ne (c : Dev nD) (t : Fin 8) (h : t.val ≠ 7) : sgn c t ≠ c := by
  revert c t; decide

theorem sgn_step (n : Fin 8) (hn : n.val ≠ 7) {dv : Dev nD} (hdv : dv = sgn c n)
    {k : Prog (TpuEff nD τ sig (Elt F) Λ₀ .tc) α} (hK : sgn_ sC gC K R c (n.val + 1) ⊢ WP c k Q) :
    sgn_ sC gC K R c n.val ⊢ WP c (.op (.semSignal (Dev.tc dv) barS 1) fun _ => k) Q := by
  subst hdv
  have hs : bigSep Finset.univ (fun t : Fin 8 => if t.val = 7 ∨ t.val < n.val then iprop(emp) else sgT c (sgn c t))
      ⊢ iprop(sgT c (sgn c n) ∗ bigSep Finset.univ (fun t : Fin 8 => if t.val = 7 ∨ t.val < n.val + 1 then iprop(emp) else (sgT c (sgn c t) : sProp 𝕄))) := by
    rw [split_at n (fun t : Fin 8 => if t.val = 7 ∨ t.val < n.val then iprop(emp) else (sgT c (sgn c t) : sProp 𝕄)),
      split_at n (fun t : Fin 8 => if t.val = 7 ∨ t.val < n.val + 1 then iprop(emp) else (sgT c (sgn c t) : sProp 𝕄)),
      if_neg (by simp only [hn, false_or]; exact Nat.lt_irrefl _), if_pos (Or.inr (Nat.lt_succ_self _))]
    refine sep_mono_right (BI.Entails.trans (Entails.of_eq (BI.bigSep_congr fun p hp => ?_)) emp_sep.2)
    have hne : p.val ≠ n.val := fun e => (Finset.mem_erase.mp hp).1 (Fin.ext e)
    by_cases hc : p.val = 7
    · rw [if_pos (Or.inl hc), if_pos (Or.inl hc)]
    · by_cases h : p.val < n.val
      · rw [if_pos (Or.inr h), if_pos (Or.inr (by omega))]
      · rw [if_neg (by simp only [hc, false_or]; exact h), if_neg (by simp only [hc, false_or]; omega)]
  unfold sgn_
  iintro ⟨#HC, HR, HF, HO⟩
  ihave HF' := hs $$ HF
  icases HF' with ⟨Ht, HF⟩
  unfold sgT ow
  icases Ht with ⟨Htk, #Hr, Hpay⟩
  icases HO with ⟨%W, HO⟩
  iapply (Rounds.wp_signal 𝒱₀ ER (Rd sC gC) (c : Thread nD τ) none (dst := (sgn c n : Thread nD τ)) (sem := barS) (r := 0) (d := c) (κ := K (barCell (sgn c n)))
      (by rw [duties_bar]; exact Finset.mem_erase.mpr ⟨(sgn_ne c n hn).symm, Finset.mem_univ _⟩) (O₀ := owG 1 c 0 + owG 0 c 0 + owR c 0 + owB c n.val) (amount_bar sC gC (sgn c n) c) ()
      (owG 1 c 0 + owG 0 c 0 + owR c 0 + owB c (n.val + 1)) (by rw [owB_step c n hn]; ac_rfl))
    $$ [HO Htk Hpay]
  · isplitr; · iapply (Ctx_bar sC gC K (sgn c n)); iexact HC
    isplitl [HO]; · iexact HO
    isplitl [Htk]; · iexact Htk
    isplitl [Hpay]; · rw [payload_bar]; iexact Hpay
    iexact Hr
  iintro HO
  iapply hK
  unfold sgn_ ow
  isplitr; · iexact HC
  isplitl [HR]; · iexact HR
  isplitl [HF]; · unfold sgT; iexact HF
  iexists W; iexact HO

/-- The wait at the barrier: every other device's room is here. -/
theorem bar_wait {k : Prog (TpuEff nD τ sig (Elt F) Λ₀ .tc) α}
    (hK : iprop(Ctx sC gC K ∗ R ∗ atPos ER (barCell c) 1 ∅ 0 ∗ Oth c (fun p => barPay c p) ∗ ow c (owG 1 c 0 + owG 0 c 0 + owR c 0)) ⊢ WP c k Q) :
    iprop(Ctx sC gC K ∗ R ∗ cred (tallyAt (barCell c) () 7) ∗ atPos ER (barCell c) 0 ∅ 0 ∗ ow c (owG 1 c 0 + owG 0 c 0 + owR c 0))
      ⊢ WP c (.op (.semWait barS 7) fun _ => k) Q := by
  unfold ow
  iintro ⟨#HC, HR, Hc, Hat, ⟨%W, HO⟩⟩
  iapply (Rounds.wp_wait_rest_token 𝒱₀ ER (Rd sC gC) (c : Thread nD τ) none (κ := K (barCell c))
      (wpE_semWait_eq 𝒱₀ (c : Thread nD τ) none Set.univ) (Set.mem_univ _) () (O := owG 1 c 0 + owG 0 c 0 + owR c 0) (W := W) (R := 0) (m := 0) (T := ∅)
      ((Nat.zero_add _).trans (expect_bar sC gC c).symm)) $$ [Hc HO Hat]
  · isplitr; · iapply (Ctx_bar sC gC K c); iexact HC
    isplitl [Hc]; · iexact Hc
    isplitl [HO]; · iexact HO
    isplitr; · iapply (mayWait_bar c); iapply (Ctx_lev sC gC K); iexact HC
    iexact Hat
  iintro ⟨HO, Hat, -, Hpay⟩
  ihave Hp := (Entails.of_eq (rest_bar sC gC c)) $$ Hpay
  iapply hK
  isplitr; · iexact HC
  isplitl [HR]; · iexact HR
  isplitl [Hat]; · iexact Hat
  isplitl [Hp]; · iexact Hp
  unfold ow
  iexists _; iexact HO

end Cert.KernelIdeal.Proto

end
-- ==== Proof.Values.lean ====
/-
  What one device computes, as functions of its blocks: the projected queries, one attention head, the device's partial
  result, and from all devices' partial results the totals.
-/
module

public import proofs.«01_k».proof.Proof.Protocol
public import Idealize.ShloMosaic.Lib.Pointwise.Index

@[expose] public section

set_option maxRecDepth 16384

noncomputable section

namespace Cert.KernelIdeal.Proto

open Idealize.ShloMosaic Idealize.ShloMosaic.TcCoe
open Cert.KernelIdeal Cert.KernelIdeal.Gen

variable {F : FTy → Type} [FloatOps F]

/-- What a load of a box reads. -/
abbrev rd {α : Type} {s : Shape} (X : s.Idx → α) (o : Fin s.rank → ℕ) (sz : Fin s.rank → ℕ) (inb : ∀ a, o a + sz a ≤ s.size a) :
    (⟨s.rank, sz⟩ : Shape).Idx → α := fun i => X ((Rect.unit (s := s) o sz inb).emb i)

theorem inbQ (b : Fin 2) (h : Fin 8) : ∀ a, (![256 * b.val, 64 * h.val] : Fin 2 → ℕ) a + S256x64.size a ≤ S512x512.size a := by
  revert b h; decide
theorem inbK (b : Fin 2) (h : Fin 8) : ∀ a, (![b.val, h.val, 0, 0] : Fin 4 → ℕ) a + S1x1x512x64.size a ≤ S2x8x512x64.size a := by
  revert b h; decide
theorem inbA (b : Fin 2) : ∀ a, (![256 * b.val, 0] : Fin 2 → ℕ) a + S256x512.size a ≤ S512x512.size a := by
  revert b; decide

/-- Batch `b`'s rows and head `h`'s columns of the queries. -/
def rdQ (q : Vec F S512x512 .bf16) (b : Fin 2) (h : Fin 8) : Vec F S256x64 .bf16 := rd q ![256 * b.val, 64 * h.val] S256x64.size (inbQ b h)
/-- Batch `b`, head `h` of the keys or values. -/
def rdK (k : Vec F S2x8x512x64 .bf16) (b : Fin 2) (h : Fin 8) : Vec F S1x1x512x64 .bf16 := rd k ![b.val, h.val, 0, 0] S1x1x512x64.size (inbK b h)
/-- Batch `b`'s rows of the heads' results. -/
def rdA (a : Vec F S512x512 .bf16) (b : Fin 2) : Vec F S256x512 .bf16 := rd a ![256 * b.val, 0] S256x512.size (inbA b)

/-- The projected queries. -/
def qF (x : Vec F S2x256x768 .bf16) (wq : Vec F S768x512 .bf16) : Vec F S512x512 .bf16 := k0_pay1 x wq
/-- One head. -/
def headO (q : Vec F S256x64 .bf16) (k v : Vec F S1x1x512x64 .bf16) : Vec F S256x64 .bf16 := k0_pay7 q k v

/-- All heads' results side by side. -/
def aF (q : Vec F S512x512 .bf16) (k v : Vec F S2x8x512x64 .bf16) : Vec F S512x512 .bf16 := fun i =>
  let b : Fin 2 := ⟨(i 0).val / 256, by have : (i 0).val < 512 := (i 0).isLt; omega⟩
  let h : Fin 8 := ⟨(i 1).val / 64, by have : (i 1).val < 512 := (i 1).isLt; omega⟩
  headO (rdQ q b h) (rdK k b h) (rdK v b h)
    (ix2 (⟨(i 0).val % 256, Nat.mod_lt _ (by decide)⟩ : Fin 256) (⟨(i 1).val % 64, Nat.mod_lt _ (by decide)⟩ : Fin 64))

/-- One batch's part of the result: four slots. -/
def partF (a : Vec F S256x512 .bf16) (wo : Vec F S512x768 .bf16) : Vec F S4x64x768 .bf16 := k0_pay20 a wo

/-- The device's partial result. -/
def sF (x : Vec F S2x256x768 .bf16) (wq : Vec F S768x512 .bf16) (k v : Vec F S2x8x512x64 .bf16) (wo : Vec F S512x768 .bf16) : Buf8 F := fun i =>
  let b : Fin 2 := ⟨(i 0).val / 4, by have := slot_lt i; omega⟩
  partF (rdA (aF (qF x wq) k v) b) (k0_pay2 wo)
    (ix3 (⟨(i 0).val % 4, Nat.mod_lt _ (by decide)⟩ : Fin 4) (⟨(i 1).val, (i 1).isLt⟩ : Fin 64) (⟨(i 2).val, (i 2).isLt⟩ : Fin 768))

theorem inbH (h : Fin 2) : ∀ a, (![0, 0, 384 * h.val] : Fin 3 → ℕ) a + S8x64x384.size a ≤ S8x64x768.size a := by
  revert h; decide

/-- The sum over the slots of one half. -/
def sumF (r : Buf8 F) (h : Fin 2) : Vec F S1x64x384 .bf16 := k0_pay37 (rd r ![0, 0, 384 * h.val] S8x64x384.size (inbH h))

/-- The totals: slot `t` is what device `t` adds up. -/
def gF (sC : Dev nD → Buf8 F) : Buf8 F := fun i =>
  let h : Fin 2 := ⟨(i 2).val / 384, by have : (i 2).val < 768 := (i 2).isLt; omega⟩
  sumF (rC sC (i 0)) h
    (ix3 (0 : Fin 1) (⟨(i 1).val, (i 1).isLt⟩ : Fin 64) (⟨(i 2).val % 384, Nat.mod_lt _ (by decide)⟩ : Fin 384))

/-- The result. -/
def oF (g : Buf8 F) : Vec F S8x64x768 .f32 := k0_pay39 g

/-! ## The program's spellings of one head -/

section Heads
variable (q : Vec F S256x64 .bf16) (k v : Vec F S1x1x512x64 .bf16)

theorem head6 : k0_pay6 (k0_pay4 q k) (k0_pay5 q k) v = headO q k v := rfl
theorem head9 : k0_pay9 q (k0_pay8 k) (constant S256x512 .f32 0x00000000#32) v = headO q k v := rfl
theorem head11 : k0_pay11 (k0_pay10 q k v) = headO q k v := rfl
theorem head12 : k0_pay12 q k v = headO q k v := rfl
theorem head16 : k0_pay16 (k0_pay14 q k) (k0_pay15 q k) v = headO q k v := rfl
theorem head17 : k0_pay17 q k v = headO q k v := rfl
theorem head19 : k0_pay19 q (k0_pay18 k) (constant S256x512 .f32 0x00000000#32) v = headO q k v := rfl
theorem head21 : k0_pay21 q k v = headO q k v := rfl
theorem head23 : k0_pay23 (k0_pay22 q k) v = headO q k v := rfl
theorem head24 : k0_pay24 q k v = headO q k v := rfl
theorem head25 : k0_pay25 q k v = headO q k v := rfl
theorem head30 : k0_pay30 (k0_pay27 q k) (k0_pay28 q k) (k0_pay29 v) (constant S256x64 .f32 0x00000000#32) = headO q k v := rfl
theorem head31 : k0_pay31 q k v = headO q k v := rfl
theorem head33 : k0_pay33 (k0_pay32 q k) v = headO q k v := rfl
theorem head34 : k0_pay34 q k v = headO q k v := rfl
end Heads

theorem part35 (a : Vec F S256x512 .bf16) (wo : Vec F S512x768 .bf16) : k0_pay35 a wo = partF a wo := rfl
theorem sum38 (a : Vec F S8x64x384 .bf16) : k0_pay38 a = k0_pay37 a := rfl

end Cert.KernelIdeal.Proto

end
-- ==== Proof.Mem.lean ====
/-
  The buffers a device keeps to itself, held together: what they hold, and what a load or a store of one of them does.
-/
module

public import proofs.«01_k».proof.Proof.Phases
public import proofs.«01_k».proof.Proof.Values

@[expose] public section

set_option maxRecDepth 16384

noncomputable section

namespace Cert.KernelIdeal.Proto

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen

variable {F : FTy → Type} [FloatOps F]

local notation "𝕄" => MT nD τ sig Unit (Elt F) ℕ UU ℕ

/-- The body's buffers, but the three the devices exchange. -/
structure Args where
  a0 : Memref sig .tc .vmem S2x256x768 .bf16
  h0 : a0.IsWhole
  a1 : Memref sig .tc .vmem S768x512 .bf16
  h1 : a1.IsWhole
  a2 : Memref sig .tc .vmem S2x8x512x64 .bf16
  h2 : a2.IsWhole
  a3 : Memref sig .tc .vmem S2x8x512x64 .bf16
  h3 : a3.IsWhole
  a4 : Memref sig .tc .vmem S512x768 .bf16
  h4 : a4.IsWhole
  a5 : Memref sig .tc .vmem S8x64x768 .f32
  h5 : a5.IsWhole
  a6 : Memref sig .tc .vmem S512x512 .bf16
  h6 : a6.IsWhole
  a7 : Memref sig .tc .vmem S512x512 .bf16
  h7 : a7.IsWhole
  a11 : Memref sig .tc .vmem S512x768 .bf16
  h11 : a11.IsWhole

/-- The body or a part of it at these buffers. -/
abbrev app.{u} {β : Type u} (A : Args)
    (f : (arg0 : Memref sig .tc .vmem S2x256x768 .bf16) → arg0.IsWhole → (arg1 : Memref sig .tc .vmem S768x512 .bf16) → arg1.IsWhole →
      (arg2 : Memref sig .tc .vmem S2x8x512x64 .bf16) → arg2.IsWhole → (arg3 : Memref sig .tc .vmem S2x8x512x64 .bf16) → arg3.IsWhole →
      (arg4 : Memref sig .tc .vmem S512x768 .bf16) → arg4.IsWhole → (arg5 : Memref sig .tc .vmem S8x64x768 .f32) → arg5.IsWhole →
      (arg6 : Memref sig .tc .vmem S512x512 .bf16) → arg6.IsWhole → (arg7 : Memref sig .tc .vmem S512x512 .bf16) → arg7.IsWhole →
      (arg8 : Memref sig .tc .vmem S8x64x768 .bf16) → arg8.IsWhole → (arg9 : Memref sig .tc .vmem S8x64x768 .bf16) → arg9.IsWhole →
      (arg10 : Memref sig .tc .vmem S8x64x768 .bf16) → arg10.IsWhole → (arg11 : Memref sig .tc .vmem S512x768 .bf16) → arg11.IsWhole →
      DmaSems sig S8x2 → DmaSems sig S8x2 → DmaSems sig S8x2 → DmaSems sig S8x2 → β) : β :=
  f A.a0 A.h0 A.a1 A.h1 A.a2 A.h2 A.a3 A.h3 A.a4 A.h4 A.a5 A.h5 A.a6 A.h6 A.a7 A.h7 sM (Memref.isWhole_whole _) rM (Memref.isWhole_whole _)
    gM (Memref.isWhole_whole _) A.a11 A.h11 cc0_scratch6 cc0_scratch7 cc0_scratch8 cc0_scratch9

/-- What those buffers hold. -/
structure Vals (F : FTy → Type) where
  x : Vec F S2x256x768 .bf16
  wq : Vec F S768x512 .bf16
  k : Vec F S2x8x512x64 .bf16
  v : Vec F S2x8x512x64 .bf16
  wo : Vec F S512x768 .bf16
  out : Vec F S8x64x768 .f32
  q : Vec F S512x512 .bf16
  a : Vec F S512x512 .bf16
  w : Vec F S512x768 .bf16

def Loc (A : Args) (c : Dev nD) (V : Vals F) : sProp (MT nD τ sig Unit (Elt F) ℕ UU ℕ) :=
  iprop(owns (c : Thread nD τ) A.a0 fullShare V.x ∗ owns (c : Thread nD τ) A.a1 fullShare V.wq ∗ owns (c : Thread nD τ) A.a2 fullShare V.k
    ∗ owns (c : Thread nD τ) A.a3 fullShare V.v ∗ owns (c : Thread nD τ) A.a4 fullShare V.wo ∗ owns (c : Thread nD τ) A.a5 fullShare V.out
    ∗ owns (c : Thread nD τ) A.a6 fullShare V.q ∗ owns (c : Thread nD τ) A.a7 fullShare V.a ∗ owns (c : Thread nD τ) A.a11 fullShare V.w)

variable {α : Type} {Q : α → sProp (MT nD τ sig Unit (Elt F) ℕ UU ℕ)} {S : sProp (MT nD τ sig Unit (Elt F) ℕ UU ℕ)} {c : Dev nD} {A : Args} {V : Vals F}

/-! ## One buffer -/

section One
variable {sp : CoreSpace} {s : Shape} {e : EltTy} {m : Memref sig .tc sp s e} {X : s.Idx → Elt F e} {r : Rect s}

theorem ld_owns {hl} {k : (r.shape.Idx → Elt F e) → Prog (TpuEff nD τ sig (Elt F) Λ₀ .tc) α} :
    owns (c : Thread nD τ) m fullShare X ⊢ iprop((owns (c : Thread nD τ) m fullShare X -∗ WP c (k (fun i => X (r.emb i))) Q)
      -∗ WP c (.op (.load m r.toLoadRect hl) k) Q) := by
  unfold owns
  iintro ⟨%f, %hf, H⟩ Hk
  subst hf
  iapply (wp_load 𝒱₀ (c : Thread nD τ) none Set.univ (hl := hl) (k := k) (View.setOn_subset_set _ _)) $$ [H]
  · iexact H
  iintro H
  iapply Hk
  iexists f
  isplitr; · ipureintro; rfl
  iexact H

theorem st_owns {w : r.shape.Idx → Elt F e} {hx hm} {k : PUnit → Prog (TpuEff nD τ sig (Elt F) Λ₀ .tc) α} :
    owns (c : Thread nD τ) m fullShare X
      ⊢ iprop(((∃ X' : s.Idx → Elt F e, ⌜(∀ i, X' (r.emb i) = w i) ∧ ∀ j, (∀ i, j ≠ r.emb i) → X' j = X j⌝ ∗ owns (c : Thread nD τ) m fullShare X') -∗ WP c (k ⟨⟩) Q)
        -∗ WP c (.op (.store m r w Finset.univ hx hm) k) Q) := by
  unfold owns
  iintro ⟨%f, %hf, H⟩ Hk
  subst hf
  iapply (wp_store 𝒱₀ (c : Thread nD τ) none Set.univ (hx := hx) (hm := hm) (k := k) (S := m.view.set) (f := f)
    (by show (m.access r).set ⊆ _; rw [View.set_slice]; exact View.setOn_subset_set _ _)) $$ [H]
  · iexact H
  iintro H
  iapply Hk
  iexists (m.view.read (Elt F) ((m.access r).write (Elt F) f w Finset.univ))
  isplitr
  · ipureintro
    refine ⟨fun i => ?_, fun j hj => ?_⟩
    · exact congrFun (View.read_write_univ (v := m.access r) f w) i
    · rw [View.read_apply, View.read_apply]
      refine congrArg (cast _) (View.write_of_not_mem (v := m.access r) _ _ _ ?_)
      intro hm
      obtain ⟨y, -, hy⟩ := Finset.mem_map.mp hm
      exact hj y (m.view.emb.injective hy).symm
  iexists _
  isplitr; · ipureintro; rfl
  iexact H

variable {T R' : sProp (MT nD τ sig Unit (Elt F) ℕ UU ℕ)} {T' : (s.Idx → Elt F e) → sProp (MT nD τ sig Unit (Elt F) ℕ UU ℕ)}

theorem ld_of {hl} {k : (r.shape.Idx → Elt F e) → Prog (TpuEff nD τ sig (Elt F) Λ₀ .tc) α} {v : r.shape.Idx → Elt F e}
    (h₁ : T ⊢ iprop(owns (c : Thread nD τ) m fullShare X ∗ R')) (h₂ : iprop(owns (c : Thread nD τ) m fullShare X ∗ R') ⊢ T)
    (hv : ∀ i, X (r.emb i) = v i) (hK : T ⊢ WP c (k v) Q) : T ⊢ WP c (.op (.load m r.toLoadRect hl) k) Q := by
  obtain rfl : (fun i => X (r.emb i)) = v := funext hv
  refine h₁.trans ?_
  iintro ⟨H, HR⟩
  iapply (ld_owns (X := X) (r := r) (hl := hl) (k := k)) $$ H
  iintro H
  iapply hK
  iapply h₂
  isplitl [H]; · iexact H
  iexact HR

theorem st_of {w : r.shape.Idx → Elt F e} {hx hm} {k : PUnit → Prog (TpuEff nD τ sig (Elt F) Λ₀ .tc) α}
    (h₁ : T ⊢ iprop(owns (c : Thread nD τ) m fullShare X ∗ R')) (h₂ : ∀ X', iprop(owns (c : Thread nD τ) m fullShare X' ∗ R') ⊢ T' X')
    (hK : ∀ X' : s.Idx → Elt F e, (∀ i, X' (r.emb i) = w i) → (∀ j, (∀ i, j ≠ r.emb i) → X' j = X j) → T' X' ⊢ WP c (k ⟨⟩) Q) :
    T ⊢ WP c (.op (.store m r w Finset.univ hx hm) k) Q := by
  refine h₁.trans ?_
  iintro ⟨H, HR⟩
  iapply (st_owns (X := X) (w := w) (hx := hx) (hm := hm) (k := k)) $$ H
  iintro ⟨%X', %hX, H⟩
  iapply (hK X' hX.1 hX.2)
  iapply (h₂ X')
  isplitl [H]; · iexact H
  iexact HR

end One

theorem emb_zero {s : Shape} {o : Fin s.rank → ℕ} (ho : ∀ a, o a = 0) (inb : ∀ a, o a + s.size a ≤ s.size a) (i : s.Idx) :
    (Rect.unit (s := s) o s.size inb).emb i = i := by
  funext a
  refine Fin.ext ((Rect.emb_apply ..).trans ?_)
  show o a + 1 * (i a).val = (i a).val
  rw [ho a]; omega

/-! ## The device's buffers -/

theorem take_0 (V : Vals F) : iprop(Loc A c V ∗ S) ⊣⊢ iprop(owns (c : Thread nD τ) A.a0 fullShare V.x ∗ (owns (c : Thread nD τ) A.a1 fullShare V.wq ∗ owns (c : Thread nD τ) A.a2 fullShare V.k ∗ owns (c : Thread nD τ) A.a3 fullShare V.v ∗ owns (c : Thread nD τ) A.a4 fullShare V.wo ∗ owns (c : Thread nD τ) A.a5 fullShare V.out ∗ owns (c : Thread nD τ) A.a6 fullShare V.q ∗ owns (c : Thread nD τ) A.a7 fullShare V.a ∗ owns (c : Thread nD τ) A.a11 fullShare V.w ∗ S)) := by
  unfold Loc; constructor
  · iintro ⟨⟨H0, H1, H2, H3, H4, H5, H6, H7, H8⟩, HS⟩; iframe
  · iintro ⟨H0, H1, H2, H3, H4, H5, H6, H7, H8, HS⟩; iframe
theorem take_1 (V : Vals F) : iprop(Loc A c V ∗ S) ⊣⊢ iprop(owns (c : Thread nD τ) A.a1 fullShare V.wq ∗ (owns (c : Thread nD τ) A.a0 fullShare V.x ∗ owns (c : Thread nD τ) A.a2 fullShare V.k ∗ owns (c : Thread nD τ) A.a3 fullShare V.v ∗ owns (c : Thread nD τ) A.a4 fullShare V.wo ∗ owns (c : Thread nD τ) A.a5 fullShare V.out ∗ owns (c : Thread nD τ) A.a6 fullShare V.q ∗ owns (c : Thread nD τ) A.a7 fullShare V.a ∗ owns (c : Thread nD τ) A.a11 fullShare V.w ∗ S)) := by
  unfold Loc; constructor
  · iintro ⟨⟨H0, H1, H2, H3, H4, H5, H6, H7, H8⟩, HS⟩; iframe
  · iintro ⟨H1, H0, H2, H3, H4, H5, H6, H7, H8, HS⟩; iframe
theorem take_2 (V : Vals F) : iprop(Loc A c V ∗ S) ⊣⊢ iprop(owns (c : Thread nD τ) A.a2 fullShare V.k ∗ (owns (c : Thread nD τ) A.a0 fullShare V.x ∗ owns (c : Thread nD τ) A.a1 fullShare V.wq ∗ owns (c : Thread nD τ) A.a3 fullShare V.v ∗ owns (c : Thread nD τ) A.a4 fullShare V.wo ∗ owns (c : Thread nD τ) A.a5 fullShare V.out ∗ owns (c : Thread nD τ) A.a6 fullShare V.q ∗ owns (c : Thread nD τ) A.a7 fullShare V.a ∗ owns (c : Thread nD τ) A.a11 fullShare V.w ∗ S)) := by
  unfold Loc; constructor
  · iintro ⟨⟨H0, H1, H2, H3, H4, H5, H6, H7, H8⟩, HS⟩; iframe
  · iintro ⟨H2, H0, H1, H3, H4, H5, H6, H7, H8, HS⟩; iframe
theorem take_3 (V : Vals F) : iprop(Loc A c V ∗ S) ⊣⊢ iprop(owns (c : Thread nD τ) A.a3 fullShare V.v ∗ (owns (c : Thread nD τ) A.a0 fullShare V.x ∗ owns (c : Thread nD τ) A.a1 fullShare V.wq ∗ owns (c : Thread nD τ) A.a2 fullShare V.k ∗ owns (c : Thread nD τ) A.a4 fullShare V.wo ∗ owns (c : Thread nD τ) A.a5 fullShare V.out ∗ owns (c : Thread nD τ) A.a6 fullShare V.q ∗ owns (c : Thread nD τ) A.a7 fullShare V.a ∗ owns (c : Thread nD τ) A.a11 fullShare V.w ∗ S)) := by
  unfold Loc; constructor
  · iintro ⟨⟨H0, H1, H2, H3, H4, H5, H6, H7, H8⟩, HS⟩; iframe
  · iintro ⟨H3, H0, H1, H2, H4, H5, H6, H7, H8, HS⟩; iframe
theorem take_4 (V : Vals F) : iprop(Loc A c V ∗ S) ⊣⊢ iprop(owns (c : Thread nD τ) A.a4 fullShare V.wo ∗ (owns (c : Thread nD τ) A.a0 fullShare V.x ∗ owns (c : Thread nD τ) A.a1 fullShare V.wq ∗ owns (c : Thread nD τ) A.a2 fullShare V.k ∗ owns (c : Thread nD τ) A.a3 fullShare V.v ∗ owns (c : Thread nD τ) A.a5 fullShare V.out ∗ owns (c : Thread nD τ) A.a6 fullShare V.q ∗ owns (c : Thread nD τ) A.a7 fullShare V.a ∗ owns (c : Thread nD τ) A.a11 fullShare V.w ∗ S)) := by
  unfold Loc; constructor
  · iintro ⟨⟨H0, H1, H2, H3, H4, H5, H6, H7, H8⟩, HS⟩; iframe
  · iintro ⟨H4, H0, H1, H2, H3, H5, H6, H7, H8, HS⟩; iframe
theorem take_5 (V : Vals F) : iprop(Loc A c V ∗ S) ⊣⊢ iprop(owns (c : Thread nD τ) A.a5 fullShare V.out ∗ (owns (c : Thread nD τ) A.a0 fullShare V.x ∗ owns (c : Thread nD τ) A.a1 fullShare V.wq ∗ owns (c : Thread nD τ) A.a2 fullShare V.k ∗ owns (c : Thread nD τ) A.a3 fullShare V.v ∗ owns (c : Thread nD τ) A.a4 fullShare V.wo ∗ owns (c : Thread nD τ) A.a6 fullShare V.q ∗ owns (c : Thread nD τ) A.a7 fullShare V.a ∗ owns (c : Thread nD τ) A.a11 fullShare V.w ∗ S)) := by
  unfold Loc; constructor
  · iintro ⟨⟨H0, H1, H2, H3, H4, H5, H6, H7, H8⟩, HS⟩; iframe
  · iintro ⟨H5, H0, H1, H2, H3, H4, H6, H7, H8, HS⟩; iframe
theorem take_6 (V : Vals F) : iprop(Loc A c V ∗ S) ⊣⊢ iprop(owns (c : Thread nD τ) A.a6 fullShare V.q ∗ (owns (c : Thread nD τ) A.a0 fullShare V.x ∗ owns (c : Thread nD τ) A.a1 fullShare V.wq ∗ owns (c : Thread nD τ) A.a2 fullShare V.k ∗ owns (c : Thread nD τ) A.a3 fullShare V.v ∗ owns (c : Thread nD τ) A.a4 fullShare V.wo ∗ owns (c : Thread nD τ) A.a5 fullShare V.out ∗ owns (c : Thread nD τ) A.a7 fullShare V.a ∗ owns (c : Thread nD τ) A.a11 fullShare V.w ∗ S)) := by
  unfold Loc; constructor
  · iintro ⟨⟨H0, H1, H2, H3, H4, H5, H6, H7, H8⟩, HS⟩; iframe
  · iintro ⟨H6, H0, H1, H2, H3, H4, H5, H7, H8, HS⟩; iframe
theorem take_7 (V : Vals F) : iprop(Loc A c V ∗ S) ⊣⊢ iprop(owns (c : Thread nD τ) A.a7 fullShare V.a ∗ (owns (c : Thread nD τ) A.a0 fullShare V.x ∗ owns (c : Thread nD τ) A.a1 fullShare V.wq ∗ owns (c : Thread nD τ) A.a2 fullShare V.k ∗ owns (c : Thread nD τ) A.a3 fullShare V.v ∗ owns (c : Thread nD τ) A.a4 fullShare V.wo ∗ owns (c : Thread nD τ) A.a5 fullShare V.out ∗ owns (c : Thread nD τ) A.a6 fullShare V.q ∗ owns (c : Thread nD τ) A.a11 fullShare V.w ∗ S)) := by
  unfold Loc; constructor
  · iintro ⟨⟨H0, H1, H2, H3, H4, H5, H6, H7, H8⟩, HS⟩; iframe
  · iintro ⟨H7, H0, H1, H2, H3, H4, H5, H6, H8, HS⟩; iframe
theorem take_11 (V : Vals F) : iprop(Loc A c V ∗ S) ⊣⊢ iprop(owns (c : Thread nD τ) A.a11 fullShare V.w ∗ (owns (c : Thread nD τ) A.a0 fullShare V.x ∗ owns (c : Thread nD τ) A.a1 fullShare V.wq ∗ owns (c : Thread nD τ) A.a2 fullShare V.k ∗ owns (c : Thread nD τ) A.a3 fullShare V.v ∗ owns (c : Thread nD τ) A.a4 fullShare V.wo ∗ owns (c : Thread nD τ) A.a5 fullShare V.out ∗ owns (c : Thread nD τ) A.a6 fullShare V.q ∗ owns (c : Thread nD τ) A.a7 fullShare V.a ∗ S)) := by
  unfold Loc; constructor
  · iintro ⟨⟨H0, H1, H2, H3, H4, H5, H6, H7, H8⟩, HS⟩; iframe
  · iintro ⟨H8, H0, H1, H2, H3, H4, H5, H6, H7, HS⟩; iframe

theorem ld0 {r : Rect S2x256x768} {hl} {k : (r.shape.Idx → Elt F .bf16) → Prog (TpuEff nD τ sig (Elt F) Λ₀ .tc) α} {v : r.shape.Idx → Elt F .bf16}
    (hv : ∀ i, V.x (r.emb i) = v i) (hK : iprop(Loc A c V ∗ S) ⊢ WP c (k v) Q) :
    iprop(Loc A c V ∗ S) ⊢ WP c (.op (.load A.a0 r.toLoadRect hl) k) Q :=
  ld_of (take_0 V).1 (take_0 V).2 hv hK
theorem ld1 {r : Rect S768x512} {hl} {k : (r.shape.Idx → Elt F .bf16) → Prog (TpuEff nD τ sig (Elt F) Λ₀ .tc) α} {v : r.shape.Idx → Elt F .bf16}
    (hv : ∀ i, V.wq (r.emb i) = v i) (hK : iprop(Loc A c V ∗ S) ⊢ WP c (k v) Q) :
    iprop(Loc A c V ∗ S) ⊢ WP c (.op (.load A.a1 r.toLoadRect hl) k) Q :=
  ld_of (take_1 V).1 (take_1 V).2 hv hK
theorem ld2 {r : Rect S2x8x512x64} {hl} {k : (r.shape.Idx → Elt F .bf16) → Prog (TpuEff nD τ sig (Elt F) Λ₀ .tc) α} {v : r.shape.Idx → Elt F .bf16}
    (hv : ∀ i, V.k (r.emb i) = v i) (hK : iprop(Loc A c V ∗ S) ⊢ WP c (k v) Q) :
    iprop(Loc A c V ∗ S) ⊢ WP c (.op (.load A.a2 r.toLoadRect hl) k) Q :=
  ld_of (take_2 V).1 (take_2 V).2 hv hK
theorem ld3 {r : Rect S2x8x512x64} {hl} {k : (r.shape.Idx → Elt F .bf16) → Prog (TpuEff nD τ sig (Elt F) Λ₀ .tc) α} {v : r.shape.Idx → Elt F .bf16}
    (hv : ∀ i, V.v (r.emb i) = v i) (hK : iprop(Loc A c V ∗ S) ⊢ WP c (k v) Q) :
    iprop(Loc A c V ∗ S) ⊢ WP c (.op (.load A.a3 r.toLoadRect hl) k) Q :=
  ld_of (take_3 V).1 (take_3 V).2 hv hK
theorem ld4 {r : Rect S512x768} {hl} {k : (r.shape.Idx → Elt F .bf16) → Prog (TpuEff nD τ sig (Elt F) Λ₀ .tc) α} {v : r.shape.Idx → Elt F .bf16}
    (hv : ∀ i, V.wo (r.emb i) = v i) (hK : iprop(Loc A c V ∗ S) ⊢ WP c (k v) Q) :
    iprop(Loc A c V ∗ S) ⊢ WP c (.op (.load A.a4 r.toLoadRect hl) k) Q :=
  ld_of (take_4 V).1 (take_4 V).2 hv hK
theorem ld5 {r : Rect S8x64x768} {hl} {k : (r.shape.Idx → Elt F .f32) → Prog (TpuEff nD τ sig (Elt F) Λ₀ .tc) α} {v : r.shape.Idx → Elt F .f32}
    (hv : ∀ i, V.out (r.emb i) = v i) (hK : iprop(Loc A c V ∗ S) ⊢ WP c (k v) Q) :
    iprop(Loc A c V ∗ S) ⊢ WP c (.op (.load A.a5 r.toLoadRect hl) k) Q :=
  ld_of (take_5 V).1 (take_5 V).2 hv hK
theorem ld6 {r : Rect S512x512} {hl} {k : (r.shape.Idx → Elt F .bf16) → Prog (TpuEff nD τ sig (Elt F) Λ₀ .tc) α} {v : r.shape.Idx → Elt F .bf16}
    (hv : ∀ i, V.q (r.emb i) = v i) (hK : iprop(Loc A c V ∗ S) ⊢ WP c (k v) Q) :
    iprop(Loc A c V ∗ S) ⊢ WP c (.op (.load A.a6 r.toLoadRect hl) k) Q :=
  ld_of (take_6 V).1 (take_6 V).2 hv hK
theorem ld7 {r : Rect S512x512} {hl} {k : (r.shape.Idx → Elt F .bf16) → Prog (TpuEff nD τ sig (Elt F) Λ₀ .tc) α} {v : r.shape.Idx → Elt F .bf16}
    (hv : ∀ i, V.a (r.emb i) = v i) (hK : iprop(Loc A c V ∗ S) ⊢ WP c (k v) Q) :
    iprop(Loc A c V ∗ S) ⊢ WP c (.op (.load A.a7 r.toLoadRect hl) k) Q :=
  ld_of (take_7 V).1 (take_7 V).2 hv hK
theorem ld11 {r : Rect S512x768} {hl} {k : (r.shape.Idx → Elt F .bf16) → Prog (TpuEff nD τ sig (Elt F) Λ₀ .tc) α} {v : r.shape.Idx → Elt F .bf16}
    (hv : ∀ i, V.w (r.emb i) = v i) (hK : iprop(Loc A c V ∗ S) ⊢ WP c (k v) Q) :
    iprop(Loc A c V ∗ S) ⊢ WP c (.op (.load A.a11 r.toLoadRect hl) k) Q :=
  ld_of (take_11 V).1 (take_11 V).2 hv hK
theorem st5 {r : Rect S8x64x768} {w : r.shape.Idx → Elt F .f32} {hx hm} {k : PUnit → Prog (TpuEff nD τ sig (Elt F) Λ₀ .tc) α}
    (hK : ∀ X' : S8x64x768.Idx → Elt F .f32, (∀ i, X' (r.emb i) = w i) → (∀ j, (∀ i, j ≠ r.emb i) → X' j = V.out j) →
      iprop(Loc A c { V with out := X' } ∗ S) ⊢ WP c (k ⟨⟩) Q) :
    iprop(Loc A c V ∗ S) ⊢ WP c (.op (.store A.a5 r w Finset.univ hx hm) k) Q :=
  st_of (take_5 V).1 (fun X' => (take_5 { V with out := X' }).2) hK
theorem st6 {r : Rect S512x512} {w : r.shape.Idx → Elt F .bf16} {hx hm} {k : PUnit → Prog (TpuEff nD τ sig (Elt F) Λ₀ .tc) α}
    (hK : ∀ X' : S512x512.Idx → Elt F .bf16, (∀ i, X' (r.emb i) = w i) → (∀ j, (∀ i, j ≠ r.emb i) → X' j = V.q j) →
      iprop(Loc A c { V with q := X' } ∗ S) ⊢ WP c (k ⟨⟩) Q) :
    iprop(Loc A c V ∗ S) ⊢ WP c (.op (.store A.a6 r w Finset.univ hx hm) k) Q :=
  st_of (take_6 V).1 (fun X' => (take_6 { V with q := X' }).2) hK
theorem st7 {r : Rect S512x512} {w : r.shape.Idx → Elt F .bf16} {hx hm} {k : PUnit → Prog (TpuEff nD τ sig (Elt F) Λ₀ .tc) α}
    (hK : ∀ X' : S512x512.Idx → Elt F .bf16, (∀ i, X' (r.emb i) = w i) → (∀ j, (∀ i, j ≠ r.emb i) → X' j = V.a j) →
      iprop(Loc A c { V with a := X' } ∗ S) ⊢ WP c (k ⟨⟩) Q) :
    iprop(Loc A c V ∗ S) ⊢ WP c (.op (.store A.a7 r w Finset.univ hx hm) k) Q :=
  st_of (take_7 V).1 (fun X' => (take_7 { V with a := X' }).2) hK
theorem st11 {r : Rect S512x768} {w : r.shape.Idx → Elt F .bf16} {hx hm} {k : PUnit → Prog (TpuEff nD τ sig (Elt F) Λ₀ .tc) α}
    (hK : ∀ X' : S512x768.Idx → Elt F .bf16, (∀ i, X' (r.emb i) = w i) → (∀ j, (∀ i, j ≠ r.emb i) → X' j = V.w j) →
      iprop(Loc A c { V with w := X' } ∗ S) ⊢ WP c (k ⟨⟩) Q) :
    iprop(Loc A c V ∗ S) ⊢ WP c (.op (.store A.a11 r w Finset.univ hx hm) k) Q :=
  st_of (take_11 V).1 (fun X' => (take_11 { V with w := X' }).2) hK

end Cert.KernelIdeal.Proto

end
-- ==== Proof.Attn.lean ====
/-
  One device's attention: the heads are computed one after the other, each storing its block of the heads' results.
  `Att n` holds the device's own buffers with the first `n` of the sixteen blocks in place.
-/
module

public import proofs.«01_k».proof.Proof.Mem

@[expose] public section

set_option maxRecDepth 16384

noncomputable section

namespace Cert.KernelIdeal.Proto

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen

variable {F : FTy → Type} [FloatOps F]

local notation "𝕄" => MT nD τ sig Unit (Elt F) ℕ UU ℕ

/-- The device's blocks of the kernel's arguments. -/
structure Ins (F : FTy → Type) where
  x : Vec F S2x256x768 .bf16
  wq : Vec F S768x512 .bf16
  k : Vec F S2x8x512x64 .bf16
  v : Vec F S2x8x512x64 .bf16
  wo : Vec F S512x768 .bf16

/-- The buffers' contents once the queries and the second weight are in place. -/
abbrev mk (I : Ins F) (out : Vec F S8x64x768 .f32) (a : Vec F S512x512 .bf16) : Vals F :=
  ⟨I.x, I.wq, I.k, I.v, I.wo, out, qF I.x I.wq, a, k0_pay2 I.wo⟩

/-- The first `n` blocks hold their heads' results. -/
def good (I : Ins F) (n : ℕ) (a : Vec F S512x512 .bf16) : Prop :=
  ∀ i, (i 0).val / 256 * 8 + (i 1).val / 64 < n → a i = aF (qF I.x I.wq) I.k I.v i

def Att (A : Args) (c : Dev nD) (I : Ins F) (n : ℕ) (S : sProp (MT nD τ sig Unit (Elt F) ℕ UU ℕ)) : sProp (MT nD τ sig Unit (Elt F) ℕ UU ℕ) :=
  iprop(∃ (out : Vec F S8x64x768 .f32) (a : Vec F S512x512 .bf16), ⌜good I n a⌝ ∗ (Loc A c (mk I out a) ∗ S))

variable {α : Type} {Q : α → sProp (MT nD τ sig Unit (Elt F) ℕ UU ℕ)} {S : sProp (MT nD τ sig Unit (Elt F) ℕ UU ℕ)} {c : Dev nD} {A : Args} {I : Ins F}
  {n : ℕ}

theorem Att_elim {R : sProp 𝕄} (h : ∀ out a, good I n a → iprop(Loc A c (mk I out a) ∗ S) ⊢ R) : Att A c I n S ⊢ R := by
  unfold Att
  iintro ⟨%out, %a, %ha, H⟩
  iapply (h out a ha)
  iexact H

theorem Att_intro {out : Vec F S8x64x768 .f32} {a : Vec F S512x512 .bf16} (ha : good I n a) : iprop(Loc A c (mk I out a) ∗ S) ⊢ Att A c I n S := by
  unfold Att
  iintro H
  iexists out; iexists a
  isplitr; · ipureintro; exact ha
  iexact H

/-- Change what is held besides. -/
theorem Att_mono {S' : sProp 𝕄} (h : S ⊢ S') : Att A c I n S ⊢ Att A c I n S' :=
  Att_elim fun _ _ ha => (BIClass.sep_mono .rfl h).trans (Att_intro ha)

theorem good_zero (a : Vec F S512x512 .bf16) : good I 0 a := fun _ h => absurd h (Nat.not_lt_zero _)

theorem good_all {a : Vec F S512x512 .bf16} (h : good I 16 a) : a = aF (qF I.x I.wq) I.k I.v := by
  funext i
  have h0 : (i 0).val < 512 := (i 0).isLt
  have h1 : (i 1).val < 512 := (i 1).isLt
  exact h i (by omega)

/-- Storing head `h` of batch `b`. -/
theorem good_step (b : Fin 2) (h : Fin 8) (hn : n = 8 * b.val + h.val) {a X : Vec F S512x512 .bf16} (ha : good I n a)
    (hX : ∀ i, X ((Rect.unit (s := S512x512) ![256 * b.val, 64 * h.val] S256x64.size (inbQ b h)).emb i)
      = headO (rdQ (qF I.x I.wq) b h) (rdK I.k b h) (rdK I.v b h) i)
    (hX' : ∀ j, (∀ i, j ≠ (Rect.unit (s := S512x512) ![256 * b.val, 64 * h.val] S256x64.size (inbQ b h)).emb i) → X j = a j) :
    good I (n + 1) X := by
  intro i hi
  have h0 : (i 0).val < 512 := (i 0).isLt
  have h1 : (i 1).val < 512 := (i 1).isLt
  have hb := b.isLt
  have hh := h.isLt
  by_cases hin : (i 0).val / 256 = b.val ∧ (i 1).val / 64 = h.val
  · obtain ⟨eb, eh⟩ := hin
    have hb' : (⟨(i 0).val / 256, by omega⟩ : Fin 2) = b := Fin.ext eb
    have hh' : (⟨(i 1).val / 64, by omega⟩ : Fin 8) = h := Fin.ext eh
    have := hX (ix2 (⟨(i 0).val % 256, Nat.mod_lt _ (by decide)⟩ : Fin 256) (⟨(i 1).val % 64, Nat.mod_lt _ (by decide)⟩ : Fin 64))
    refine Eq.trans (congrArg X ?_) (this.trans ?_)
    · funext d
      refine Fin.ext (Eq.trans ?_ (Rect.emb_apply ..).symm)
      match d with
      | ⟨0, _⟩ => show (i 0).val = 256 * b.val + 1 * ((i 0).val % 256); omega
      | ⟨1, _⟩ => show (i 1).val = 64 * h.val + 1 * ((i 1).val % 64); omega
    · show _ = headO (rdQ _ ⟨(i 0).val / 256, _⟩ ⟨(i 1).val / 64, _⟩) (rdK _ ⟨(i 0).val / 256, _⟩ ⟨(i 1).val / 64, _⟩) (rdK _ ⟨(i 0).val / 256, _⟩ ⟨(i 1).val / 64, _⟩) _
      rw [hb', hh']
  · rw [hX' i ?_]
    · refine ha i ?_
      rcases Classical.not_and_iff_not_or_not.mp hin with hne | hne <;> omega
    · rintro j rfl
      refine hin ⟨?_, ?_⟩
      · have : ((Rect.unit (s := S512x512) ![256 * b.val, 64 * h.val] S256x64.size (inbQ b h)).emb j 0).val = 256 * b.val + 1 * (j 0).val := Rect.emb_apply ..
        have hj : (j 0).val < 256 := (j 0).isLt
        omega
      · have : ((Rect.unit (s := S512x512) ![256 * b.val, 64 * h.val] S256x64.size (inbQ b h)).emb j 1).val = 64 * h.val + 1 * (j 1).val := Rect.emb_apply ..
        have hj : (j 1).val < 64 := (j 1).isLt
        omega

/-! ## One operation of a head -/

/-- The queries of a head. -/
theorem atQ (b : Fin 2) (h : Fin 8) {o : Fin 2 → ℕ} {inb : ∀ a, o a + S256x64.size a ≤ S512x512.size a} {hl}
    {k : Vec F S256x64 .bf16 → Prog (TpuEff nD τ sig (Elt F) Λ₀ .tc) α} (ho : o = ![256 * b.val, 64 * h.val])
    (hK : Att A c I n S ⊢ WP c (k (rdQ (qF I.x I.wq) b h)) Q) :
    Att A c I n S ⊢ WP c (.op (.load A.a6 (Rect.unit (s := S512x512) o S256x64.size inb).toLoadRect hl) k) Q := by
  subst ho
  exact Att_elim fun out a ha => ld6 (v := rdQ (qF I.x I.wq) b h) (fun _ => rfl) ((Att_intro ha).trans hK)

/-- The keys of a head. -/
theorem atK (b : Fin 2) (h : Fin 8) {o : Fin 4 → ℕ} {inb : ∀ a, o a + S1x1x512x64.size a ≤ S2x8x512x64.size a} {hl}
    {k : Vec F S1x1x512x64 .bf16 → Prog (TpuEff nD τ sig (Elt F) Λ₀ .tc) α} (ho : o = ![b.val, h.val, 0, 0])
    (hK : Att A c I n S ⊢ WP c (k (rdK I.k b h)) Q) :
    Att A c I n S ⊢ WP c (.op (.load A.a2 (Rect.unit (s := S2x8x512x64) o S1x1x512x64.size inb).toLoadRect hl) k) Q := by
  subst ho
  exact Att_elim fun out a ha => ld2 (v := rdK I.k b h) (fun _ => rfl) ((Att_intro ha).trans hK)

/-- The values of a head. -/
theorem atV (b : Fin 2) (h : Fin 8) {o : Fin 4 → ℕ} {inb : ∀ a, o a + S1x1x512x64.size a ≤ S2x8x512x64.size a} {hl}
    {k : Vec F S1x1x512x64 .bf16 → Prog (TpuEff nD τ sig (Elt F) Λ₀ .tc) α} (ho : o = ![b.val, h.val, 0, 0])
    (hK : Att A c I n S ⊢ WP c (k (rdK I.v b h)) Q) :
    Att A c I n S ⊢ WP c (.op (.load A.a3 (Rect.unit (s := S2x8x512x64) o S1x1x512x64.size inb).toLoadRect hl) k) Q := by
  subst ho
  exact Att_elim fun out a ha => ld3 (v := rdK I.v b h) (fun _ => rfl) ((Att_intro ha).trans hK)

/-- A load of the heads' results whose value is not used. -/
theorem at7 {r : Rect S512x512} {hl} {k : (r.shape.Idx → Elt F .bf16) → Prog (TpuEff nD τ sig (Elt F) Λ₀ .tc) α}
    (hK : ∀ v, Att A c I n S ⊢ WP c (k v) Q) : Att A c I n S ⊢ WP c (.op (.load A.a7 r.toLoadRect hl) k) Q :=
  Att_elim fun _ _ ha => ld7 (fun _ => rfl) ((Att_intro ha).trans (hK _))

/-- The store of a head's block. -/
theorem atS (b : Fin 2) (h : Fin 8) {o : Fin 2 → ℕ} {inb : ∀ a, o a + S256x64.size a ≤ S512x512.size a} {w : Vec F S256x64 .bf16} {hx hm}
    {k : PUnit → Prog (TpuEff nD τ sig (Elt F) Λ₀ .tc) α} (hn : n = 8 * b.val + h.val) (ho : o = ![256 * b.val, 64 * h.val])
    (hw : w = headO (rdQ (qF I.x I.wq) b h) (rdK I.k b h) (rdK I.v b h))
    (hK : Att A c I (n + 1) S ⊢ WP c (k ⟨⟩) Q) :
    Att A c I n S ⊢ WP c (.op (.store A.a7 (Rect.unit (s := S512x512) o S256x64.size inb) w Finset.univ hx hm) k) Q := by
  subst ho hw
  exact Att_elim fun out a ha => st7 fun X h₁ h₂ => (Att_intro (good_step b h hn ha h₁ h₂)).trans hK

/-- The end of a part. -/
theorem ret {T : sProp 𝕄} {r : α} (h : T ⊢ Q r) : T ⊢ WP c (.ret r) Q := by
  refine h.trans ?_
  show Q r ⊢ Idealize.SL.Sem.wp _ _ _ _ _
  rw [wp_ret]
  exact fupd_intro

/-! ## The parts that only compute heads -/

theorem part5 {Q : (Σ' (_ : Vec F S256x64 .bf16) (_ : FVec F S512x64 .bf16), FVec F S256x512 .f32) → sProp 𝕄}
    (h : Att A c I 2 S ⊢ Q ⟨rdQ (qF I.x I.wq) 0 2, k0_pay8 (rdK I.k 0 2), constant S256x512 .f32 0x00000000#32⟩) :
    Att A c I 0 S ⊢ WP c (app A (k0_part5 (F := F)) (k0_pay4 (rdQ (qF I.x I.wq) 0 0) (rdK I.k 0 0)) (k0_pay5 (rdQ (qF I.x I.wq) 0 0) (rdK I.k 0 0))) Q := by
  unfold app
  rw [k0_part5_eq_skeleton]
  unfold k0_part5_skel
  refine atV 0 0 rfl ?_
  refine at7 fun _ => atS 0 0 rfl rfl (head6 _ _ _) ?_
  refine atQ 0 1 rfl (atK 0 1 rfl (atV 0 1 rfl (at7 fun _ => atS 0 1 rfl rfl rfl ?_)))
  exact atQ 0 2 rfl (atK 0 2 rfl (ret h))

theorem part6 {Q : FVec F S256x64 .bf16 → sProp 𝕄}
    (h : Att A c I 3 S ⊢ Q (k0_pay10 (rdQ (qF I.x I.wq) 0 3) (rdK I.k 0 3) (rdK I.v 0 3))) :
    Att A c I 2 S ⊢ WP c (app A (k0_part6 (F := F)) (rdQ (qF I.x I.wq) 0 2) (k0_pay8 (rdK I.k 0 2)) (constant S256x512 .f32 0x00000000#32)) Q := by
  unfold app
  rw [k0_part6_eq_skeleton]
  unfold k0_part6_skel
  refine atV 0 2 rfl (at7 fun _ => atS 0 2 rfl rfl (head9 _ _ _) ?_)
  exact atQ 0 3 rfl (atK 0 3 rfl (atV 0 3 rfl (at7 fun _ => ret h)))

theorem part7 {Q : (Σ' (_ : FVec F S256x1 .f32), FVec F S256x512 .bf16) → sProp 𝕄}
    (h : Att A c I 5 S ⊢ Q ⟨k0_pay14 (rdQ (qF I.x I.wq) 0 5) (rdK I.k 0 5), k0_pay15 (rdQ (qF I.x I.wq) 0 5) (rdK I.k 0 5)⟩) :
    Att A c I 3 S ⊢ WP c (app A (k0_part7 (F := F)) (k0_pay10 (rdQ (qF I.x I.wq) 0 3) (rdK I.k 0 3) (rdK I.v 0 3))) Q := by
  unfold app
  rw [k0_part7_eq_skeleton]
  unfold k0_part7_skel
  refine atS 0 3 rfl rfl (head11 _ _ _) ?_
  refine atQ 0 4 rfl (atK 0 4 rfl (atV 0 4 rfl (at7 fun _ => atS 0 4 rfl rfl (head12 _ _ _) ?_)))
  exact atQ 0 5 rfl (atK 0 5 rfl (ret h))

theorem part8 {Q : (Σ' (_ : Vec F S256x64 .bf16) (_ : FVec F S512x64 .bf16), FVec F S256x512 .f32) → sProp 𝕄}
    (h : Att A c I 7 S ⊢ Q ⟨rdQ (qF I.x I.wq) 0 7, k0_pay18 (rdK I.k 0 7), constant S256x512 .f32 0x00000000#32⟩) :
    Att A c I 5 S ⊢ WP c (app A (k0_part8 (F := F)) (k0_pay14 (rdQ (qF I.x I.wq) 0 5) (rdK I.k 0 5)) (k0_pay15 (rdQ (qF I.x I.wq) 0 5) (rdK I.k 0 5))) Q := by
  unfold app
  rw [k0_part8_eq_skeleton]
  unfold k0_part8_skel
  refine atV 0 5 rfl (at7 fun _ => atS 0 5 rfl rfl (head16 _ _ _) ?_)
  refine atQ 0 6 rfl (atK 0 6 rfl (atV 0 6 rfl (at7 fun _ => atS 0 6 rfl rfl (head17 _ _ _) ?_)))
  exact atQ 0 7 rfl (atK 0 7 rfl (ret h))

theorem part11 {Q : PUnit → sProp 𝕄} (h : Att A c I 11 S ⊢ Q ⟨⟩) :
    Att A c I 9 S ⊢ WP c (app A (k0_part11 (F := F)) (k0_pay22 (rdQ (qF I.x I.wq) 1 1) (rdK I.k 1 1))) Q := by
  unfold app
  rw [k0_part11_eq_skeleton]
  unfold k0_part11_skel
  refine atV 1 1 rfl (at7 fun _ => atS 1 1 rfl rfl (head23 _ _ _) ?_)
  exact atQ 1 2 rfl (atK 1 2 rfl (atV 1 2 rfl (at7 fun _ => atS 1 2 rfl rfl (head24 _ _ _) (ret h))))

theorem part12 {Q : (Σ' (_ : FVec F S256x1 .f32) (_ : FVec F S256x512 .bf16) (_ : FVec F S512x64 .bf16), FVec F S256x64 .f32) → sProp 𝕄}
    (h : Att A c I 12 S ⊢ Q ⟨k0_pay27 (rdQ (qF I.x I.wq) 1 4) (rdK I.k 1 4), k0_pay28 (rdQ (qF I.x I.wq) 1 4) (rdK I.k 1 4), k0_pay29 (rdK I.v 1 4),
      constant S256x64 .f32 0x00000000#32⟩) :
    Att A c I 11 S ⊢ WP c (app A (k0_part12 (F := F))) Q := by
  unfold app
  rw [k0_part12_eq_skeleton]
  unfold k0_part12_skel
  refine atQ 1 3 rfl (atK 1 3 rfl (atV 1 3 rfl (at7 fun _ => atS 1 3 rfl rfl (head25 _ _ _) ?_)))
  exact atQ 1 4 rfl (atK 1 4 rfl (atV 1 4 rfl (ret h)))

theorem part13 {Q : FVec F S256x512 .f32 → sProp 𝕄} (h : Att A c I 14 S ⊢ Q (k0_pay32 (rdQ (qF I.x I.wq) 1 6) (rdK I.k 1 6))) :
    Att A c I 12 S ⊢ WP c (app A (k0_part13 (F := F)) (k0_pay27 (rdQ (qF I.x I.wq) 1 4) (rdK I.k 1 4)) (k0_pay28 (rdQ (qF I.x I.wq) 1 4) (rdK I.k 1 4))
      (k0_pay29 (rdK I.v 1 4)) (constant S256x64 .f32 0x00000000#32)) Q := by
  unfold app
  rw [k0_part13_eq_skeleton]
  unfold k0_part13_skel
  refine at7 fun _ => atS 1 4 rfl rfl (head30 _ _ _) ?_
  refine atQ 1 5 rfl (atK 1 5 rfl (atV 1 5 rfl (at7 fun _ => atS 1 5 rfl rfl (head31 _ _ _) ?_)))
  exact atQ 1 6 rfl (atK 1 6 rfl (ret h))

theorem part14 {Q : PUnit → sProp 𝕄} (h : Att A c I 16 S ⊢ Q ⟨⟩) :
    Att A c I 14 S ⊢ WP c (app A (k0_part14 (F := F)) (k0_pay32 (rdQ (qF I.x I.wq) 1 6) (rdK I.k 1 6))) Q := by
  unfold app
  rw [k0_part14_eq_skeleton]
  unfold k0_part14_skel
  refine atV 1 6 rfl (at7 fun _ => atS 1 6 rfl rfl (head33 _ _ _) ?_)
  exact atQ 1 7 rfl (atK 1 7 rfl (atV 1 7 rfl (at7 fun _ => atS 1 7 rfl rfl (head34 _ _ _) (ret h))))

end Cert.KernelIdeal.Proto

end
-- ==== Proof.Bufs.lean ====
/-
  Loads and stores of the three buffers the devices exchange, of which a device may hold a part.
-/
module

public import proofs.«01_k».proof.Proof.Attn

@[expose] public section

set_option maxRecDepth 16384

noncomputable section

namespace Cert.KernelIdeal.Proto

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen

variable {F : FTy → Type} [FloatOps F]

local notation "𝕄" => MT nD τ sig Unit (Elt F) ℕ UU ℕ

variable {α : Type} {Q : α → sProp (MT nD τ sig Unit (Elt F) ℕ UU ℕ)} {S Z T : sProp (MT nD τ sig Unit (Elt F) ℕ UU ℕ)} {c : Dev nD} {A : Args} {I : Ins F}
  {n : ℕ}

section One
variable {s : Shape} {e : EltTy} {m : Memref sig .tc .vmem s e} {r : Rect s} {D : Finset (Idx (m.view.loc (c : Thread nD τ)))}

/-- A load of a part of what is held. -/
theorem ldB {q : PosShare TreeShare} {f : Buf (Elt F) (m.view.loc (c : Thread nD τ))} {hl} {k : (r.shape.Idx → Elt F e) → Prog (TpuEff nD τ sig (Elt F) Λ₀ .tc) α}
    (hS : ∀ i, m.view.emb (r.emb i) ∈ D) (h₁ : T ⊢ iprop((m.view.loc (c : Thread nD τ) ↦[D]{q} f) ∗ Z))
    (hK : iprop((m.view.loc (c : Thread nD τ) ↦[D]{q} f) ∗ Z) ⊢ WP c (k (fun i => m.view.read (Elt F) f (r.emb i))) Q) :
    T ⊢ WP c (.op (.load m r.toLoadRect hl) k) Q := by
  have hsub : m.view.setOn r.toLoadRect.set ⊆ D := by
    intro x hx
    obtain ⟨j, hj, rfl⟩ := Finset.mem_map.mp hx
    rw [show r.toLoadRect.set = r.set from rfl, ← Rect.map_emb_univ] at hj
    obtain ⟨i, -, rfl⟩ := Finset.mem_map.mp hj
    exact hS i
  refine h₁.trans ?_
  iintro ⟨H, HZ⟩
  iapply (wp_load 𝒱₀ (c : Thread nD τ) none Set.univ (hl := hl) (k := k) (S := D) (f := f) (q := q) hsub) $$ [H]
  · iexact H
  iintro H
  iapply hK
  isplitl [H]; · iexact H
  iexact HZ

/-- A store into a part of what is held. -/
theorem stB {f : Buf (Elt F) (m.view.loc (c : Thread nD τ))} {w : r.shape.Idx → Elt F e} {hx hm} {k : PUnit → Prog (TpuEff nD τ sig (Elt F) Λ₀ .tc) α}
    (hS : ∀ i, m.view.emb (r.emb i) ∈ D) (h₁ : T ⊢ iprop((m.view.loc (c : Thread nD τ) ↦[D]{fullShare} f) ∗ Z))
    (hK : ∀ f' : Buf (Elt F) (m.view.loc (c : Thread nD τ)), (∀ i, m.view.read (Elt F) f' (r.emb i) = w i) →
      (∀ j, (∀ i, j ≠ r.emb i) → m.view.read (Elt F) f' j = m.view.read (Elt F) f j) →
      iprop((m.view.loc (c : Thread nD τ) ↦[D]{fullShare} f') ∗ Z) ⊢ WP c (k ⟨⟩) Q) :
    T ⊢ WP c (.op (.store m r w Finset.univ hx hm) k) Q := by
  have hsub : (m.access r).setOn Finset.univ ⊆ D := by
    intro x hx
    obtain ⟨y, -, rfl⟩ := Finset.mem_map.mp hx
    exact hS y
  have hin : ∀ i, m.view.read (Elt F) ((m.access r).write (Elt F) f w Finset.univ) (r.emb i) = w i :=
    fun i => congrFun (View.read_write_univ (v := m.access r) f w) i
  have hout : ∀ j, (∀ i, j ≠ r.emb i) → m.view.read (Elt F) ((m.access r).write (Elt F) f w Finset.univ) j = m.view.read (Elt F) f j := by
    intro j hj
    rw [View.read_apply, View.read_apply]
    refine congrArg (cast _) (View.write_of_not_mem (v := m.access r) _ _ _ ?_)
    intro hm
    obtain ⟨y, -, hy⟩ := Finset.mem_map.mp hm
    exact hj y (m.view.emb.injective hy).symm
  refine h₁.trans ?_
  iintro ⟨H, HZ⟩
  iapply (wp_store 𝒱₀ (c : Thread nD τ) none Set.univ (hx := hx) (hm := hm) (k := k) (S := D) (f := f) hsub) $$ [H]
  · iexact H
  iintro H
  iapply (hK _ hin hout)
  isplitl [H]; · iexact H
  iexact HZ

end One

/-- What is held besides, brought to the front. -/
theorem Att_swap {X R : sProp 𝕄} : Att A c I n iprop(X ∗ R ∗ Z) ⊣⊢ iprop(X ∗ Att A c I n R ∗ Z) := by
  unfold Att; constructor
  · iintro ⟨%o, %a, %h, H, HX, HR, HZ⟩
    isplitl [HX]; · iexact HX
    isplitr [HZ]
    · iexists o; iexists a; isplitr; · ipureintro; exact h
      isplitl [H]; · iexact H
      iexact HR
    iexact HZ
  · iintro ⟨HX, ⟨%o, %a, %h, H, HR⟩, HZ⟩
    iexists o; iexists a; isplitr; · ipureintro; exact h
    isplitl [H]; · iexact H
    isplitl [HX]; · iexact HX
    isplitl [HR]; · iexact HR
    iexact HZ
theorem Att_front {X : sProp 𝕄} : Att A c I n iprop(X ∗ Z) ⊣⊢ iprop(X ∗ Att A c I n Z) := by
  unfold Att; constructor
  · iintro ⟨%o, %a, %h, H, HX, HZ⟩
    isplitl [HX]; · iexact HX
    iexists o; iexists a; isplitr; · ipureintro; exact h
    isplitl [H]; · iexact H
    iexact HZ
  · iintro ⟨HX, ⟨%o, %a, %h, H, HZ⟩⟩
    iexists o; iexists a; isplitr; · ipureintro; exact h
    isplitl [H]; · iexact H
    isplitl [HX]; · iexact HX
    iexact HZ

/-- The heads' results of a whole batch. -/
theorem at7v (b : Fin 2) (hb : 8 * b.val + 8 ≤ n) {o : Fin 2 → ℕ} {inb : ∀ a, o a + S256x512.size a ≤ S512x512.size a} {hl}
    {k : Vec F S256x512 .bf16 → Prog (TpuEff nD τ sig (Elt F) Λ₀ .tc) α} (ho : o = ![256 * b.val, 0])
    (hK : Att A c I n S ⊢ WP c (k (rdA (aF (qF I.x I.wq) I.k I.v) b)) Q) :
    Att A c I n S ⊢ WP c (.op (.load A.a7 (Rect.unit (s := S512x512) o S256x512.size inb).toLoadRect hl) k) Q := by
  subst ho
  refine Att_elim fun out a ha => ld7 (v := rdA (aF (qF I.x I.wq) I.k I.v) b) (fun i => ha _ ?_) ((Att_intro ha).trans hK)
  have e0 : ((Rect.unit (s := S512x512) ![256 * b.val, 0] S256x512.size inb).emb i 0).val = 256 * b.val + 1 * (i 0).val := Rect.emb_apply ..
  have h0 : (i 0).val < 256 := (i 0).isLt
  have h1 : ((Rect.unit (s := S512x512) ![256 * b.val, 0] S256x512.size inb).emb i 1).val < 512 := ((Rect.unit (s := S512x512) ![256 * b.val, 0] S256x512.size inb).emb i 1).isLt
  omega

/-- The second weight. -/
theorem at11 {o : Fin 2 → ℕ} {inb : ∀ a, o a + S512x768.size a ≤ S512x768.size a} {hl}
    {k : Vec F S512x768 .bf16 → Prog (TpuEff nD τ sig (Elt F) Λ₀ .tc) α} (ho : ∀ a, o a = 0)
    (hK : Att A c I n S ⊢ WP c (k (k0_pay2 I.wo)) Q) :
    Att A c I n S ⊢ WP c (.op (.load A.a11 (Rect.unit (s := S512x768) o S512x768.size inb).toLoadRect hl) k) Q :=
  Att_elim fun out a ha => ld11 (v := k0_pay2 I.wo) (fun i => congrArg _ (emb_zero ho inb i)) ((Att_intro ha).trans hK)

/-- A load of the partial results whose value is not used. -/
theorem atSl {D : Finset S8x64x768.Idx} {f : Buf8 F} {r : Rect S8x64x768} {hl} {k : (r.shape.Idx → Elt F .bf16) → Prog (TpuEff nD τ sig (Elt F) Λ₀ .tc) α}
    (hS : ∀ i, r.emb i ∈ D) (hK : ∀ v, Att A c I n iprop(sPt c D f ∗ Z) ⊢ WP c (k v) Q) :
    Att A c I n iprop(sPt c D f ∗ Z) ⊢ WP c (.op (.load sM r.toLoadRect hl) k) Q :=
  ldB (m := sM) hS Att_front.1 (Att_front.2.trans (hK _))

/-- A store of partial results. -/
theorem atSs {D : Finset S8x64x768.Idx} {f : Buf8 F} {r : Rect S8x64x768} {w : r.shape.Idx → Elt F .bf16} {hx hm}
    {k : PUnit → Prog (TpuEff nD τ sig (Elt F) Λ₀ .tc) α} (hS : ∀ i, r.emb i ∈ D)
    (hK : ∀ f' : Buf8 F, (∀ i, f' (r.emb i) = w i) → (∀ j, (∀ i, j ≠ r.emb i) → f' j = f j) →
      Att A c I n iprop(sPt c D f' ∗ Z) ⊢ WP c (k ⟨⟩) Q) :
    Att A c I n iprop(sPt c D f ∗ Z) ⊢ WP c (.op (.store sM r w Finset.univ hx hm) k) Q :=
  stB (m := sM) hS Att_front.1 fun f' h₁ h₂ => Att_front.2.trans (hK f' h₁ h₂)

/-- Four slots of the partial result stored. -/
theorem part_stored (b : Fin 2) {o : Fin 3 → ℕ} {inb : ∀ a, o a + S4x64x768.size a ≤ S8x64x768.size a} (ho : o = ![4 * b.val, 0, 0]) {f' : Buf8 F}
    (h : ∀ i, f' ((Rect.unit (s := S8x64x768) o S4x64x768.size inb).emb i) = partF (rdA (aF (qF I.x I.wq) I.k I.v) b) (k0_pay2 I.wo) i) :
    ∀ i : S8x64x768.Idx, (i 0).val / 4 = b.val → f' i = sF I.x I.wq I.k I.v I.wo i := by
  subst ho
  intro i hi
  have hb' : (⟨(i 0).val / 4, by have := slot_lt i; omega⟩ : Fin 2) = b := Fin.ext hi
  refine Eq.trans (congrArg f' ?_) ((h (ix3 (⟨(i 0).val % 4, Nat.mod_lt _ (by decide)⟩ : Fin 4) (⟨(i 1).val, (i 1).isLt⟩ : Fin 64) (⟨(i 2).val, (i 2).isLt⟩ : Fin 768))).trans ?_)
  · funext d
    refine Fin.ext (Eq.trans ?_ (Rect.emb_apply ..).symm)
    match d with
    | ⟨0, _⟩ => show (i 0).val = 4 * b.val + 1 * ((i 0).val % 4); omega
    | ⟨1, _⟩ => show (i 1).val = 0 + 1 * (i 1).val; omega
    | ⟨2, _⟩ => show (i 2).val = 0 + 1 * (i 2).val; omega
  · show _ = partF (rdA _ ⟨(i 0).val / 4, _⟩) _ _
    rw [hb']

/-- The slots not stored. -/
theorem part_kept (b : Fin 2) {o : Fin 3 → ℕ} {inb : ∀ a, o a + S4x64x768.size a ≤ S8x64x768.size a} (ho : o = ![4 * b.val, 0, 0]) {f f' : Buf8 F}
    (h : ∀ j, (∀ i, j ≠ (Rect.unit (s := S8x64x768) o S4x64x768.size inb).emb i) → f' j = f j) :
    ∀ i : S8x64x768.Idx, (i 0).val / 4 ≠ b.val → f' i = f i := by
  subst ho
  intro i hi
  refine h i ?_
  rintro j rfl
  have : ((Rect.unit (s := S8x64x768) ![4 * b.val, 0, 0] S4x64x768.size inb).emb j 0).val = 4 * b.val + 1 * (j 0).val := Rect.emb_apply ..
  have hj : (j 0).val < 4 := (j 0).isLt
  omega

end Cert.KernelIdeal.Proto

end
-- ==== Proof.BodyA.lean ====
/-
  The body's first half up to the second batch's attention: the signals, the first batch, the barrier, the first batch's
  partial results and the copies of them.
-/
module

public import proofs.«01_k».proof.Proof.Bufs

@[expose] public section

set_option maxRecDepth 16384

noncomputable section

namespace Cert.KernelIdeal.Proto

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ UU ℕ

variable {sC : Dev nD → Buf8 F} {gC : Buf8 F} {K : GSem nD τ sig → ℕ}
variable {R S Y Z T : sProp (MT nD τ sig Unit (Elt F) ℕ UU ℕ)} {c : Dev nD} {A : Args} {I : Ins F} {n : ℕ}

/-- The word of the device's own number. -/
abbrev idW (c : Dev nD) : BitVec 32 := Scalar.remsi (Scalar.divsi (Dev.word c) 1#32) 8#32

/-- The two duties and the open send cell of a copy to device `t`, half `h`: cells `k` on this device and `k'` on `t`. -/
def tk (k k' : Fin 4) (c : Dev nD) (h : Fin 2) (t : Dev nD) : sProp (MT nD τ sig Unit (Elt F) ℕ UU ℕ) :=
  iprop(dutyTok ER (xCell k t h c) 0 0 ∗ reached ER (xCell k t h c) 0 ∗ dutyTok ER (xCell k' c h t) 0 0)

/-- Reading the device's own number. -/
theorem devId {α : Type} {Q : α → sProp 𝕄} {k : Dev nD → Prog (TpuEff nD τ sig (Elt F) Λ₀ .tc) α} (h : T ⊢ WP c (k c) Q) : T ⊢ WP c (.op .deviceId k) Q :=
  h.trans (Entails.of_eq (wp_deviceId 𝒱₀ (c : Thread nD τ) none Set.univ).symm)

/-- A value handed to what follows. -/
theorem beta {α β : Type} {Q : α → sProp 𝕄} {x : β} {k : β → Prog (TpuEff nD τ sig (Elt F) Λ₀ .tc) α} (h : T ⊢ WP c (k x) Q) :
    T ⊢ WP c ((Prog.ret x).bind k) Q := h

/-! ## The signals -/

theorem part1 {Q : (Σ' (_ : Dev nD) (_ : BitVec 32) (_ : Sems sig S_), BitVec 32) → sProp 𝕄}
    (h : sgn_ sC gC K R c 2 ⊢ Q ⟨c, idW c, SemArray.scalar (sig.barrier 0 rfl), 1#32⟩) :
    sgn_ sC gC K R c 0 ⊢ WP c (app A (k0_part1 (F := F))) Q := by
  unfold app
  rw [k0_part1_eq_skeleton]
  unfold k0_part1_skel
  refine devId (sgn_step 0 (by decide) ((by decide : ∀ c : Dev nD, (⟨k0_dev1 c, k0_dev1_lt c⟩ : Dev nD) = sgn c 0) c) ?_)
  exact sgn_step 1 (by decide) ((by decide : ∀ c : Dev nD, (⟨k0_dev2 c, k0_dev2_lt c⟩ : Dev nD) = sgn c 1) c) (ret h)

theorem part2 {Q : (Σ' (_ : BitVec 32), BitVec 32) → sProp 𝕄} {w w' : BitVec 32} (h : ∀ r, sgn_ sC gC K R c 4 ⊢ Q r) :
    sgn_ sC gC K R c 2 ⊢ WP c (app A (k0_part2 (F := F)) c w (SemArray.scalar (sig.barrier 0 rfl)) w') Q := by
  unfold app
  rw [k0_part2_eq_skeleton]
  unfold k0_part2_skel
  refine sgn_step 2 (by decide) ((by decide : ∀ c : Dev nD, (⟨k0_dev3 c, k0_dev3_lt c⟩ : Dev nD) = sgn c 2) c) ?_
  exact sgn_step 3 (by decide) ((by decide : ∀ c : Dev nD, (⟨k0_dev4 c, k0_dev4_lt c⟩ : Dev nD) = sgn c 3) c) (ret (h _))

theorem part3 {Q : (Σ' (_ : BitVec 32) (_ : BitVec 32) (_ : BitVec 1), BitVec 1) → sProp 𝕄} {w w' w'' : BitVec 32} (h : ∀ r, sgn_ sC gC K R c 6 ⊢ Q r) :
    sgn_ sC gC K R c 4 ⊢ WP c (app A (k0_part3 (F := F)) c w (SemArray.scalar (sig.barrier 0 rfl)) w' w'') Q := by
  unfold app
  rw [k0_part3_eq_skeleton]
  unfold k0_part3_skel
  refine sgn_step 4 (by decide) ((by decide : ∀ c : Dev nD, (⟨k0_dev5 c, k0_dev5_lt c⟩ : Dev nD) = sgn c 4) c) ?_
  exact sgn_step 5 (by decide) ((by decide : ∀ c : Dev nD, (⟨k0_dev6 c, k0_dev6_lt c⟩ : Dev nD) = sgn c 5) c) (ret (h _))

theorem sgn_swap {k : ℕ} : sgn_ sC gC K iprop(T ∗ R) c k ⊢ iprop(T ∗ sgn_ sC gC K R c k) := by
  unfold sgn_
  iintro ⟨HC, ⟨HT, HR⟩, HZ⟩
  isplitl [HT]; · iexact HT
  isplitl [HC]; · iexact HC
  isplitl [HR]; · iexact HR
  iexact HZ

theorem part4 {Q : (Σ' (_ : FVec F S256x1 .f32), FVec F S256x512 .bf16) → sProp 𝕄} {w w' : BitVec 32} {b b' : BitVec 1}
    {out : Vec F S8x64x768 .f32} {q a : Vec F S512x512 .bf16} {w0 : Vec F S512x768 .bf16}
    (h : Att A c I 0 (sgn_ sC gC K R c 7) ⊢ Q ⟨k0_pay4 (rdQ (qF I.x I.wq) 0 0) (rdK I.k 0 0), k0_pay5 (rdQ (qF I.x I.wq) 0 0) (rdK I.k 0 0)⟩) :
    sgn_ sC gC K iprop(Loc A c ⟨I.x, I.wq, I.k, I.v, I.wo, out, q, a, w0⟩ ∗ R) c 6
      ⊢ WP c (app A (k0_part4 (F := F)) c (SemArray.scalar (sig.barrier 0 rfl)) w w' b b') Q := by
  unfold app
  rw [k0_part4_eq_skeleton]
  unfold k0_part4_skel
  refine sgn_step 6 (by decide) ((by decide : ∀ c : Dev nD, (⟨k0_dev7 c, k0_dev7_lt c⟩ : Dev nD) = sgn c 6) c) (sgn_swap.trans ?_)
  refine ld0 (v := I.x) (fun i => congrArg I.x (emb_zero (by decide) _ i)) ?_
  refine ld1 (v := I.wq) (fun i => congrArg I.wq (emb_zero (by decide) _ i)) ?_
  refine ld6 (fun _ => rfl) ?_
  refine st6 fun q' hq _ => ?_
  obtain rfl : q' = qF I.x I.wq := funext fun i => (congrArg q' (emb_zero (by decide) _ i).symm).trans (hq i)
  refine ld4 (v := I.wo) (fun i => congrArg I.wo (emb_zero (by decide) _ i)) ?_
  refine ld11 (fun _ => rfl) ?_
  refine st11 fun w' hw _ => ?_
  obtain rfl : w' = k0_pay2 I.wo := funext fun i => (congrArg w' (emb_zero (by decide) _ i).symm).trans (hw i)
  refine (Att_intro (good_zero a)).trans ?_
  exact atQ 0 0 rfl (atK 0 0 rfl (ret h))

/-! ## The barrier, the first partial results, their copies -/

/-- The rooms received at the barrier and the duties make up what the copies of partial results need. -/
theorem to_snd {f : Buf8 F} :
    Att A c I n iprop(sPt c Finset.univ f ∗ (Ctx sC gC K ∗ Oth c (fun t => iprop(tk 0 1 c 0 t ∗ tk 0 1 c 1 t)) ∗ Y
        ∗ atPos ER (barCell c) 1 ∅ 0 ∗ Oth c (fun p => barPay c p) ∗ ow c (owG 1 c 0 + owG 0 c 0 + owR c 0)))
      ⊢ sndR sC gC K (Att A c I n iprop(atPos ER (barCell c) 1 ∅ 0 ∗ Oth c (fun t => iprop(roomG c t 0 ∗ roomG c t 1)) ∗ Y)) f c 0 := by
  have hR : iprop(Oth c (fun t => iprop(roomR c t 0 ∗ roomR c t 1)) ∗ Oth c (fun t => iprop(tk 0 1 c 0 t ∗ tk 0 1 c 1 t)))
      ⊢ (Oth c (fun t => iprop(rT c 0 t ∗ rT c 1 t)) : sProp 𝕄) := by
    refine (Entails.of_eq Oth_sep.symm).trans (Oth_mono fun p _ => ?_)
    unfold rT tk
    iintro ⟨⟨H0, H1⟩, T0, T1⟩
    isplitl [H0 T0]
    · isplitl [H0]; · iexact H0
      iexact T0
    isplitl [H1]; · iexact H1
    iexact T1
  have hB : Oth c (fun p => barPay c p) ⊢ iprop(Oth c (fun t => iprop(roomR c t 0 ∗ roomR c t 1)) ∗ (Oth c (fun t => iprop(roomG c t 0 ∗ roomG c t 1)) : sProp 𝕄)) :=
    Entails.of_eq (Oth_sep (A := fun t => iprop(roomR c t 0 ∗ roomR c t 1)) (B := fun t => iprop(roomG c t 0 ∗ roomG c t 1)))
  refine Att_elim fun out a ha => ?_
  unfold sndR
  rw [sReg_zero, Fam_zero]
  iintro ⟨HL, Hs, HC, Ht, HY, Hat, Hb, HO⟩
  ihave Hb' := hB $$ Hb
  icases Hb' with ⟨HrR, HrG⟩
  isplitl [HC]; · iexact HC
  isplitl [HL Hat HrG HY]
  · iapply (Att_intro ha)
    iframe
  isplitl [HrR Ht]
  · iapply hR
    isplitl [HrR]; · iexact HrR
    iexact Ht
  isplitl [Hs]; · iexact Hs
  iexact HO

set_option maxHeartbeats 1000000 in
theorem part9 (hsC : sC c = sF I.x I.wq I.k I.v I.wo) {Q : BitVec 1 → sProp 𝕄} {f₀ : Buf8 F}
    (h : ∀ f r, (∀ i : S8x64x768.Idx, (i 0).val / 4 = 0 → f i = sC c i) →
      sndR sC gC K (Att A c I 8 iprop(atPos ER (barCell c) 1 ∅ 0 ∗ Oth c (fun t => iprop(roomG c t 0 ∗ roomG c t 1)) ∗ Y)) f c 2 ⊢ Q r) :
    Att A c I 7 iprop(Ctx sC gC K ∗ (sPt c Finset.univ f₀ ∗ Oth c (fun t => iprop(tk 0 1 c 0 t ∗ tk 0 1 c 1 t)) ∗ Y)
        ∗ cred (tallyAt (barCell c) () 7) ∗ atPos ER (barCell c) 0 ∅ 0 ∗ ow c (owG 1 c 0 + owG 0 c 0 + owR c 0))
      ⊢ WP c (app A (k0_part9 (F := F)) c (idW c) (SemArray.scalar (sig.barrier 0 rfl)) (rdQ (qF I.x I.wq) 0 7) (k0_pay18 (rdK I.k 0 7))
        (constant S256x512 .f32 0x00000000#32)) Q := by
  unfold app
  rw [k0_part9_eq_skeleton]
  unfold k0_part9_skel
  refine atV 0 7 rfl (at7 fun _ => atS 0 7 rfl rfl (head19 _ _ _) (Att_swap.1.trans ?_))
  refine bar_wait (Att_swap.2.trans ?_)
  refine BI.Entails.trans (Att_mono (S' := iprop(sPt c Finset.univ f₀ ∗ (Ctx sC gC K ∗ Oth c (fun t => iprop(tk 0 1 c 0 t ∗ tk 0 1 c 1 t)) ∗ Y
      ∗ atPos ER (barCell c) 1 ∅ 0 ∗ Oth c (fun p => barPay c p) ∗ ow c (owG 1 c 0 + owG 0 c 0 + owR c 0)))) ?_) ?_
  · iintro ⟨HC, ⟨Hs, Ht, HY⟩, Hat, Hb, HO⟩
    iframe
  refine at7v 0 (by decide) rfl (at11 (by decide) (atSl (fun _ => Finset.mem_univ _) fun _ => atSs (fun _ => Finset.mem_univ _) fun f hf _ => ?_))
  have hf' : ∀ i : S8x64x768.Idx, (i 0).val / 4 = 0 → f i = sC c i := fun i hi => (part_stored (I := I) 0 rfl hf i hi).trans (congrFun hsC i).symm
  have hr : ∀ t : Dev nD, t.val / 4 = 0 → ∀ i ∈ row t, f i = sC c i := fun t ht i hi => hf' i (by rw [mem_row.mp hi]; exact ht)
  refine BI.Entails.trans (Q := sndR sC gC K (Att A c I 8 iprop(atPos ER (barCell c) 1 ∅ 0 ∗ Oth c (fun t => iprop(roomG c t 0 ∗ roomG c t 1)) ∗ Y)) f c 0) ?_ ?_
  · exact to_snd
  refine beta ?_
  extract_lets

  refine sndR_guard 0 rfl rfl ((by decide : ∀ c : Dev nD, k0_cond1 c = 1#1 ↔ (0 : Dev nD) ≠ c) c) (fun hK h ht => sndR_two (t := 0) ht (hr 0 rfl) (by exact rfl) (by exact k0_off2_eq c)
    (by exact rfl) (by exact k0_off4_eq c) (by exact sem6 rfl) (by exact sem7 (k0_off1_eq c)) (by exact sem6 rfl) (by exact sem7 (k0_off3_eq c))
    (by exact Fin.ext k0_dev8_eq) (by exact Fin.ext k0_dev9_eq) hK) ?_
  refine sndR_guard 1 rfl rfl ((by decide : ∀ c : Dev nD, k0_cond2 c = 1#1 ↔ (1 : Dev nD) ≠ c) c) (fun hK h ht => sndR_two (t := 1) ht (hr 1 rfl) (by exact rfl) (by exact k0_off6_eq c)
    (by exact rfl) (by exact k0_off8_eq c) (by exact sem6 rfl) (by exact sem7 (k0_off5_eq c)) (by exact sem6 rfl) (by exact sem7 (k0_off7_eq c))
    (by exact Fin.ext k0_dev10_eq) (by exact Fin.ext k0_dev11_eq) hK) ?_
  exact ret (h f _ hf')

/-- The copies' state inside or outside what the heads carry along. -/
theorem sndR_swap {f : Buf8 F} {k : ℕ} : sndR sC gC K (Att A c I n R) f c k ⊣⊢ Att A c I n (sndR sC gC K R f c k) := by
  unfold sndR
  exact ⟨Att_swap.2, Att_swap.1⟩

set_option maxHeartbeats 1000000 in
theorem part10 {w : BitVec 32} {w' : BitVec 1} {f : Buf8 F} (hf : ∀ i : S8x64x768.Idx, (i 0).val / 4 = 0 → f i = sC c i) {Q : FVec F S256x512 .f32 → sProp 𝕄}
    (h : Att A c I 9 (sndR sC gC K R f c 4) ⊢ Q (k0_pay22 (rdQ (qF I.x I.wq) 1 1) (rdK I.k 1 1))) :
    sndR sC gC K (Att A c I 8 R) f c 2 ⊢ WP c (app A (k0_part10 (F := F)) c w w') Q := by
  have hr : ∀ t : Dev nD, t.val / 4 = 0 → ∀ i ∈ row t, f i = sC c i := fun t ht i hi => hf i (by rw [mem_row.mp hi]; exact ht)
  unfold app
  rw [k0_part10_eq_skeleton]
  unfold k0_part10_skel
  extract_lets
  refine sndR_guard 2 rfl rfl ((by decide : ∀ c : Dev nD, k0_cond3 c = 1#1 ↔ (2 : Dev nD) ≠ c) c) (fun hK h ht => sndR_two (t := 2) ht (hr 2 rfl) (by exact rfl) (by exact k0_off10_eq c)
    (by exact rfl) (by exact k0_off12_eq c) (by exact sem6 rfl) (by exact sem7 (k0_off9_eq c)) (by exact sem6 rfl) (by exact sem7 (k0_off11_eq c))
    (by exact Fin.ext k0_dev12_eq) (by exact Fin.ext k0_dev13_eq) hK) ?_
  refine sndR_guard 3 rfl rfl ((by decide : ∀ c : Dev nD, k0_cond4 c = 1#1 ↔ (3 : Dev nD) ≠ c) c) (fun hK h ht => sndR_two (t := 3) ht (hr 3 rfl) (by exact rfl) (by exact k0_off14_eq c)
    (by exact rfl) (by exact k0_off16_eq c) (by exact sem6 rfl) (by exact sem7 (k0_off13_eq c)) (by exact sem6 rfl) (by exact sem7 (k0_off15_eq c))
    (by exact Fin.ext k0_dev14_eq) (by exact Fin.ext k0_dev15_eq) hK) ?_
  refine sndR_swap.1.trans ?_
  refine atQ 1 0 rfl (atK 1 0 rfl (atV 1 0 rfl (at7 fun _ => atS 1 0 rfl rfl (head21 _ _ _) ?_)))
  exact atQ 1 1 rfl (atK 1 1 rfl (ret h))

end Cert.KernelIdeal.Proto

end
-- ==== Proof.BodyB.lean ====
/-
  The second batch's partial results and the copies of them; the device's own partial result moved to its receive slot.
-/
module

public import proofs.«01_k».proof.Proof.BodyA

@[expose] public section

set_option maxRecDepth 16384

noncomputable section

namespace Cert.KernelIdeal.Proto

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ UU ℕ

variable {sC : Dev nD → Buf8 F} {gC : Buf8 F} {K : GSem nD τ sig → ℕ}
variable {R S Y Z T : sProp (MT nD τ sig Unit (Elt F) ℕ UU ℕ)} {c : Dev nD} {A : Args} {I : Ins F} {n : ℕ}

/-- The word that guards a statement for device `k`. -/
theorem wg (c k : Dev nD) :
    (Scalar.cmpi .ne (Scalar.extui (Scalar.cmpi .ne (idW c) (BitVec.ofNat 32 k.val)) : BitVec 32) 0#32 = 1#1) ↔ k ≠ c :=
  (wordne c k).trans ⟨fun h e => h (congrArg Fin.val e), fun h e => h (Fin.ext e)⟩

/-! ## A whole slot -/

theorem slot_in {t : Dev nD} {o : Fin 3 → ℕ} {inb : ∀ a, o a + S1x64x768.size a ≤ S8x64x768.size a} (ho : o = ![t.val, 0, 0]) (i : S1x64x768.Idx) :
    (Rect.unit (s := S8x64x768) o S1x64x768.size inb).emb i ∈ row t := by
  subst ho
  have e : ((Rect.unit (s := S8x64x768) ![t.val, 0, 0] S1x64x768.size inb).emb i 0).val = t.val + 1 * (i 0).val := Rect.emb_apply ..
  have h0 : (i 0).val < 1 := (i 0).isLt
  rw [mem_row]; omega

theorem slot_out {t : Dev nD} {o : Fin 3 → ℕ} {inb : ∀ a, o a + S1x64x768.size a ≤ S8x64x768.size a} (ho : o = ![t.val, 0, 0]) {j : S8x64x768.Idx}
    (hj : j ∈ row t) : ∃ i, j = (Rect.unit (s := S8x64x768) o S1x64x768.size inb).emb i := by
  subst ho
  rw [mem_row] at hj
  refine ⟨ix3 (0 : Fin 1) (⟨(j 1).val, (j 1).isLt⟩ : Fin 64) (⟨(j 2).val, (j 2).isLt⟩ : Fin 768), ?_⟩
  funext d
  refine Fin.ext (Eq.trans ?_ (Rect.emb_apply ..).symm)
  match d with
  | ⟨0, _⟩ => show (j 0).val = t.val + 1 * 0; omega
  | ⟨1, _⟩ => show (j 1).val = 0 + 1 * (j 1).val; omega
  | ⟨2, _⟩ => show (j 2).val = 0 + 1 * (j 2).val; omega

/-- A device's own slot of its receive buffer carries its own partial result. -/
theorem rC_own {i : S8x64x768.Idx} (hi : i ∈ row c) : rC sC c i = sC c i := by
  rw [mem_row] at hi
  have e : (i 0 : Dev nD) = c := Fin.ext hi
  show sC (i 0) (at0 c i) = _
  rw [e]
  refine congrArg _ ?_
  unfold at0
  rw [← e]
  exact Function.update_eq_self ..

theorem pay36 (v : Vec F S1x64x768 .bf16) : k0_pay36 v = v := by
  funext i
  exact congrArg v (Shape.reshapeEquiv_self _ i)

/-! ## The part -/

/-- What is left of the partial buffer, brought to the front. -/
theorem sndR_s {f : Buf8 F} {k : ℕ} : sndR sC gC K R f c k ⊣⊢ iprop(sPt c (sReg c k) f ∗ (Ctx sC gC K ∗ R
    ∗ Fam c k (fun t => iprop(rT c 0 t ∗ rT c 1 t)) (fun t => iprop(crd 0 c 0 t ∗ crd 0 c 1 t)) ∗ ow c (owG 1 c 0 + owG 0 c 0 + owR c k))) := by
  unfold sndR; constructor
  · iintro ⟨HC, HR, HF, Hs, HO⟩; iframe
  · iintro ⟨Hs, HC, HR, HF, HO⟩; iframe

/-- All partial results sent: the device's own is left. -/
theorem snd_done : sndR sC gC K (Att A c I n iprop((∃ f, rPt c (row c) f) ∗ Oth c (wT 1 c 0) ∗ R)) (sC c) c 8
    ⊢ iprop(sPt c (row c) (sC c) ∗ ((∃ f, rPt c (row c) f) ∗ (Ctx sC gC K ∗ Att A c I n R ∗ Oth c (wT 1 c 0) ∗ Oth c (fun t => iprop(crd 0 c 0 t ∗ crd 0 c 1 t))
      ∗ ow c (owG 1 c 0 + owG 0 c 0)))) := by
  unfold sndR owR
  rw [sReg_eight, Fam_eight, Tal_eight, add_zero]
  iintro ⟨HC, HA, HF, Hs, HO⟩
  ihave HA' := Att_front.1 $$ HA
  icases HA' with ⟨Hr, HA⟩
  ihave HA' := Att_front.1 $$ HA
  icases HA' with ⟨Hw, HA⟩
  iframe

/-- What the waits for the first half carry. -/
abbrev afterB (sC : Dev nD → Buf8 F) (A : Args) (c : Dev nD) (I : Ins F) (R : sProp (MT nD τ sig Unit (Elt F) ℕ UU ℕ)) : sProp (MT nD τ sig Unit (Elt F) ℕ UU ℕ) :=
  iprop(rPt c (row c) (rC sC c) ∗ sPt c (row c) (sC c) ∗ Oth c (fun t => iprop(crd 0 c 0 t ∗ crd 0 c 1 t)) ∗ Att A c I 16 R)

theorem to_wait : iprop(rPt c (row c) (rC sC c) ∗ sPt c (row c) (sC c) ∗ (Ctx sC gC K ∗ Att A c I 16 R ∗ Oth c (wT 1 c 0)
      ∗ Oth c (fun t => iprop(crd 0 c 0 t ∗ crd 0 c 1 t)) ∗ ow c (owG 1 c 0 + owG 0 c 0)))
    ⊢ wtOne sC gC K (afterB sC A c I R) (owG 1 c 0 + owG 0 c 0) 1 0 c 0 := by
  unfold wtOne
  rw [Fam_zero]
  iintro ⟨Hr, Hs, HC, HA, Hw, Hc, HO⟩
  isplitl [HC]; · iexact HC
  isplitl [Hr Hs Hc HA]
  · isplitl [Hr]; · iexact Hr
    isplitl [Hs]; · iexact Hs
    isplitl [Hc]; · iexact Hc
    iexact HA
  isplitl [Hw]; · iexact Hw
  iexact HO

/-- Contents held but not known: whatever they are. -/
theorem any_elim {β : Type} {P : β → sProp 𝕄} (h : ∀ g, iprop(P g ∗ S ∗ Z) ⊢ T) : iprop(S ∗ (∃ g, P g) ∗ Z) ⊢ T := by
  iintro ⟨HS, ⟨%g, HP⟩, HZ⟩
  iapply (h g)
  isplitl [HP]; · iexact HP
  isplitl [HS]; · iexact HS
  iexact HZ

set_option maxHeartbeats 2000000 in
theorem part15 (hsC : sC c = sF I.x I.wq I.k I.v I.wo) {f : Buf8 F} (hf : ∀ i : S8x64x768.Idx, (i 0).val / 4 = 0 → f i = sC c i)
    {Q : (Σ' (_ : BitVec 32), BitVec 32) → sProp 𝕄}
    (h : wtOne sC gC K (afterB sC A c I R) (owG 1 c 0 + owG 0 c 0) 1 0 c 1 ⊢ Q ⟨Scalar.extui (Scalar.cmpi .ne (idW c) 1#32), 0#32⟩) :
    Att A c I 16 (sndR sC gC K iprop((∃ f, rPt c (row c) f) ∗ Oth c (wT 1 c 0) ∗ R) f c 4) ⊢ WP c (app A (k0_part15 (F := F)) c (idW c)) Q := by
  unfold app
  rw [k0_part15_eq_skeleton]
  unfold k0_part15_skel
  have hin : ∀ (inb : ∀ a, (![4, 0, 0] : Fin 3 → ℕ) a + S4x64x768.size a ≤ S8x64x768.size a) (i : S4x64x768.Idx),
      (Rect.unit (s := S8x64x768) ![4, 0, 0] S4x64x768.size inb).emb i ∈ sReg c 4 := fun inb i => by
    have e : ((Rect.unit (s := S8x64x768) ![4, 0, 0] S4x64x768.size inb).emb i 0).val = 4 + 1 * (i 0).val := Rect.emb_apply ..
    rw [mem_sReg]; omega
  refine at7v 1 (by decide) rfl (at11 (by decide) ((Att_mono sndR_s.1).trans (atSl (hin _) fun _ => atSs (hin _) fun f' hf₁ hf₂ => ?_)))
  have e : f' = sC c := by
    funext i
    by_cases hi : (i 0).val / 4 = 1
    · exact (part_stored (I := I) 1 rfl hf₁ i hi).trans (congrFun hsC i).symm
    · have := slot_lt i
      exact (part_kept 1 rfl hf₂ i hi).trans (hf i (by omega))
  refine (Att_mono sndR_s.2).trans (sndR_swap.2.trans ?_)
  clear hf₁ hf₂
  subst e
  refine beta ?_
  extract_lets
  refine sndR_guard 4 rfl rfl ((by decide : ∀ c : Dev nD, k0_cond5 c = 1#1 ↔ (4 : Dev nD) ≠ c) c) (fun hK h ht => sndR_two (t := 4) ht (fun _ _ => rfl) (by exact rfl) (by exact k0_off18_eq c)
    (by exact rfl) (by exact k0_off20_eq c) (by exact sem6 rfl) (by exact sem7 (k0_off17_eq c)) (by exact sem6 rfl) (by exact sem7 (k0_off19_eq c))
    (by exact Fin.ext k0_dev16_eq) (by exact Fin.ext k0_dev17_eq) hK) ?_
  refine sndR_guard 5 rfl rfl ((by decide : ∀ c : Dev nD, k0_cond6 c = 1#1 ↔ (5 : Dev nD) ≠ c) c) (fun hK h ht => sndR_two (t := 5) ht (fun _ _ => rfl) (by exact rfl) (by exact k0_off22_eq c)
    (by exact rfl) (by exact k0_off24_eq c) (by exact sem6 rfl) (by exact sem7 (k0_off21_eq c)) (by exact sem6 rfl) (by exact sem7 (k0_off23_eq c))
    (by exact Fin.ext k0_dev18_eq) (by exact Fin.ext k0_dev19_eq) hK) ?_
  refine sndR_guard 6 rfl rfl ((by decide : ∀ c : Dev nD, k0_cond7 c = 1#1 ↔ (6 : Dev nD) ≠ c) c) (fun hK h ht => sndR_two (t := 6) ht (fun _ _ => rfl) (by exact rfl) (by exact k0_off26_eq c)
    (by exact rfl) (by exact k0_off28_eq c) (by exact sem6 rfl) (by exact sem7 (k0_off25_eq c)) (by exact sem6 rfl) (by exact sem7 (k0_off27_eq c))
    (by exact Fin.ext k0_dev20_eq) (by exact Fin.ext k0_dev21_eq) hK) ?_
  refine sndR_guard 7 rfl rfl ((by decide : ∀ c : Dev nD, k0_cond8 c = 1#1 ↔ (7 : Dev nD) ≠ c) c) (fun hK h ht => sndR_two (t := 7) ht (fun _ _ => rfl) (by exact rfl) (by exact k0_off30_eq c)
    (by exact rfl) (by exact k0_off32_eq c) (by exact sem6 rfl) (by exact sem7 (k0_off29_eq c)) (by exact sem6 rfl) (by exact sem7 (k0_off31_eq c))
    (by exact Fin.ext k0_dev22_eq) (by exact Fin.ext k0_dev23_eq) hK) ?_
  refine snd_done.trans ?_
  refine ldB (m := sM) (fun i => slot_in (k0_off33_eq c) i) (Entails.refl _) ?_
  refine any_elim fun g => ?_
  refine ldB (m := rM) (fun i => slot_in (k0_off33_eq c) i) (Entails.refl _) ?_
  refine stB (m := rM) (fun i => slot_in (k0_off33_eq c) i) (Entails.refl _) fun g' hg _ => ?_
  have eg : rPt c (row c) g' = rPt c (row c) (rC sC c) := by
    refine pointsTo_congr fun i hi => ?_
    rw [rC_own hi]
    obtain ⟨j, rfl⟩ := slot_out (inb := k0_off33_inb c) (k0_off33_eq c) hi
    exact (hg j).trans (congrFun (pay36 _) j)
  refine BI.Entails.trans (BIClass.sep_mono (Entails.of_eq eg) .rfl) (to_wait.trans ?_)
  refine beta ?_
  extract_lets
  refine wtOne_guard 0 rfl rfl (by exact wg c 0) (fun hK h ht => wtOne_one (t := 0) ht (mayWait_r0 c 0 0) (by exact sem7 rfl) (by exact rfl) hK) ?_
  exact ret h

end Cert.KernelIdeal.Proto

end
-- ==== Proof.Whole.lean ====
/-
  The exchange's buffers put together from slots and half-slots, and the shares of a total's slot.
-/
module

public import proofs.«01_k».proof.Proof.BodyB

@[expose] public section

set_option maxRecDepth 16384

noncomputable section

namespace Cert.KernelIdeal.Proto

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ UU ℕ

variable {sC : Dev nD → Buf8 F} {gC : Buf8 F} {K : GSem nD τ sig → ℕ}
variable {R R' S Y Z T : sProp (MT nD τ sig Unit (Elt F) ℕ UU ℕ)} {c : Dev nD} {A : Args} {I : Ins F} {n : ℕ}

theorem Oth_erase {B : Dev nD → sProp 𝕄} : Oth c B = bigSep (Finset.univ.erase c) B := by
  unfold Oth
  rw [split_at c (fun p => if p = c then iprop(emp) else B p), if_pos rfl]
  refine (BI.Entails.antisymm emp_sep.1 emp_sep.2).trans (BI.bigSep_congr fun p hp => ?_)
  rw [if_neg (Finset.mem_erase.mp hp).1]

/-- A family over the devices: this one's member and the others'. -/
theorem all_split {B : Dev nD → sProp 𝕄} : bigSep Finset.univ B = iprop(B c ∗ Oth c B) := by
  rw [Oth_erase]; exact split_at c B

/-! ## Receive buffer -/

theorem r_half (h : Fin 2) (f : Buf8 F) : (rPt c (col h) f : sProp 𝕄) = iprop(rPt c (blk c h) f ∗ Oth c fun t => rPt c (blk t h) f) := by
  rw [col_blks]
  exact (pointsTo_biUnion _ _ fun t _ t' _ hne => blk_disj hne h h).trans all_split

theorem col_disj : Disjoint (col 0) (col 1) := by
  rw [Finset.disjoint_left]; intro i hi hj
  rw [mem_col] at hi hj; exact absurd (hi.symm.trans hj) (by decide)
theorem col_union : (Finset.univ : Finset S8x64x768.Idx) = col 0 ∪ col 1 := by
  ext i; have := half_lt i
  simp only [Finset.mem_univ, Finset.mem_union, mem_col, Fin.val_zero, Fin.val_one, true_iff]; omega

theorem r_whole (f : Buf8 F) : iprop(rPt c (col 0) f ∗ rPt c (col 1) f) ⊢ (rPt c Finset.univ f : sProp 𝕄) := by
  rw [col_union]; exact (pointsTo_union col_disj).2

theorem r_row (f : Buf8 F) : (rPt c (row c) f : sProp 𝕄) ⊢ iprop(rPt c (blk c 0) f ∗ rPt c (blk c 1) f) := by
  rw [row_eq]; exact (pointsTo_union (blk_disj_half c c)).1

/-! ## Partial results -/

theorem s_row (t : Dev nD) (f : Buf8 F) : iprop(sPt c (blk t 0) f ∗ sPt c (blk t 1) f) ⊢ (sPt c (row t) f : sProp 𝕄) := by
  rw [row_eq]; exact (pointsTo_union (blk_disj_half t t)).2

theorem s_rows {J : Finset S8x64x768.Idx} (hJ : J = Finset.univ.biUnion row) (f : Buf8 F) :
    (sPt c J f : sProp 𝕄) = iprop(sPt c (row c) f ∗ Oth c fun t => sPt c (row t) f) := by
  rw [hJ]
  exact (pointsTo_biUnion _ _ fun t _ t' _ hne => row_disj hne).trans all_split

theorem s_whole (f : Buf8 F) : iprop(sPt c (row c) f ∗ Oth c fun t => iprop(sPt c (blk t 0) f ∗ sPt c (blk t 1) f)) ⊢ (sPt c Finset.univ f : sProp 𝕄) := by
  rw [s_rows univ_rows f]
  exact sep_mono_right (Oth_mono fun p _ => s_row p f)

/-! ## Totals -/

theorem g_leaves (J : Finset S8x64x768.Idx) (f : Buf8 F) : (gPt c J fullShare f : sProp 𝕄) = iprop(gPt c J (lf c) f ∗ Oth c fun t => gPt c J (lf t) f) :=
  (ShareLeaves.pointsTo_leaves (ℓ := (gM : Memref sig .tc .vmem S8x64x768 .bf16).view.loc (c : Thread nD τ)) J f 3 fullShare).trans
    (all_split (B := fun t : Dev nD => gPt c J (lf t) f))

theorem g_row (t : Dev nD) (q : PosShare TreeShare) (f : Buf8 F) : (gPt c (row t) q f : sProp 𝕄) ⊣⊢ iprop(gPt c (blk t 0) q f ∗ gPt c (blk t 1) q f) := by
  rw [row_eq]; exact pointsTo_union (blk_disj_half t t)

theorem g_rows {J : Finset S8x64x768.Idx} (hJ : J = Finset.univ.biUnion row) (q : PosShare TreeShare) (f : Buf8 F) :
    (gPt c J q f : sProp 𝕄) = iprop(gPt c (row c) q f ∗ Oth c fun t => gPt c (row t) q f) := by
  rw [hJ]
  exact (pointsTo_biUnion _ _ fun t _ t' _ hne => row_disj hne).trans all_split

theorem g_univ (q : PosShare TreeShare) (f : Buf8 F) : (gPt c Finset.univ q f : sProp 𝕄) = iprop(gPt c (row c) q f ∗ Oth c fun t => gPt c (row t) q f) :=
  g_rows univ_rows q f

/-- The whole buffer at the share kept, out of the own slot at that share and the other slots. -/
theorem g_lend (f : Buf8 F) : (iprop(gPt c (row c) (lf c) f ∗ Oth c fun t => gPt c (row t) fullShare f) : sProp 𝕄)
    ⊣⊢ iprop(gPt c Finset.univ (lf c) f ∗ Oth c fun t => Oth c fun u => gPt c (row t) (lf u) f) := by
  have e : (Oth c fun t => gPt c (row t) fullShare f : sProp 𝕄) = iprop((Oth c fun t => gPt c (row t) (lf c) f) ∗ Oth c fun t => Oth c fun u => gPt c (row t) (lf u) f) := by
    rw [← Oth_sep]
    exact congrArg (Oth c) (funext fun t => g_leaves (row t) f)
  rw [e, g_univ (lf c) f]
  exact ⟨sep_assoc.2, sep_assoc.1⟩

/-! ## What the waits carry, changed -/

theorem wtOne_mono {O : CellTallies nD τ sig Unit} {a : Fin 4} {h : Fin 2} {k : ℕ} (e : R ⊢ R') : wtOne sC gC K R O a h c k ⊢ wtOne sC gC K R' O a h c k := by
  unfold wtOne; exact sep_mono_right (BIClass.sep_mono e .rfl)
theorem wtTwo_mono {a : Fin 4} {k : ℕ} (e : R ⊢ R') : wtTwo sC gC K R a c k ⊢ wtTwo sC gC K R' a c k := by
  unfold wtTwo; exact sep_mono_right (BIClass.sep_mono e .rfl)
theorem sndG_mono {X : CellTallies nD τ sig Unit} {h : Fin 2} {k : ℕ} (e : R ⊢ R') : sndG sC gC K R X h c k ⊢ sndG sC gC K R' X h c k := by
  unfold sndG; exact sep_mono_right (BIClass.sep_mono e .rfl)

end Cert.KernelIdeal.Proto

end
-- ==== Proof.Sum.lean ====
/-
  The totals: the waits for the partial half-rows of the others, the sum of the half-column, and the copies of the
  total to every other device.
-/
module

public import proofs.«01_k».proof.Proof.Whole

@[expose] public section

set_option maxRecDepth 16384

noncomputable section

namespace Cert.KernelIdeal.Proto

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ UU ℕ

variable {sC : Dev nD → Buf8 F} {gC : Buf8 F} {K : GSem nD τ sig → ℕ}
variable {R R' S Y Z T : sProp (MT nD τ sig Unit (Elt F) ℕ UU ℕ)} {c : Dev nD} {A : Args} {I : Ins F} {n : ℕ}

/-! ## Indices -/

theorem col_in {h : Fin 2} {o : Fin 3 → ℕ} {inb : ∀ a, o a + S8x64x384.size a ≤ S8x64x768.size a} (ho : o = ![0, 0, 384 * h.val]) (i : S8x64x384.Idx) :
    (Rect.unit (s := S8x64x768) o S8x64x384.size inb).emb i ∈ col h := by
  subst ho
  have e : ((Rect.unit (s := S8x64x768) ![0, 0, 384 * h.val] S8x64x384.size inb).emb i 2).val = 384 * h.val + 1 * (i 2).val := Rect.emb_apply ..
  have h2 : (i 2).val < 384 := (i 2).isLt
  rw [mem_col]; omega

theorem blk_in {t : Dev nD} {h : Fin 2} {o : Fin 3 → ℕ} {inb : ∀ a, o a + S1x64x384.size a ≤ S8x64x768.size a} (ho : o = ![t.val, 0, 384 * h.val])
    (i : S1x64x384.Idx) : (Rect.unit (s := S8x64x768) o S1x64x384.size inb).emb i ∈ blk t h := by
  rw [← unit_half_set (inb := inb) ho, ← Rect.map_emb_univ]
  exact Finset.mem_map_of_mem _ (Finset.mem_univ _)

/-- In half-slot `(t, h)` the totals are device `t`'s sums of half-column `h`. -/
theorem blk_sum {t : Dev nD} {h : Fin 2} {o : Fin 3 → ℕ} {inb : ∀ a, o a + S1x64x384.size a ≤ S8x64x768.size a} (ho : o = ![t.val, 0, 384 * h.val])
    {j : S8x64x768.Idx} (hj : j ∈ blk t h) :
    ∃ i, j = (Rect.unit (s := S8x64x768) o S1x64x384.size inb).emb i ∧ gF sC j = sumF (rC sC t) h i := by
  rw [← unit_half_set (inb := inb) ho, ← Rect.map_emb_univ] at hj
  obtain ⟨i, -, rfl⟩ := Finset.mem_map.mp hj
  refine ⟨i, rfl, ?_⟩
  subst ho
  have e0 : ((Rect.unit (s := S8x64x768) ![t.val, 0, 384 * h.val] S1x64x384.size inb).emb i 0).val = t.val + 1 * (i 0).val := Rect.emb_apply ..
  have e1 : ((Rect.unit (s := S8x64x768) ![t.val, 0, 384 * h.val] S1x64x384.size inb).emb i 1).val = 0 + 1 * (i 1).val := Rect.emb_apply ..
  have e2 : ((Rect.unit (s := S8x64x768) ![t.val, 0, 384 * h.val] S1x64x384.size inb).emb i 2).val = 384 * h.val + 1 * (i 2).val := Rect.emb_apply ..
  have h0 : (i 0).val < 1 := (i 0).isLt
  have h2 : (i 2).val < 384 := (i 2).isLt
  generalize (Rect.unit (s := S8x64x768) ![t.val, 0, 384 * h.val] S1x64x384.size inb).emb i = j at e0 e1 e2
  have et : (j 0 : Dev nD) = t := Fin.ext (by omega)
  have eh : (⟨(j 2).val / 384, by have : (j 2).val < 768 := (j 2).isLt; omega⟩ : Fin 2) = h := Fin.ext (by show (j 2).val / 384 = h.val; omega)
  show sumF (rC sC (j 0)) ⟨(j 2).val / 384, _⟩ _ = _
  rw [et, eh]
  refine congrArg _ ?_
  funext d
  refine Fin.ext ?_
  match d with
  | ⟨0, _⟩ => show 0 = (i 0).val; omega
  | ⟨1, _⟩ => show (j 1).val = (i 1).val; omega
  | ⟨2, _⟩ => show (j 2).val % 384 = (i 2).val; omega

/-! ## Between the phases -/

/-- What a total needs besides the half-column: the half-slot it goes to, the rooms for it and the duties. -/
def gKit (c : Dev nD) (h : Fin 2) : sProp (MT nD τ sig Unit (Elt F) ℕ UU ℕ) :=
  iprop((∃ f, gPt c (blk c h) fullShare f) ∗ Oth c (fun t => roomG c t h) ∗ Oth c (tk 2 3 c h))

/-- What is left of it, and of the half-column, beside the copies' credits. -/
def gEnd (sC : Dev nD → Buf8 F) (gC : Buf8 F) (c : Dev nD) (h : Fin 2) : sProp (MT nD τ sig Unit (Elt F) ℕ UU ℕ) :=
  iprop(rPt c (col h) (rC sC c) ∗ gPt c (blk c h) (lf c) gC ∗ Oth c (fun t => atPos ER (xCell 1 t h c) 1 ∅ 0))

/-- All partial half-rows in: the half-column is whole. -/
theorem wt_done {h : Fin 2} {O : CellTallies nD τ sig Unit} :
    wtOne sC gC K iprop(rPt c (blk c h) (rC sC c) ∗ gKit c h ∗ R) O 1 h c 8
      ⊢ iprop(rPt c (col h) (rC sC c) ∗ ((∃ f, gPt c (blk c h) fullShare f)
        ∗ (Ctx sC gC K ∗ R ∗ Oth c (fun t => roomG c t h) ∗ Oth c (tk 2 3 c h) ∗ Oth c (fun t => atPos ER (xCell 1 t h c) 1 ∅ 0) ∗ ow c O))) := by
  have e : (Oth c (wD sC gC 1 c h) : sProp 𝕄) = iprop(Oth c (fun t => atPos ER (xCell 1 t h c) 1 ∅ 0) ∗ Oth c (fun t => rPt c (blk t h) (rC sC c))) :=
    (congrArg (Oth c) (funext fun t => rfl)).trans Oth_sep
  unfold wtOne gKit
  rw [Fam_eight, e, r_half]
  iintro ⟨HC, ⟨Hr, ⟨Hg, Hm, Ht⟩, HR⟩, ⟨Hp, Hrs⟩, HO⟩
  isplitl [Hr Hrs]
  · isplitl [Hr]; · iexact Hr
    iexact Hrs
  isplitl [Hg]; · iexact Hg
  iframe

/-- The total in its half-slot: lent to the copies. -/
theorem to_copy {h : Fin 2} {X : CellTallies nD τ sig Unit} :
    iprop(gPt c (blk c h) fullShare gC ∗ (rPt c (col h) (rC sC c)
        ∗ (Ctx sC gC K ∗ R ∗ Oth c (fun t => roomG c t h) ∗ Oth c (tk 2 3 c h) ∗ Oth c (fun t => atPos ER (xCell 1 t h c) 1 ∅ 0) ∗ ow c (X + owG h c 0))))
      ⊢ sndG sC gC K iprop(R ∗ gEnd sC gC c h) X h c 0 := by
  have e : (Oth c (gT gC c h) : sProp 𝕄) = iprop(Oth c (fun t => gPt c (blk c h) (lf t) gC) ∗ Oth c (fun t => roomG c t h) ∗ Oth c (tk 2 3 c h)) :=
    (congrArg (Oth c) (funext fun t => rfl)).trans (Oth_sep.trans (congrArg (fun Z => iprop(_ ∗ Z)) ((congrArg (Oth c) (funext fun t => rfl)).trans Oth_sep)))
  unfold sndG gEnd
  rw [Fam_zero, e, g_leaves]
  iintro ⟨⟨Hg, Hgs⟩, Hr, HC, HR, Hm, Ht, Hp, HO⟩
  iframe

/-- The sum of a half-column, stored in the device's own half-slot, is that half-slot's total. -/
theorem sum_stored {h : Fin 2} (hgC : gC = gF sC) {o : Fin 3 → ℕ} {inb : ∀ a, o a + S1x64x384.size a ≤ S8x64x768.size a} (ho : o = ![c.val, 0, 384 * h.val])
    {v : Vec F S8x64x384 .bf16} (hv : v = rd (rC sC c) ![0, 0, 384 * h.val] S8x64x384.size (inbH h))
    {g' : Buf8 F} (hg : ∀ i, g' ((Rect.unit (s := S8x64x768) o S1x64x384.size inb).emb i) = k0_pay37 v i) :
    gPt c (blk c h) fullShare g' ⊢ (gPt c (blk c h) fullShare gC : sProp 𝕄) := by
  refine Entails.of_eq (pointsTo_congr fun j hj => ?_)
  obtain ⟨i, rfl, e⟩ := blk_sum (sC := sC) (inb := inb) ho hj
  subst hv hgC
  exact (hg i).trans e.symm

end Cert.KernelIdeal.Proto

end
-- ==== Proof.BodyC.lean ====
/-
  The body's parts that add up the half-columns and send the totals.
-/
module

public import proofs.«01_k».proof.Proof.Sum

@[expose] public section

set_option maxRecDepth 16384

noncomputable section

namespace Cert.KernelIdeal.Proto

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ UU ℕ

variable {sC : Dev nD → Buf8 F} {gC : Buf8 F} {K : GSem nD τ sig → ℕ}
variable {R R' S Y Z T : sProp (MT nD τ sig Unit (Elt F) ℕ UU ℕ)} {c : Dev nD} {A : Args} {I : Ins F} {n : ℕ}

variable {α : Type} {Q : α → sProp (MT nD τ sig Unit (Elt F) ℕ UU ℕ)} {t : Dev nD}

/-! ## The steps, as a program writes them -/

theorem wtOne_lift {O : CellTallies nD τ sig Unit} {a : Fin 4} {h : Fin 2} (ht : t ≠ c)
    (hM : (levAts L lv : sProp 𝕄) ⊢ MayWait (c : Thread nD τ) (.dma (xsem a t h)) () O)
    {sp sp' : Space} {s s' : Shape} {e e' : EltTy} {sm : DmaSem sig} (hs : sm = xsem a t h)
    {src : Memref sig .tc sp' s' e'} {κ' : Kind} {dst : Memref sig κ' sp s e} (hN : dst.view.dmaCredit = N) {hsrc hdst}
    {k : Prog (TpuEff nD τ sig (Elt F) Λ₀ .tc) α} (hK : wtOne sC gC K R O a h c (t.val + 1) ⊢ WP c k Q) :
    wtOne sC gC K R O a h c t.val ⊢ WP c (Prog.lift (.waitDma2 sm src dst hsrc hdst) >>= fun _ => k) Q := wtOne_one ht hM hs hN hK

theorem sndG_lift {X : CellTallies nD τ sig Unit} {h : Fin 2} (ht : t ≠ c)
    {so do' : Fin 3 → ℕ} {inbs inbd} (hso : so = ![c.val, 0, 384 * h.val]) (hdo : do' = so)
    {s₁ s₂ : DmaSem sig} (h₁ : s₁ = xsem 2 t h) (h₂ : s₂ = xsem 3 c h) {dv : Dev nD} (hdv : dv = t) {hsrc hdst hsem}
    {k : Prog (TpuEff nD τ sig (Elt F) Λ₀ .tc) α} (hK : sndG sC gC K R X h c (t.val + 1) ⊢ WP c k Q) :
    sndG sC gC K R X h c t.val ⊢ WP c
      (Prog.lift (.enqueueDma (gHalf so inbs) (.remote (Dev.tc dv) (gHalf do' inbd) (.dma s₁)) (.dma s₂) hsrc hdst hsem) >>= fun _ => k) Q :=
  sndG_one ht hso hdo h₁ h₂ hdv hK

theorem wtTwo_lift {a : Fin 4} (ht : t ≠ c)
    {sp sp' sp₁ sp₁' : Space} {s s' s₁ s₁' : Shape} {e e' e₁ e₁' : EltTy} {sm sm₁ : DmaSem sig} (hs : sm = xsem a t 0) (hs₁ : sm₁ = xsem a t 1)
    {src : Memref sig .tc sp' s' e'} {κ' κ₁' : Kind} {dst : Memref sig κ' sp s e} (hN : dst.view.dmaCredit = N) {hsrc hdst}
    {src₁ : Memref sig .tc sp₁' s₁' e₁'} {dst₁ : Memref sig κ₁' sp₁ s₁ e₁} (hN₁ : dst₁.view.dmaCredit = N) {hsrc₁ hdst₁}
    {k : Prog (TpuEff nD τ sig (Elt F) Λ₀ .tc) α} (hK : wtTwo sC gC K R a c (t.val + 1) ⊢ WP c k Q) :
    wtTwo sC gC K R a c t.val
      ⊢ WP c (Prog.lift (.waitDma2 sm src dst hsrc hdst) >>= fun _ => Prog.lift (.waitDma2 sm₁ src₁ dst₁ hsrc₁ hdst₁) >>= fun _ => k) Q :=
  wtTwo_two ht hs hs₁ hN hN₁ hK

/-! ## The parts -/

/-- The waits for the second half begin: the first half's copies are all issued. -/
theorem to_wait1 : sndG sC gC K iprop(Oth c (wT 1 c 1) ∗ R) (owG 1 c 0) 0 c 8
    ⊢ wtOne sC gC K iprop(R ∗ Oth c (crd 2 c 0)) (owG 1 c 0) 1 1 c 0 := by
  unfold sndG wtOne
  rw [Fam_eight, Fam_zero, show owG 0 c 8 = 0 from by unfold owG; rw [Tal_eight], add_zero]
  iintro ⟨HC, ⟨Hw, HR⟩, Hc, HO⟩
  iframe

/-- The second half's total in its half-slot: nothing else is owed. -/
theorem to_copy1 {g' : Buf8 F} (e : gPt c (blk c 1) fullShare g' ⊢ (gPt c (blk c 1) fullShare gC : sProp 𝕄)) :
    iprop(gPt c (blk c 1) fullShare g' ∗ (rPt c (col 1) (rC sC c)
        ∗ (Ctx sC gC K ∗ R ∗ Oth c (fun t => roomG c t 1) ∗ Oth c (tk 2 3 c 1) ∗ Oth c (fun t => atPos ER (xCell 1 t 1 c) 1 ∅ 0) ∗ ow c (owG 1 c 0))))
      ⊢ sndG sC gC K iprop(R ∗ gEnd sC gC c 1) 0 1 c 0 := by
  have h : iprop(gPt c (blk c 1) fullShare gC ∗ (rPt c (col 1) (rC sC c)
        ∗ (Ctx sC gC K ∗ R ∗ Oth c (fun t => roomG c t 1) ∗ Oth c (tk 2 3 c 1) ∗ Oth c (fun t => atPos ER (xCell 1 t 1 c) 1 ∅ 0) ∗ ow c (0 + owG 1 c 0))))
      ⊢ sndG sC gC K iprop(R ∗ gEnd sC gC c 1) 0 1 c 0 := to_copy
  rw [zero_add] at h
  exact (sep_mono_left e).trans h

attribute [local irreducible] Idealize.SL.Sem.wp

set_option maxHeartbeats 1000000 in
theorem part16 (hgC : gC = gF sC) {Q : PUnit → sProp 𝕄} (h : sndG sC gC K iprop(R ∗ gEnd sC gC c 0) (owG 1 c 0) 0 c 1 ⊢ Q ⟨⟩) :
    wtOne sC gC K iprop(rPt c (blk c 0) (rC sC c) ∗ gKit c 0 ∗ R) (owG 1 c 0 + owG 0 c 0) 1 0 c 1
      ⊢ WP c (app A (k0_part16 (F := F)) c (idW c) (Scalar.extui (Scalar.cmpi .ne (idW c) 1#32)) 0#32) Q := by
  unfold app
  rw [k0_part16_eq_skeleton]
  unfold k0_part16_skel
  extract_lets -lift
  refine wtOne_guard 1 rfl rfl (by exact wg c 1) (fun hK h ht => wtOne_lift (t := 1) ht (mayWait_r0 c 1 0) (by exact sem7 rfl) (by exact rfl) hK) ?_
  refine wtOne_guard 2 rfl rfl (by exact wg c 2) (fun hK h ht => wtOne_lift (t := 2) ht (mayWait_r0 c 2 0) (by exact sem7 rfl) (by exact rfl) hK) ?_
  refine wtOne_guard 3 rfl rfl (by exact wg c 3) (fun hK h ht => wtOne_lift (t := 3) ht (mayWait_r0 c 3 0) (by exact sem7 rfl) (by exact rfl) hK) ?_
  refine wtOne_guard 4 rfl rfl (by exact wg c 4) (fun hK h ht => wtOne_lift (t := 4) ht (mayWait_r0 c 4 0) (by exact sem7 rfl) (by exact rfl) hK) ?_
  refine wtOne_guard 5 rfl rfl (by exact wg c 5) (fun hK h ht => wtOne_lift (t := 5) ht (mayWait_r0 c 5 0) (by exact sem7 rfl) (by exact rfl) hK) ?_
  refine wtOne_guard 6 rfl rfl (by exact wg c 6) (fun hK h ht => wtOne_lift (t := 6) ht (mayWait_r0 c 6 0) (by exact sem7 rfl) (by exact rfl) hK) ?_
  refine wtOne_guard 7 rfl rfl (by exact wg c 7) (fun hK h ht => wtOne_lift (t := 7) ht (mayWait_r0 c 7 0) (by exact sem7 rfl) (by exact rfl) hK) ?_
  refine wt_done.trans ?_
  refine ldB (m := rM) (fun i => col_in (h := 0) rfl i) (Entails.refl _) ?_
  refine any_elim fun g => ?_
  refine ldB (m := gM) (fun i => blk_in (k0_off34_eq c) i) (Entails.refl _) ?_
  refine stB (m := gM) (fun i => blk_in (k0_off34_eq c) i) (Entails.refl _) fun g' hg _ => ?_
  refine BI.Entails.trans (sep_mono_left (sum_stored hgC (k0_off34_eq c) (by exact rfl) hg)) (to_copy.trans ?_)
  refine beta ?_
  extract_lets -lift
  refine sndG_guard 0 rfl rfl ((by decide : ∀ c : Dev nD, k0_cond17 c = 1#1 ↔ (0 : Dev nD) ≠ c) c) (fun hK h ht => sndG_lift (t := 0) ht (by exact k0_off36_eq c) (by exact rfl)
    (by exact sem8 rfl) (by exact sem9 (k0_off35_eq c)) (by exact Fin.ext k0_dev24_eq) hK) ?_
  exact ret h

set_option maxHeartbeats 1000000 in
theorem part17 {Q : PUnit → sProp 𝕄} (h : wtOne sC gC K iprop(R ∗ Oth c (crd 2 c 0)) (owG 1 c 0) 1 1 c 3 ⊢ Q ⟨⟩) :
    sndG sC gC K iprop(Oth c (wT 1 c 1) ∗ R) (owG 1 c 0) 0 c 1 ⊢ WP c (app A (k0_part17 (F := F)) c (idW c)) Q := by
  unfold app
  rw [k0_part17_eq_skeleton]
  unfold k0_part17_skel
  extract_lets -lift
  refine sndG_guard 1 rfl rfl ((by decide : ∀ c : Dev nD, k0_cond18 c = 1#1 ↔ (1 : Dev nD) ≠ c) c) (fun hK h ht => sndG_lift (t := 1) ht (by exact k0_off38_eq c) (by exact rfl)
    (by exact sem8 rfl) (by exact sem9 (k0_off37_eq c)) (by exact Fin.ext k0_dev25_eq) hK) ?_
  refine sndG_guard 2 rfl rfl ((by decide : ∀ c : Dev nD, k0_cond19 c = 1#1 ↔ (2 : Dev nD) ≠ c) c) (fun hK h ht => sndG_lift (t := 2) ht (by exact k0_off40_eq c) (by exact rfl)
    (by exact sem8 rfl) (by exact sem9 (k0_off39_eq c)) (by exact Fin.ext k0_dev26_eq) hK) ?_
  refine sndG_guard 3 rfl rfl ((by decide : ∀ c : Dev nD, k0_cond20 c = 1#1 ↔ (3 : Dev nD) ≠ c) c) (fun hK h ht => sndG_lift (t := 3) ht (by exact k0_off42_eq c) (by exact rfl)
    (by exact sem8 rfl) (by exact sem9 (k0_off41_eq c)) (by exact Fin.ext k0_dev27_eq) hK) ?_
  refine sndG_guard 4 rfl rfl ((by decide : ∀ c : Dev nD, k0_cond21 c = 1#1 ↔ (4 : Dev nD) ≠ c) c) (fun hK h ht => sndG_lift (t := 4) ht (by exact k0_off44_eq c) (by exact rfl)
    (by exact sem8 rfl) (by exact sem9 (k0_off43_eq c)) (by exact Fin.ext k0_dev28_eq) hK) ?_
  refine sndG_guard 5 rfl rfl ((by decide : ∀ c : Dev nD, k0_cond22 c = 1#1 ↔ (5 : Dev nD) ≠ c) c) (fun hK h ht => sndG_lift (t := 5) ht (by exact k0_off46_eq c) (by exact rfl)
    (by exact sem8 rfl) (by exact sem9 (k0_off45_eq c)) (by exact Fin.ext k0_dev29_eq) hK) ?_
  refine sndG_guard 6 rfl rfl ((by decide : ∀ c : Dev nD, k0_cond23 c = 1#1 ↔ (6 : Dev nD) ≠ c) c) (fun hK h ht => sndG_lift (t := 6) ht (by exact k0_off48_eq c) (by exact rfl)
    (by exact sem8 rfl) (by exact sem9 (k0_off47_eq c)) (by exact Fin.ext k0_dev30_eq) hK) ?_
  refine sndG_guard 7 rfl rfl ((by decide : ∀ c : Dev nD, k0_cond24 c = 1#1 ↔ (7 : Dev nD) ≠ c) c) (fun hK h ht => sndG_lift (t := 7) ht (by exact k0_off50_eq c) (by exact rfl)
    (by exact sem8 rfl) (by exact sem9 (k0_off49_eq c)) (by exact Fin.ext k0_dev31_eq) hK) ?_
  refine to_wait1.trans ?_
  refine wtOne_guard 0 rfl rfl (by exact wg c 0) (fun hK h ht => wtOne_lift (t := 0) ht (mayWait_r1 c 0 1) (by exact sem7 rfl) (by exact rfl) hK) ?_
  refine wtOne_guard 1 rfl rfl (by exact wg c 1) (fun hK h ht => wtOne_lift (t := 1) ht (mayWait_r1 c 1 1) (by exact sem7 rfl) (by exact rfl) hK) ?_
  refine wtOne_guard 2 rfl rfl (by exact wg c 2) (fun hK h ht => wtOne_lift (t := 2) ht (mayWait_r1 c 2 1) (by exact sem7 rfl) (by exact rfl) hK) ?_
  exact ret h

set_option maxHeartbeats 1000000 in
theorem part18 (hgC : gC = gF sC) {Q : BitVec 1 → sProp 𝕄} (h : sndG sC gC K iprop(R ∗ gEnd sC gC c 1) 0 1 c 2 ⊢ Q (Scalar.cmpi .ne (idW c) 2#32)) :
    wtOne sC gC K iprop(rPt c (blk c 1) (rC sC c) ∗ gKit c 1 ∗ R) (owG 1 c 0) 1 1 c 3
      ⊢ WP c (app A (k0_part18 (F := F)) c (idW c)) Q := by
  unfold app
  rw [k0_part18_eq_skeleton]
  unfold k0_part18_skel
  extract_lets -lift
  refine wtOne_guard 3 rfl rfl (by exact wg c 3) (fun hK h ht => wtOne_lift (t := 3) ht (mayWait_r1 c 3 1) (by exact sem7 rfl) (by exact rfl) hK) ?_
  refine wtOne_guard 4 rfl rfl (by exact wg c 4) (fun hK h ht => wtOne_lift (t := 4) ht (mayWait_r1 c 4 1) (by exact sem7 rfl) (by exact rfl) hK) ?_
  refine wtOne_guard 5 rfl rfl (by exact wg c 5) (fun hK h ht => wtOne_lift (t := 5) ht (mayWait_r1 c 5 1) (by exact sem7 rfl) (by exact rfl) hK) ?_
  refine wtOne_guard 6 rfl rfl (by exact wg c 6) (fun hK h ht => wtOne_lift (t := 6) ht (mayWait_r1 c 6 1) (by exact sem7 rfl) (by exact rfl) hK) ?_
  refine wtOne_guard 7 rfl rfl (by exact wg c 7) (fun hK h ht => wtOne_lift (t := 7) ht (mayWait_r1 c 7 1) (by exact sem7 rfl) (by exact rfl) hK) ?_
  refine wt_done.trans ?_
  refine ldB (m := rM) (fun i => col_in (h := 1) rfl i) (Entails.refl _) ?_
  refine any_elim fun g => ?_
  refine ldB (m := gM) (fun i => blk_in (k0_off51_eq c) i) (Entails.refl _) ?_
  refine stB (m := gM) (fun i => blk_in (k0_off51_eq c) i) (Entails.refl _) fun g' hg _ => ?_
  refine BI.Entails.trans (to_copy1 (sum_stored hgC (k0_off51_eq c) rfl fun i => (hg i).trans (congrFun (sum38 _) i))) ?_
  refine beta ?_
  extract_lets -lift
  refine sndG_guard 0 rfl rfl ((by decide : ∀ c : Dev nD, k0_cond33 c = 1#1 ↔ (0 : Dev nD) ≠ c) c) (fun hK h ht => sndG_lift (t := 0) ht (by exact k0_off53_eq c) (by exact rfl)
    (by exact sem8 rfl) (by exact sem9 (k0_off52_eq c)) (by exact Fin.ext k0_dev32_eq) hK) ?_
  refine sndG_guard 1 rfl rfl ((by decide : ∀ c : Dev nD, k0_cond34 c = 1#1 ↔ (1 : Dev nD) ≠ c) c) (fun hK h ht => sndG_lift (t := 1) ht (by exact k0_off55_eq c) (by exact rfl)
    (by exact sem8 rfl) (by exact sem9 (k0_off54_eq c)) (by exact Fin.ext k0_dev33_eq) hK) ?_
  exact ret h

end Cert.KernelIdeal.Proto

end
-- ==== Proof.Drain.lean ====
/-
  The waits that close the exchange: each returns a buffer whose copies have left or arrived.
-/
module

public import proofs.«01_k».proof.Proof.BodyC

@[expose] public section

set_option maxRecDepth 16384

noncomputable section

namespace Cert.KernelIdeal.Proto

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ UU ℕ

variable {sC : Dev nD → Buf8 F} {gC : Buf8 F} {K : GSem nD τ sig → ℕ}
variable {R R' S X Y Z T : sProp (MT nD τ sig Unit (Elt F) ℕ UU ℕ)} {c : Dev nD} {A : Args} {I : Ins F} {n : ℕ}

/-! ## The positions -/

/-- The cells of one kind, both halves, past their round. -/
abbrev past (k : Fin 4) (c : Dev nD) : sProp (MT nD τ sig Unit (Elt F) ℕ UU ℕ) :=
  Oth c fun t => iprop(atPos ER (xCell k t 0 c) 1 ∅ 0 ∗ atPos ER (xCell k t 1 c) 1 ∅ 0)
abbrev crds (k : Fin 4) (c : Dev nD) : sProp (MT nD τ sig Unit (Elt F) ℕ UU ℕ) := Oth c fun t => iprop(crd k c 0 t ∗ crd k c 1 t)
abbrev poss (k : Fin 4) (c : Dev nD) : sProp (MT nD τ sig Unit (Elt F) ℕ UU ℕ) := Oth c fun t => iprop(pos k c 0 t ∗ pos k c 1 t)

theorem pairs (k : Fin 4) : iprop(crds k c ∗ poss k c) ⊢ (Oth c (fun t => iprop(wT k c 0 t ∗ wT k c 1 t)) : sProp 𝕄) := by
  refine (Entails.of_eq Oth_sep.symm).trans (Oth_mono fun t _ => ?_)
  unfold wT
  iintro ⟨⟨H0, H1⟩, H2, H3⟩
  iframe

theorem crds_of : iprop(Oth c (crd 2 c 0) ∗ Oth c (crd 2 c 1)) ⊢ (crds 2 c : sProp 𝕄) := Entails.of_eq Oth_sep.symm

/-- The first waits at the end: the partial results' copies. -/
theorem to_wait0 : sndG sC gC K iprop(crds 0 c ∗ poss 0 c ∗ R) 0 1 c 8 ⊢ wtTwo sC gC K iprop(R ∗ Oth c (crd 2 c 1)) 0 c 0 := by
  unfold sndG wtTwo
  rw [Fam_eight, Fam_zero, show owG 1 c 8 = 0 from by unfold owG; rw [Tal_eight], add_zero]
  iintro ⟨HC, ⟨Hw, Hp, HR⟩, Hc, HO⟩
  ihave H := (pairs (F := F) (c := c) 0) $$ [Hw Hp]
  · isplitl [Hw]; · iexact Hw
    iexact Hp
  iframe

/-- What the partial results' waits give back. -/
abbrev backS (sC : Dev nD → Buf8 F) (gC : Buf8 F) (c : Dev nD) : sProp (MT nD τ sig Unit (Elt F) ℕ UU ℕ) :=
  Oth c fun t => iprop(wD sC gC 0 c 0 t ∗ wD sC gC 0 c 1 t)

/-- Then the totals of the others. -/
theorem to_wait3 : wtTwo sC gC K iprop(Oth c (fun t => iprop(wT 3 c 0 t ∗ wT 3 c 1 t)) ∗ R) 0 c 8 ⊢ wtTwo sC gC K iprop(R ∗ backS sC gC c) 3 c 0 := by
  unfold wtTwo
  rw [Fam_eight, Fam_zero]
  iintro ⟨HC, ⟨Hw, HR⟩, Hs, HO⟩
  iframe

/-- The other slots lent for the result's reading, to be rejoined. -/
abbrev lent (gC : Buf8 F) (c : Dev nD) : sProp (MT nD τ sig Unit (Elt F) ℕ UU ℕ) := Oth c fun t => Oth c fun u => gPt c (row t) (lf u) gC

theorem got_all : iprop(gPt c (row c) (lf c) gC ∗ Oth c (fun t => iprop(wD sC gC 3 c 0 t ∗ wD sC gC 3 c 1 t)))
    ⊢ iprop(gPt c Finset.univ (lf c) gC ∗ (lent gC c ∗ past 3 c)) := by
  have e : (Oth c (fun t => iprop(wD sC gC 3 c 0 t ∗ wD sC gC 3 c 1 t)) : sProp 𝕄) ⊢ iprop(past 3 c ∗ Oth c fun t => gPt c (row t) fullShare gC) := by
    refine BI.Entails.trans (Oth_mono fun t _ => ?_) (Entails.of_eq Oth_sep)
    refine BI.Entails.trans ?_ (sep_mono_right (g_row t fullShare gC).2)
    show iprop((atPos ER (xCell 3 t 0 c) 1 ∅ 0 ∗ gPt c (blk t 0) fullShare gC) ∗ (atPos ER (xCell 3 t 1 c) 1 ∅ 0 ∗ gPt c (blk t 1) fullShare gC)) ⊢ _
    iintro ⟨⟨H0, H1⟩, H2, H3⟩
    iframe
  refine (sep_mono_right e).trans ?_
  iintro ⟨Hg, Hp, Ho⟩
  ihave H := (g_lend (F := F) (c := c) gC).1 $$ [Hg Ho]
  · isplitl [Hg]; · iexact Hg
    iexact Ho
  icases H with ⟨Hg, Hl⟩
  iframe

/-- Everything gathered, before the result is stored. -/
theorem to_out : wtTwo sC gC K iprop(gPt c (row c) (lf c) gC ∗ X ∗ Att A c I 16 R) 3 c 8
    ⊢ iprop(gPt c Finset.univ (lf c) gC ∗ Att A c I 16 iprop(Ctx sC gC K ∗ lent gC c ∗ past 3 c ∗ X ∗ ow c 0 ∗ R)) := by
  unfold wtTwo
  rw [Fam_eight]
  iintro ⟨HC, ⟨Hg, HX, HA⟩, Hw, HO⟩
  ihave H := (got_all (sC := sC) (gC := gC) (c := c)) $$ [Hg Hw]
  · isplitl [Hg]; · iexact Hg
    iexact Hw
  icases H with ⟨Hg, Hl, Hp⟩
  isplitl [Hg]; · iexact Hg
  iapply (Att_front (X := Ctx sC gC K)).2; isplitl [HC]; · iexact HC
  iapply (Att_front (X := lent gC c)).2; isplitl [Hl]; · iexact Hl
  iapply (Att_front (X := past 3 c)).2; isplitl [Hp]; · iexact Hp
  iapply (Att_front (X := X)).2; isplitl [HX]; · iexact HX
  iapply (Att_front (X := ow c 0)).2; isplitl [HO]; · iexact HO
  iexact HA

/-- The device's buffers with the result stored. -/
def Stored (A : Args) (c : Dev nD) (I : Ins F) (gC : Buf8 F) : sProp (MT nD τ sig Unit (Elt F) ℕ UU ℕ) :=
  iprop(∃ a : Vec F S512x512 .bf16, Loc A c (mk I (oF gC) a))

/-- The last waits: the totals' copies. -/
theorem to_wait2 {a : Vec F S512x512 .bf16} : iprop(Loc A c (mk I (oF gC) a) ∗ (gPt c Finset.univ (lf c) gC
      ∗ (Ctx sC gC K ∗ lent gC c ∗ past 3 c ∗ (crds 2 c ∗ poss 2 c) ∗ ow c 0 ∗ R)))
    ⊢ wtTwo sC gC K iprop(Stored A c I gC ∗ gPt c Finset.univ (lf c) gC ∗ lent gC c ∗ past 3 c ∗ R) 2 c 0 := by
  unfold wtTwo
  rw [Fam_zero]
  iintro ⟨HA, Hg, HC, Hl, Hp, Hw, HO, HR⟩
  ihave H := (pairs (F := F) (c := c) 2) $$ Hw
  isplitl [HC]; · iexact HC
  isplitl [HA Hg Hl Hp HR]
  · isplitl [HA]; · unfold Stored; iexists a; iexact HA
    iframe
  isplitl [H]; · iexact H
  iexact HO

/-- All waited for: the buffers are whole again. -/
theorem all_done : wtTwo sC gC K iprop(Stored A c I gC ∗ gPt c Finset.univ (lf c) gC ∗ lent gC c ∗ past 3 c ∗ R) 2 c 8
    ⊢ iprop(Ctx sC gC K ∗ Stored A c I gC ∗ gPt c Finset.univ fullShare gC ∗ past 2 c ∗ past 3 c ∗ ow c 0 ∗ R) := by
  have e : (Oth c (fun t => iprop(wD sC gC 2 c 0 t ∗ wD sC gC 2 c 1 t)) : sProp 𝕄) ⊢ iprop(past 2 c ∗ Oth c fun t => gPt c (row c) (lf t) gC) := by
    refine BI.Entails.trans (Oth_mono fun t _ => ?_) (Entails.of_eq Oth_sep)
    refine BI.Entails.trans ?_ (sep_mono_right (g_row c (lf t) gC).2)
    show iprop((atPos ER (xCell 2 t 0 c) 1 ∅ 0 ∗ gPt c (blk c 0) (lf t) gC) ∗ (atPos ER (xCell 2 t 1 c) 1 ∅ 0 ∗ gPt c (blk c 1) (lf t) gC)) ⊢ _
    iintro ⟨⟨H0, H1⟩, H2, H3⟩
    iframe
  have e' : iprop(gPt c Finset.univ (lf c) gC ∗ lent gC c ∗ Oth c (fun t => gPt c (row c) (lf t) gC)) ⊢ (gPt c Finset.univ fullShare gC : sProp 𝕄) := by
    rw [g_univ fullShare gC, g_leaves (row c) gC]
    iintro ⟨Hg, Hl, Ho⟩
    ihave H := (g_lend (F := F) (c := c) gC).2 $$ [Hg Hl]
    · isplitl [Hg]; · iexact Hg
      iexact Hl
    icases H with ⟨Hg, Hr⟩
    iframe
  unfold wtTwo
  rw [Fam_eight]
  iintro ⟨HC, ⟨HA, Hg, Hl, Hp, HR⟩, Hw, HO⟩
  ihave H := e $$ Hw
  icases H with ⟨Hq, Ho⟩
  ihave H := e' $$ [Hg Hl Ho]
  · isplitl [Hg]; · iexact Hg
    isplitl [Hl]; · iexact Hl
    iexact Ho
  iframe

end Cert.KernelIdeal.Proto

end
-- ==== Proof.BodyD.lean ====
/-
  The body's last parts: the waits that return the buffers, and the result's store.
-/
module

public import proofs.«01_k».proof.Proof.Drain

@[expose] public section

set_option maxRecDepth 16384

noncomputable section

namespace Cert.KernelIdeal.Proto

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ UU ℕ

variable {sC : Dev nD → Buf8 F} {gC : Buf8 F} {K : GSem nD τ sig → ℕ}
variable {R R' S X Y Z T : sProp (MT nD τ sig Unit (Elt F) ℕ UU ℕ)} {c : Dev nD} {A : Args} {I : Ins F} {n : ℕ}

attribute [local irreducible] Idealize.SL.Sem.wp

set_option maxHeartbeats 1000000 in
theorem part19 {w : BitVec 1} {Q : BitVec 1 → sProp 𝕄} (h : wtTwo sC gC K iprop(R ∗ Oth c (crd 2 c 1)) 0 c 4 ⊢ Q (Scalar.cmpi .ne (idW c) 4#32)) :
    sndG sC gC K iprop(crds 0 c ∗ poss 0 c ∗ R) 0 1 c 2 ⊢ WP c (app A (k0_part19 (F := F)) c (idW c) w) Q := by
  unfold app
  rw [k0_part19_eq_skeleton]
  unfold k0_part19_skel
  extract_lets -lift
  refine sndG_guard 2 rfl rfl ((by decide : ∀ c : Dev nD, k0_cond35 c = 1#1 ↔ (2 : Dev nD) ≠ c) c) (fun hK h ht => sndG_lift (t := 2) ht (by exact k0_off57_eq c) (by exact rfl)
    (by exact sem8 rfl) (by exact sem9 (k0_off56_eq c)) (by exact Fin.ext k0_dev34_eq) hK) ?_
  refine sndG_guard 3 rfl rfl ((by decide : ∀ c : Dev nD, k0_cond36 c = 1#1 ↔ (3 : Dev nD) ≠ c) c) (fun hK h ht => sndG_lift (t := 3) ht (by exact k0_off59_eq c) (by exact rfl)
    (by exact sem8 rfl) (by exact sem9 (k0_off58_eq c)) (by exact Fin.ext k0_dev35_eq) hK) ?_
  refine sndG_guard 4 rfl rfl ((by decide : ∀ c : Dev nD, k0_cond37 c = 1#1 ↔ (4 : Dev nD) ≠ c) c) (fun hK h ht => sndG_lift (t := 4) ht (by exact k0_off61_eq c) (by exact rfl)
    (by exact sem8 rfl) (by exact sem9 (k0_off60_eq c)) (by exact Fin.ext k0_dev36_eq) hK) ?_
  refine sndG_guard 5 rfl rfl ((by decide : ∀ c : Dev nD, k0_cond38 c = 1#1 ↔ (5 : Dev nD) ≠ c) c) (fun hK h ht => sndG_lift (t := 5) ht (by exact k0_off63_eq c) (by exact rfl)
    (by exact sem8 rfl) (by exact sem9 (k0_off62_eq c)) (by exact Fin.ext k0_dev37_eq) hK) ?_
  refine sndG_guard 6 rfl rfl ((by decide : ∀ c : Dev nD, k0_cond39 c = 1#1 ↔ (6 : Dev nD) ≠ c) c) (fun hK h ht => sndG_lift (t := 6) ht (by exact k0_off65_eq c) (by exact rfl)
    (by exact sem8 rfl) (by exact sem9 (k0_off64_eq c)) (by exact Fin.ext k0_dev38_eq) hK) ?_
  refine sndG_guard 7 rfl rfl ((by decide : ∀ c : Dev nD, k0_cond40 c = 1#1 ↔ (7 : Dev nD) ≠ c) c) (fun hK h ht => sndG_lift (t := 7) ht (by exact k0_off67_eq c) (by exact rfl)
    (by exact sem8 rfl) (by exact sem9 (k0_off66_eq c)) (by exact Fin.ext k0_dev39_eq) hK) ?_
  refine to_wait0.trans ?_
  refine wtTwo_guard 0 rfl rfl (by exact wg c 0) (fun hK h ht => wtTwo_lift (t := 0) ht (by exact sem6 rfl) (by exact sem6 rfl) (by exact rfl) (by exact rfl) hK) ?_
  refine wtTwo_guard 1 rfl rfl (by exact wg c 1) (fun hK h ht => wtTwo_lift (t := 1) ht (by exact sem6 rfl) (by exact sem6 rfl) (by exact rfl) (by exact rfl) hK) ?_
  refine wtTwo_guard 2 rfl rfl (by exact wg c 2) (fun hK h ht => wtTwo_lift (t := 2) ht (by exact sem6 rfl) (by exact sem6 rfl) (by exact rfl) (by exact rfl) hK) ?_
  refine wtTwo_guard 3 rfl rfl (by exact wg c 3) (fun hK h ht => wtTwo_lift (t := 3) ht (by exact sem6 rfl) (by exact sem6 rfl) (by exact rfl) (by exact rfl) hK) ?_
  exact ret h

set_option maxHeartbeats 1000000 in
theorem part20 {Q : BitVec 1 → sProp 𝕄} (h : wtTwo sC gC K iprop(R ∗ backS sC gC c) 3 c 6 ⊢ Q (Scalar.cmpi .ne (idW c) 6#32)) :
    wtTwo sC gC K iprop(Oth c (fun t => iprop(wT 3 c 0 t ∗ wT 3 c 1 t)) ∗ R) 0 c 4
      ⊢ WP c (app A (k0_part20 (F := F)) (idW c) (Scalar.cmpi .ne (idW c) 4#32)) Q := by
  unfold app
  rw [k0_part20_eq_skeleton]
  unfold k0_part20_skel
  extract_lets -lift
  refine wtTwo_guard 4 rfl rfl (by exact wg c 4) (fun hK h ht => wtTwo_lift (t := 4) ht (by exact sem6 rfl) (by exact sem6 rfl) (by exact rfl) (by exact rfl) hK) ?_
  refine wtTwo_guard 5 rfl rfl (by exact wg c 5) (fun hK h ht => wtTwo_lift (t := 5) ht (by exact sem6 rfl) (by exact sem6 rfl) (by exact rfl) (by exact rfl) hK) ?_
  refine wtTwo_guard 6 rfl rfl (by exact wg c 6) (fun hK h ht => wtTwo_lift (t := 6) ht (by exact sem6 rfl) (by exact sem6 rfl) (by exact rfl) (by exact rfl) hK) ?_
  refine wtTwo_guard 7 rfl rfl (by exact wg c 7) (fun hK h ht => wtTwo_lift (t := 7) ht (by exact sem6 rfl) (by exact sem6 rfl) (by exact rfl) (by exact rfl) hK) ?_
  refine to_wait3.trans ?_
  refine wtTwo_guard 0 rfl rfl (by exact wg c 0) (fun hK h ht => wtTwo_lift (t := 0) ht (by exact sem9 rfl) (by exact sem9 rfl) (by exact rfl) (by exact rfl) hK) ?_
  refine wtTwo_guard 1 rfl rfl (by exact wg c 1) (fun hK h ht => wtTwo_lift (t := 1) ht (by exact sem9 rfl) (by exact sem9 rfl) (by exact rfl) (by exact rfl) hK) ?_
  refine wtTwo_guard 2 rfl rfl (by exact wg c 2) (fun hK h ht => wtTwo_lift (t := 2) ht (by exact sem9 rfl) (by exact sem9 rfl) (by exact rfl) (by exact rfl) hK) ?_
  refine wtTwo_guard 3 rfl rfl (by exact wg c 3) (fun hK h ht => wtTwo_lift (t := 3) ht (by exact sem9 rfl) (by exact sem9 rfl) (by exact rfl) (by exact rfl) hK) ?_
  refine wtTwo_guard 4 rfl rfl (by exact wg c 4) (fun hK h ht => wtTwo_lift (t := 4) ht (by exact sem9 rfl) (by exact sem9 rfl) (by exact rfl) (by exact rfl) hK) ?_
  refine wtTwo_guard 5 rfl rfl (by exact wg c 5) (fun hK h ht => wtTwo_lift (t := 5) ht (by exact sem9 rfl) (by exact sem9 rfl) (by exact rfl) (by exact rfl) hK) ?_
  exact ret h

theorem read_all {inb : ∀ a, (![0, 0, 0] : Fin 3 → ℕ) a + S8x64x768.size a ≤ S8x64x768.size a} :
    (fun i : S8x64x768.Idx => (gM : Memref sig .tc .vmem S8x64x768 .bf16).view.read (Elt F) gC ((Rect.unit (s := S8x64x768) ![0, 0, 0] S8x64x768.size inb).emb i)) = gC := by
  funext i
  exact congrArg gC (emb_zero (by decide) inb i)

/-- The load of all totals. -/
theorem ldAll {α : Type} {Q : α → sProp 𝕄} {q : PosShare TreeShare} {inb : ∀ a, (![0, 0, 0] : Fin 3 → ℕ) a + S8x64x768.size a ≤ S8x64x768.size a} {hl}
    {k : Vec F S8x64x768 .bf16 → Prog (TpuEff nD τ sig (Elt F) Λ₀ .tc) α} (hK : iprop(gPt c Finset.univ q gC ∗ Z) ⊢ WP c (k gC) Q) :
    iprop(gPt c Finset.univ q gC ∗ Z) ⊢ WP c (.op (.load gM (Rect.unit (s := S8x64x768) ![0, 0, 0] S8x64x768.size inb).toLoadRect hl) k) Q := by
  refine ldB (m := gM) (fun i => Finset.mem_univ _) (Entails.refl _) ?_
  have e : k (fun i : S8x64x768.Idx => (gM : Memref sig .tc .vmem S8x64x768 .bf16).view.read (Elt F) gC ((Rect.unit (s := S8x64x768) ![0, 0, 0] S8x64x768.size inb).emb i)) = k gC :=
    congrArg k read_all
  exact hK.trans (Entails.of_eq (congrArg (fun p => WP c p Q) e).symm)

set_option maxHeartbeats 1000000 in
theorem part21 {Q : (Σ' (_ : BitVec 32), BitVec 32) → sProp 𝕄}
    (h : wtTwo sC gC K iprop(Stored A c I gC ∗ gPt c Finset.univ (lf c) gC ∗ lent gC c ∗ past 3 c ∗ R) 2 c 6
      ⊢ Q ⟨Scalar.extui (Scalar.cmpi .ne (idW c) 6#32), 0#32⟩) :
    wtTwo sC gC K iprop(gPt c (row c) (lf c) gC ∗ (crds 2 c ∗ poss 2 c) ∗ Att A c I 16 R) 3 c 6
      ⊢ WP c (app A (k0_part21 (F := F)) c (idW c) (Scalar.cmpi .ne (idW c) 6#32)) Q := by
  unfold app
  rw [k0_part21_eq_skeleton]
  unfold k0_part21_skel
  extract_lets -lift
  refine wtTwo_guard 6 rfl rfl (by exact wg c 6) (fun hK h ht => wtTwo_lift (t := 6) ht (by exact sem9 rfl) (by exact sem9 rfl) (by exact rfl) (by exact rfl) hK) ?_
  refine wtTwo_guard 7 rfl rfl (by exact wg c 7) (fun hK h ht => wtTwo_lift (t := 7) ht (by exact sem9 rfl) (by exact sem9 rfl) (by exact rfl) (by exact rfl) hK) ?_
  refine to_out.trans ?_
  refine ldAll ?_
  refine Att_front.2.trans (Att_elim fun out a ha => ?_)
  refine ld5 (fun _ => rfl) ?_
  refine st5 fun X' hX _ => ?_
  have e : X' = oF gC := by
    funext i
    exact (congrArg X' (emb_zero (by decide) _ i).symm).trans (hX i)
  subst e
  refine to_wait2.trans ?_
  refine beta ?_
  extract_lets -lift
  refine wtTwo_guard 0 rfl rfl ((by decide : ∀ c : Dev nD, k0_cond57 c = 1#1 ↔ (0 : Dev nD) ≠ c) c) (fun hK h ht => wtTwo_lift (t := 0) ht (by exact sem8 rfl) (by exact sem8 rfl) (by exact rfl) (by exact rfl) hK) ?_
  refine wtTwo_guard 1 rfl rfl ((by decide : ∀ c : Dev nD, k0_cond58 c = 1#1 ↔ (1 : Dev nD) ≠ c) c) (fun hK h ht => wtTwo_lift (t := 1) ht (by exact sem8 rfl) (by exact sem8 rfl) (by exact rfl) (by exact rfl) hK) ?_
  refine wtTwo_guard 2 rfl rfl ((by decide : ∀ c : Dev nD, k0_cond59 c = 1#1 ↔ (2 : Dev nD) ≠ c) c) (fun hK h ht => wtTwo_lift (t := 2) ht (by exact sem8 rfl) (by exact sem8 rfl) (by exact rfl) (by exact rfl) hK) ?_
  refine wtTwo_guard 3 rfl rfl ((by decide : ∀ c : Dev nD, k0_cond60 c = 1#1 ↔ (3 : Dev nD) ≠ c) c) (fun hK h ht => wtTwo_lift (t := 3) ht (by exact sem8 rfl) (by exact sem8 rfl) (by exact rfl) (by exact rfl) hK) ?_
  refine wtTwo_guard 4 rfl rfl ((by decide : ∀ c : Dev nD, k0_cond61 c = 1#1 ↔ (4 : Dev nD) ≠ c) c) (fun hK h ht => wtTwo_lift (t := 4) ht (by exact sem8 rfl) (by exact sem8 rfl) (by exact rfl) (by exact rfl) hK) ?_
  refine wtTwo_guard 5 rfl rfl ((by decide : ∀ c : Dev nD, k0_cond62 c = 1#1 ↔ (5 : Dev nD) ≠ c) c) (fun hK h ht => wtTwo_lift (t := 5) ht (by exact sem8 rfl) (by exact sem8 rfl) (by exact rfl) (by exact rfl) hK) ?_
  exact ret h

end Cert.KernelIdeal.Proto

end
-- ==== Proof.Carry.lean ====
/-
  The body run whole: from what a device starts with to what it ends with.
-/
module

public import proofs.«01_k».proof.Proof.BodyD

@[expose] public section

set_option maxRecDepth 16384

noncomputable section

namespace Cert.KernelIdeal.Proto

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ UU ℕ

variable {sC : Dev nD → Buf8 F} {gC : Buf8 F} {K : GSem nD τ sig → ℕ}
variable {R R' S X Y Z T : sProp (MT nD τ sig Unit (Elt F) ℕ UU ℕ)} {c : Dev nD} {A : Args} {I : Ins F} {n : ℕ}

/-! ## What is carried along -/

/-- Both halves' duties of the copies of one kind. -/
abbrev tks (k k' : Fin 4) (c : Dev nD) : sProp (MT nD τ sig Unit (Elt F) ℕ UU ℕ) := Oth c fun t => iprop(tk k k' c 0 t ∗ tk k k' c 1 t)
abbrev wts (k : Fin 4) (c : Dev nD) : sProp (MT nD τ sig Unit (Elt F) ℕ UU ℕ) := Oth c fun t => iprop(wT k c 0 t ∗ wT k c 1 t)

/-- What waits for the totals. -/
def later (c : Dev nD) : sProp (MT nD τ sig Unit (Elt F) ℕ UU ℕ) :=
  iprop((∃ f, gPt c (row c) fullShare f) ∗ tks 2 3 c ∗ Oth c (wT 1 c 1) ∗ wts 3 c ∗ poss 0 c ∗ poss 2 c)

/-- What the body ends with. -/
def ended (sC : Dev nD → Buf8 F) (gC : Buf8 F) (A : Args) (c : Dev nD) (I : Ins F) (R : sProp (MT nD τ sig Unit (Elt F) ℕ UU ℕ)) :
    sProp (MT nD τ sig Unit (Elt F) ℕ UU ℕ) :=
  iprop(Stored A c I gC ∗ gPt c Finset.univ fullShare gC ∗ past 2 c ∗ past 3 c ∗ ow c 0
    ∗ (rPt c Finset.univ (rC sC c) ∗ sPt c Finset.univ (sC c) ∗ past 0 c ∗ past 1 c) ∗ (atPos ER (barCell c) 1 ∅ 0 ∗ R))

theorem mid9 {f : Buf8 F} {k : ℕ} : sndR sC gC K (Att A c I n iprop(atPos ER (barCell c) 1 ∅ 0 ∗ Oth c (fun t => iprop(roomG c t 0 ∗ roomG c t 1))
      ∗ ((∃ f, rPt c (row c) f) ∗ Oth c (wT 1 c 0) ∗ later c ∗ R))) f c k
    ⊢ sndR sC gC K (Att A c I n iprop((∃ f, rPt c (row c) f) ∗ Oth c (wT 1 c 0)
      ∗ (Oth c (fun t => iprop(roomG c t 0 ∗ roomG c t 1)) ∗ later c ∗ (atPos ER (barCell c) 1 ∅ 0 ∗ R)))) f c k := by
  unfold sndR
  refine sep_mono_right (sep_mono_left (Att_mono ?_))
  iintro ⟨Ha, Hm, Hr, Hw, Hl, HR⟩
  iframe

theorem kits : iprop(Oth c (fun t => iprop(roomG c t 0 ∗ roomG c t 1)) ∗ tks 2 3 c ∗ (∃ f, gPt c (row c) fullShare f)) ⊢ (iprop(gKit c 0 ∗ gKit c 1) : sProp 𝕄) := by
  unfold gKit
  rw [show (tks 2 3 c : sProp 𝕄) = iprop(Oth c (tk 2 3 c 0) ∗ Oth c (tk 2 3 c 1)) from Oth_sep, Oth_sep]
  iintro ⟨⟨Hm0, Hm1⟩, ⟨Ht0, Ht1⟩, ⟨%f, Hg⟩⟩
  ihave H := (g_row c fullShare f).1 $$ Hg
  icases H with ⟨H0, H1⟩
  isplitl [Hm0 Ht0 H0]
  · isplitl [H0]; · iexists f; iexact H0
    iframe
  isplitl [H1]; · iexists f; iexact H1
  iframe

/-- What the second half needs, while the first half's totals travel. -/
abbrev for18 (sC : Dev nD → Buf8 F) (A : Args) (c : Dev nD) (I : Ins F) (R : sProp (MT nD τ sig Unit (Elt F) ℕ UU ℕ)) : sProp (MT nD τ sig Unit (Elt F) ℕ UU ℕ) :=
  iprop(crds 0 c ∗ poss 0 c ∗ wts 3 c ∗ poss 2 c ∗ sPt c (row c) (sC c) ∗ Att A c I 16 R)

theorem mid15 {O : CellTallies nD τ sig Unit} {k : ℕ} :
    wtOne sC gC K (afterB sC A c I iprop(Oth c (fun t => iprop(roomG c t 0 ∗ roomG c t 1)) ∗ later c ∗ R)) O 1 0 c k
      ⊢ wtOne sC gC K iprop(rPt c (blk c 0) (rC sC c) ∗ gKit c 0 ∗ (Oth c (wT 1 c 1) ∗ (rPt c (blk c 1) (rC sC c) ∗ gKit c 1 ∗ for18 sC A c I R))) O 1 0 c k := by
  refine wtOne_mono ?_
  have e : iprop(Oth c (fun t => iprop(roomG c t 0 ∗ roomG c t 1)) ∗ later c ∗ R)
      ⊢ (iprop((gKit c 0 ∗ gKit c 1 ∗ Oth c (wT 1 c 1) ∗ wts 3 c ∗ poss 0 c ∗ poss 2 c) ∗ R) : sProp 𝕄) := by
    unfold later
    iintro ⟨Hm, ⟨Hg, Ht, Hw, H3, H0, H2⟩, HR⟩
    ihave H := (kits (F := F) (c := c)) $$ [Hm Ht Hg]
    · isplitl [Hm]; · iexact Hm
      isplitl [Ht]; · iexact Ht
      iexact Hg
    icases H with ⟨K0, K1⟩
    iframe
  iintro ⟨Hr, Hs, Hc, HA⟩
  ihave HA := (Att_mono (A := A) (c := c) (I := I) (n := 16) e) $$ HA
  ihave HA := Att_front.1 $$ HA
  icases HA with ⟨⟨K0, K1, Hw, H3, H0, H2⟩, HA⟩
  ihave H := (r_row (F := F) (c := c) (rC sC c)) $$ Hr
  icases H with ⟨Hr0, Hr1⟩
  isplitl [Hr0]; · iexact Hr0
  isplitl [K0]; · iexact K0
  isplitl [Hw]; · iexact Hw
  isplitl [Hr1]; · iexact Hr1
  isplitl [K1]; · iexact K1
  isplitl [Hc]; · iexact Hc
  isplitl [H0]; · iexact H0
  isplitl [H3]; · iexact H3
  isplitl [H2]; · iexact H2
  isplitl [Hs]; · iexact Hs
  iexact HA

theorem mid16 {O : CellTallies nD τ sig Unit} {k : ℕ} : sndG sC gC K iprop((X ∗ R) ∗ Y) O 0 c k ⊢ sndG sC gC K iprop(X ∗ (R ∗ Y)) O 0 c k :=
  sndG_mono sep_assoc.1

theorem mid17 {O : CellTallies nD τ sig Unit} {k : ℕ} : wtOne sC gC K iprop(((X ∗ Y ∗ R) ∗ S) ∗ Z) O 1 1 c k ⊢ wtOne sC gC K iprop(X ∗ Y ∗ (R ∗ S ∗ Z)) O 1 1 c k := by
  refine wtOne_mono ?_
  iintro ⟨⟨⟨HX, HY, HR⟩, HS⟩, HZ⟩
  iframe

theorem mid18 {O : CellTallies nD τ sig Unit} {k : ℕ} : sndG sC gC K iprop(((X ∗ Y ∗ R) ∗ S) ∗ Z) O 1 c k ⊢ sndG sC gC K iprop(X ∗ Y ∗ (R ∗ S ∗ Z)) O 1 c k := by
  refine sndG_mono ?_
  iintro ⟨⟨⟨HX, HY, HR⟩, HS⟩, HZ⟩
  iframe

theorem mid19 {k : ℕ} : wtTwo sC gC K iprop(((X ∗ R) ∗ S) ∗ Z) 0 c k ⊢ wtTwo sC gC K iprop(X ∗ (R ∗ S ∗ Z)) 0 c k := by
  refine wtTwo_mono ?_
  iintro ⟨⟨⟨HX, HR⟩, HS⟩, HZ⟩
  iframe

theorem back_s : iprop(sPt c (row c) (sC c) ∗ backS sC gC c) ⊢ (iprop(sPt c Finset.univ (sC c) ∗ past 0 c) : sProp 𝕄) := by
  have e : (backS sC gC c : sProp 𝕄) ⊢ iprop(past 0 c ∗ Oth c fun t => iprop(sPt c (blk t 0) (sC c) ∗ sPt c (blk t 1) (sC c))) := by
    refine BI.Entails.trans (Oth_mono fun t _ => ?_) (Entails.of_eq Oth_sep)
    show iprop((atPos ER (xCell 0 t 0 c) 1 ∅ 0 ∗ sPt c (blk t 0) (sC c)) ∗ (atPos ER (xCell 0 t 1 c) 1 ∅ 0 ∗ sPt c (blk t 1) (sC c))) ⊢ _
    iintro ⟨⟨H0, H1⟩, H2, H3⟩
    iframe
  iintro ⟨Hs, Hb⟩
  ihave H := e $$ Hb
  icases H with ⟨Hp, Hb⟩
  ihave H := (s_whole (F := F) (c := c) (sC c)) $$ [Hs Hb]
  · isplitl [Hs]; · iexact Hs
    iexact Hb
  iframe

theorem mid20 {k : ℕ} : wtTwo sC gC K iprop(((poss 2 c ∗ sPt c (row c) (sC c) ∗ Att A c I 16 R)
      ∗ ((gEnd sC gC c 0 ∗ Oth c (crd 2 c 0)) ∗ gEnd sC gC c 1) ∗ Oth c (crd 2 c 1)) ∗ backS sC gC c) 3 c k
    ⊢ wtTwo sC gC K iprop(gPt c (row c) (lf c) gC ∗ (crds 2 c ∗ poss 2 c)
      ∗ Att A c I 16 iprop((rPt c Finset.univ (rC sC c) ∗ sPt c Finset.univ (sC c) ∗ past 0 c ∗ past 1 c) ∗ R)) 3 c k := by
  refine wtTwo_mono ?_
  unfold gEnd
  iintro ⟨⟨⟨Hp, Hs, HA⟩, ⟨⟨⟨Hr0, Hg0, Ha0⟩, Hc0⟩, Hr1, Hg1, Ha1⟩, Hc1⟩, Hb⟩
  ihave Hg := (g_row (F := F) (c := c) c (lf c) gC).2 $$ [Hg0 Hg1]
  · isplitl [Hg0]; · iexact Hg0
    iexact Hg1
  ihave Hc := (crds_of (F := F) (c := c)) $$ [Hc0 Hc1]
  · isplitl [Hc0]; · iexact Hc0
    iexact Hc1
  ihave Hr := (r_whole (F := F) (c := c) (rC sC c)) $$ [Hr0 Hr1]
  · isplitl [Hr0]; · iexact Hr0
    iexact Hr1
  ihave Hs := (back_s (sC := sC) (gC := gC) (c := c)) $$ [Hs Hb]
  · isplitl [Hs]; · iexact Hs
    iexact Hb
  icases Hs with ⟨Hs, H0⟩
  ihave Ha := (Entails.of_eq (Oth_sep (A := fun t => atPos ER (xCell 1 t 0 c) 1 ∅ 0) (B := fun t => (atPos ER (xCell 1 t 1 c) 1 ∅ 0 : sProp 𝕄)) (c := c)).symm) $$ [Ha0 Ha1]
  · isplitl [Ha0]; · iexact Ha0
    iexact Ha1
  isplitl [Hg]; · iexact Hg
  isplitl [Hc Hp]
  · isplitl [Hc]; · iexact Hc
    iexact Hp
  iapply (Att_front (A := A) (c := c) (I := I) (n := 16) (X := iprop(rPt c Finset.univ (rC sC c) ∗ sPt c Finset.univ (sC c) ∗ past 0 c ∗ past 1 c))).2
  isplitl [Hr Hs H0 Ha]
  · isplitl [Hr]; · iexact Hr
    isplitl [Hs]; · iexact Hs
    isplitl [H0]; · iexact H0
    iexact Ha
  iexact HA

end Cert.KernelIdeal.Proto

end
-- ==== Proof.Body.lean ====
/-
  The body run whole: from what a device starts with to what it ends with.
-/
module

public import proofs.«01_k».proof.Proof.Carry

@[expose] public section

set_option maxRecDepth 16384

noncomputable section

namespace Cert.KernelIdeal.Proto

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ UU ℕ

variable {sC : Dev nD → Buf8 F} {gC : Buf8 F} {K : GSem nD τ sig → ℕ}
variable {R R' S X Y Z T : sProp (MT nD τ sig Unit (Elt F) ℕ UU ℕ)} {c : Dev nD} {A : Args} {I : Ins F} {n : ℕ}

/-! ## Setting out -/

theorem bigSep_if (hn : ∀ t : Fin 8, t.val = 7 ∨ t.val < 7) {B : Fin 8 → sProp 𝕄} :
    bigSep Finset.univ (fun t : Fin 8 => if t.val = 7 ∨ t.val < 7 then iprop(emp) else B t) = (iprop(emp) : sProp 𝕄) := by
  rw [BI.bigSep_congr (Ψ := fun _ => iprop(emp)) fun t _ => if_pos (hn t)]
  exact BI.bigSep_emp_const _

/-- After the last signal. -/
theorem mid4 : Att A c I n (sgn_ sC gC K iprop(cred (tallyAt (barCell c) () 7) ∗ atPos ER (barCell c) 0 ∅ 0 ∗ X) c 7)
    ⊢ Att A c I n iprop(Ctx sC gC K ∗ X ∗ cred (tallyAt (barCell c) () 7) ∗ atPos ER (barCell c) 0 ∅ 0 ∗ ow c (owG 1 c 0 + owG 0 c 0 + owR c 0)) := by
  refine Att_mono ?_
  unfold sgn_
  rw [bigSep_if (by decide), owB_seven, add_zero]
  iintro ⟨HC, ⟨Hc, Hp, HX⟩, He, Ho⟩
  iframe

/-- What every device gives out when it signals. -/
theorem sgn_intro : iprop(Ctx sC gC K ∗ Oth c (sgT c) ∗ ow c (O₀ c) ∗ R) ⊢ sgn_ sC gC K R c 0 := by
  unfold sgn_
  have e : Oth c (sgT (F := F) c) = bigSep Finset.univ (fun t : Fin 8 => if t.val = 7 ∨ t.val < 0 then iprop(emp) else sgT c (sgn c t)) := by
    unfold Oth
    have hb : Function.Bijective (sgn c) := by revert c; decide
    refine (BI.bigSep_univ_equiv (Equiv.ofBijective (sgn c) hb) _).trans (BI.bigSep_congr fun t _ => ?_)
    have h7 : sgn c t = c ↔ (t.val = 7 ∨ t.val < 0) := by revert c t; decide
    show (if sgn c t = c then iprop(emp) else sgT c (sgn c t)) = _
    simp only [h7]
  rw [← e]
  show _ ⊢ iprop(Ctx sC gC K ∗ R ∗ Oth c (sgT c) ∗ ow c (O₀ c))
  iintro ⟨HC, Hs, Ho, HR⟩
  iframe

theorem r_row' (t : Dev nD) (f : Buf8 F) : (rPt c (row t) f : sProp 𝕄) ⊢ iprop(rPt c (blk t 0) f ∗ rPt c (blk t 1) f) := by
  rw [row_eq]; exact (pointsTo_union (blk_disj_half t t)).1

/-- The rows lent to the others. -/
theorem sgT_of : iprop(Oth c (fun t => iprop(dutyTok ER (barCell t) 0 c ∗ reached ER (barCell t) 0))
      ∗ Oth c (fun t => iprop((∃ f, rPt c (row t) f) ∗ (∃ f, gPt c (row t) fullShare f)))
      ∗ Oth c (fun t => iprop((reached ER (xCell 1 t 0 c) 0 ∗ reached ER (xCell 1 t 1 c) 0) ∗ (reached ER (xCell 3 t 0 c) 0 ∗ reached ER (xCell 3 t 1 c) 0))))
    ⊢ (Oth c (sgT c) : sProp 𝕄) := by
  refine BI.Entails.trans (sep_mono_right (Entails.of_eq Oth_sep.symm)) ((Entails.of_eq Oth_sep.symm).trans (Oth_mono fun t _ => ?_))
  unfold sgT barPay roomR roomG
  iintro ⟨⟨H0, H1⟩, ⟨⟨%f, Hr⟩, ⟨%g, Hg⟩⟩, ⟨H2, H3⟩, H4, H5⟩
  ihave Hr := (r_row' t f) $$ Hr
  ihave Hg := (g_row t fullShare g).1 $$ Hg
  icases Hr with ⟨Hr0, Hr1⟩
  icases Hg with ⟨Hg0, Hg1⟩
  isplitl [H0]; · iexact H0
  isplitl [H1]; · iexact H1
  isplitl [H2 H3 Hr0 Hr1]
  · isplitl [Hr0 H2]
    · isplitl [Hr0]; · iexists f; iexact Hr0
      iexact H2
    isplitl [Hr1]; · iexists f; iexact Hr1
    iexact H3
  isplitl [Hg0 H4]
  · isplitl [Hg0]; · iexists g; iexact Hg0
    iexact H4
  isplitl [Hg1]; · iexists g; iexact Hg1
  iexact H5

theorem step {α β : Type} {p : Prog (TpuEff nD τ sig (Elt F) Λ₀ .tc) α} {k : α → Prog (TpuEff nD τ sig (Elt F) Λ₀ .tc) β}
    {Q : β → sProp (MT nD τ sig Unit (Elt F) ℕ UU ℕ)} (h : T ⊢ WP c p (fun a => WP c (k a) Q)) : T ⊢ WP c (p >>= k) Q :=
  h.trans (Entails.of_eq (wp_bind _ _ _ _ _ _).symm)

/-- What the barrier's wait and the copies use. -/
abbrev begun (c : Dev nD) (A : Args) (I : Ins F) (out : Vec F S8x64x768 .f32) (q a : Vec F S512x512 .bf16) (w : Vec F S512x768 .bf16) (f₀ : Buf8 F)
    (R : sProp (MT nD τ sig Unit (Elt F) ℕ UU ℕ)) : sProp (MT nD τ sig Unit (Elt F) ℕ UU ℕ) :=
  iprop(Loc A c ⟨I.x, I.wq, I.k, I.v, I.wo, out, q, a, w⟩ ∗ (cred (tallyAt (barCell c) () 7) ∗ atPos ER (barCell c) 0 ∅ 0
    ∗ (sPt c Finset.univ f₀ ∗ tks 0 1 c ∗ ((∃ f, rPt c (row c) f) ∗ Oth c (wT 1 c 0) ∗ later c ∗ R))))

attribute [local irreducible] Idealize.SL.Sem.wp

theorem the_body (hsC : sC c = sF I.x I.wq I.k I.v I.wo) (hgC : gC = gF sC) {out : Vec F S8x64x768 .f32} {q a : Vec F S512x512 .bf16} {w : Vec F S512x768 .bf16}
    {f₀ : Buf8 F} {Q : PUnit → sProp (MT nD τ sig Unit (Elt F) ℕ UU ℕ)} (h : iprop(Ctx sC gC K ∗ ended sC gC A c I R) ⊢ Q ⟨⟩) :
    sgn_ sC gC K (begun c A I out q a w f₀ R) c 0 ⊢ WP c (app A (cc0__fused_body (F := F))) Q := by
  unfold app
  rw [cc0__fused_body_eq_skeleton]
  unfold cc0__fused_body_skel
  refine step (part1 ?_)
  refine step (part2 fun r => ?_); rcases r with ⟨r1, r2⟩
  refine step (part3 fun r => ?_); rcases r with ⟨r3, r4, r5, r6⟩
  refine step (part4 ?_)
  refine BI.Entails.trans mid4 ?_
  refine step (part5 ?_)
  refine step (part6 ?_)
  refine step (part7 ?_)
  refine step (part8 ?_)
  refine step (part9 hsC fun f r hf => ?_)
  refine BI.Entails.trans mid9 ?_
  refine step (part10 hf ?_)
  refine step (part11 ?_)
  refine step (part12 ?_)
  refine step (part13 ?_)
  refine step (part14 ?_)
  refine step (part15 hsC hf ?_)
  refine BI.Entails.trans mid15 ?_
  refine step (part16 hgC ?_)
  refine BI.Entails.trans mid16 ?_
  refine step (part17 ?_)
  refine BI.Entails.trans mid17 ?_
  refine step (part18 hgC ?_)
  refine BI.Entails.trans mid18 ?_
  refine step (part19 ?_)
  refine BI.Entails.trans mid19 ?_
  refine step (part20 ?_)
  refine BI.Entails.trans mid20 ?_
  refine step (part21 ?_)
  extract_lets -lift
  refine wtTwo_guard 6 rfl rfl ((by decide : ∀ c : Dev nD, k0_cond63 c = 1#1 ↔ (6 : Dev nD) ≠ c) c) (fun hK h ht => wtTwo_lift (t := 6) ht (by exact sem8 rfl) (by exact sem8 rfl) (by exact rfl) (by exact rfl) hK) ?_
  refine wtTwo_guard 7 rfl rfl ((by decide : ∀ c : Dev nD, k0_cond64 c = 1#1 ↔ (7 : Dev nD) ≠ c) c) (fun hK h ht => wtTwo_lift (t := 7) ht (by exact sem8 rfl) (by exact sem8 rfl) (by exact rfl) (by exact rfl) hK) ?_
  refine ret ?_
  exact BI.Entails.trans all_done h

end Cert.KernelIdeal.Proto

end
-- ==== Proof.Start.lean ====
/-
  What a device is given at launch — names, positions, rights to open, duties, credits — and how the body's
  starting resources come from it.
-/
module

public import proofs.«01_k».proof.Proof.Body

@[expose] public section

set_option maxRecDepth 16384

noncomputable section

namespace Cert.KernelIdeal.Proto

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ UU ℕ

variable {sC : Dev nD → Buf8 F} {gC : Buf8 F} {K : GSem nD τ sig → ℕ}
variable {R S T : sProp (MT nD τ sig Unit (Elt F) ℕ UU ℕ)} {c : Dev nD}

/-! ## Every transfer semaphore of a device -/

abbrev XIx : Type := Fin 4 × Dev nD × Fin 2
abbrev xAt (c : Dev nD) (x : XIx) : GSem nD τ sig := xCell x.1 x.2.1 x.2.2 c
/-- The cell paid by `c`'s copy to device `t`: its own on arrays 0 and 2, device `t`'s on 1 and 3. -/
def payAt (c : Dev nD) (x : XIx) : GSem nD τ sig := if x.1 = 1 ∨ x.1 = 3 then xCell x.1 c x.2.2 x.2.1 else xAt c x

theorem bigSep_four (A : Fin 4 → sProp (MT nD τ sig Unit (Elt F) ℕ UU ℕ)) : bigSep Finset.univ A = iprop(A 0 ∗ A 1 ∗ A 2 ∗ A 3) := by
  rw [show (Finset.univ : Finset (Fin 4)) = {0, 1, 2, 3} from by decide, bigSep_insert (by decide), bigSep_insert (by decide), bigSep_insert (by decide), bigSep_singleton]
  rfl

/-- Over all of them: per array, the other devices' slots and the device's own. -/
abbrev Arr (c : Dev nD) (A : XIx → sProp (MT nD τ sig Unit (Elt F) ℕ UU ℕ)) (k : Fin 4) : sProp (MT nD τ sig Unit (Elt F) ℕ UU ℕ) :=
  Oth c fun t => iprop(A (k, t, 0) ∗ A (k, t, 1))
abbrev Slf (c : Dev nD) (A : XIx → sProp (MT nD τ sig Unit (Elt F) ℕ UU ℕ)) (k : Fin 4) : sProp (MT nD τ sig Unit (Elt F) ℕ UU ℕ) :=
  iprop(A (k, c, 0) ∗ A (k, c, 1))

theorem all_eq (A : XIx → sProp (MT nD τ sig Unit (Elt F) ℕ UU ℕ)) : bigSep Finset.univ A
    = iprop((Slf c A 0 ∗ Arr c A 0) ∗ (Slf c A 1 ∗ Arr c A 1) ∗ (Slf c A 2 ∗ Arr c A 2) ∗ (Slf c A 3 ∗ Arr c A 3)) := by
  rw [BI.bigSep_univ_prod, bigSep_four]
  have e (k : Fin 4) : bigSep Finset.univ (fun y : Dev nD × Fin 2 => A (k, y)) = iprop(Slf c A k ∗ Arr c A k) := by
    rw [BI.bigSep_univ_prod, BI.bigSep_congr fun t _ => BI.bigSep_fin_two (fun h : Fin 2 => A (k, t, h))]
    exact all_split
  exact congrArg₂ _ (e 0) (congrArg₂ _ (e 1) (congrArg₂ _ (e 2) (e 3)))

theorem pick {A0 A1 A2 A3 B0 B1 B2 B3 : sProp (MT nD τ sig Unit (Elt F) ℕ UU ℕ)} :
    iprop((B0 ∗ A0) ∗ (B1 ∗ A1) ∗ (B2 ∗ A2) ∗ (B3 ∗ A3)) ⊢ iprop(A1 ∗ A3) := by
  iintro ⟨-, ⟨-, H1⟩, -, ⟨-, H3⟩⟩
  isplitl [H1]; · iexact H1
  iexact H3

theorem zip4 {A0 A1 A2 A3 B0 B1 B2 B3 : sProp (MT nD τ sig Unit (Elt F) ℕ UU ℕ)} :
    iprop((B0 ∗ B1 ∗ B2 ∗ B3) ∗ (A0 ∗ A1 ∗ A2 ∗ A3)) ⊢ iprop((B0 ∗ A0) ∗ (B1 ∗ A1) ∗ (B2 ∗ A2) ∗ (B3 ∗ A3)) := by
  iintro ⟨⟨H0, H1, H2, H3⟩, G0, G1, G2, G3⟩
  iframe

/-! ## The launch's credit -/

theorem bar_ne_x {k : Fin 4} {t : Dev nD} {h : Fin 2} {c d : Dev nD} : barCell d ≠ xCell k t h c := fun e => by
  have := congrArg Prod.snd e; cases this

theorem dev_eq {a b : Dev nD} {x y : SemLoc sig} (e : (((a : Thread nD τ), x) : GSem nD τ sig) = ((b : Thread nD τ), y)) : a = b :=
  congrArg (fun g : GSem nD τ sig => g.1.1) e

theorem xCell_inj {k k' : Fin 4} {t t' : Dev nD} {h h' : Fin 2} {c c' : Dev nD} (e : xCell k t h c = xCell k' t' h' c') :
    k = k' ∧ t = t' ∧ h = h' ∧ c = c' := by
  have h1 := congrArg Prod.snd e
  have h2 := xsem_inj (SemLoc.dma.inj h1)
  exact ⟨h2.1, h2.2.1, h2.2.2, dev_eq e⟩

theorem tally_x {k k' : Fin 4} {t t' : Dev nD} {h h' : Fin 2} {c c' : Dev nD} :
    (tallyAt (xCell k t h c) () N : CellTallies nD τ sig Unit) (xCell k' t' h' c') () = if k' = k ∧ t' = t ∧ h' = h ∧ c' = c then N else 0 := by
  rw [tallyAt_apply]
  by_cases e : xCell k' t' h' c' = xCell k t h c
  · rw [if_pos ⟨e, rfl⟩, if_pos (xCell_inj e)]
  · rw [if_neg fun x => e x.1, if_neg fun x => e (by rw [x.1, x.2.1, x.2.2.1, x.2.2.2])]

theorem tally_x_bar {k : Fin 4} {t : Dev nD} {h : Fin 2} {c d : Dev nD} : (tallyAt (xCell k t h c) () N : CellTallies nD τ sig Unit) (barCell d) () = 0 := by
  rw [tallyAt_apply, if_neg fun x => bar_ne_x x.1]
theorem tally_bar_x {k : Fin 4} {t : Dev nD} {h : Fin 2} {c d : Dev nD} : (tallyAt (barCell d) () 1 : CellTallies nD τ sig Unit) (xCell k t h c) () = 0 := by
  rw [tallyAt_apply, if_neg fun x => bar_ne_x x.1.symm]
theorem tally_bar {c d : Dev nD} : (tallyAt (barCell d) () 1 : CellTallies nD τ sig Unit) (barCell c) () = if c = d then 1 else 0 := by
  rw [tallyAt_apply]
  by_cases e : c = d
  · rw [if_pos ⟨by rw [e], rfl⟩, if_pos e]
  · rw [if_neg fun x => e (dev_eq x.1), if_neg e]

theorem Tal_at {f : Dev nD → CellTallies nD τ sig Unit} {d : Dev nD} {g : GSem nD τ sig} : Tal d 0 f g () = ∑ p : Dev nD, if p = d then 0 else f p g () := by
  unfold Tal
  rw [Finset.sum_apply, Finsupp.finset_sum_apply]
  refine Finset.sum_congr rfl fun p _ => ?_
  by_cases h : p = d
  · rw [if_pos (Or.inl h), if_pos h]; rfl
  · rw [if_neg (by simp only [h, false_or]; exact Nat.not_lt_zero _), if_neg h]

theorem Tal_zero {f : Dev nD → CellTallies nD τ sig Unit} {d : Dev nD} {g : GSem nD τ sig} (h : ∀ p, f p g () = 0) : Tal d 0 f g () = 0 := by
  rw [Tal_at]; exact Finset.sum_eq_zero fun p _ => by rw [h p]; split <;> rfl

/-- What device `d` owes at slot `(t, h)` of array `k` on device `c`. -/
theorem Tal_x {k k' : Fin 4} {h h' : Fin 2} {t c d : Dev nD} (ht : t ≠ c) :
    Tal d 0 (fun p => tallyAt (xCell k d h p) () N) (xCell k' t h' c) () = if d = t then (if k' = k ∧ h' = h then N else 0) else 0 := by
  rw [Tal_at, Finset.sum_eq_single c]
  · rw [tally_x]
    by_cases e : d = t
    · subst e
      rw [if_neg ht.symm, if_pos rfl]
      by_cases e : k' = k ∧ h' = h
      · rw [if_pos e, if_pos ⟨e.1, rfl, e.2, rfl⟩]
      · rw [if_neg e, if_neg fun x => e ⟨x.1, x.2.2.1⟩]
    · rw [if_neg e]
      rw [if_neg (c := k' = k ∧ _) fun x => e x.2.1.symm]
      split <;> rfl
  · intro p _ hp
    rw [tally_x, if_neg (c := k' = k ∧ _) fun x => hp x.2.2.2.symm]
    split <;> rfl
  · intro h; exact absurd (Finset.mem_univ c) h

theorem owB_at (d c : Dev nD) : owB d 0 (barCell c) () = if d = c then 0 else 1 := by
  unfold owB
  rw [Finset.sum_apply, Finsupp.finset_sum_apply]
  rw [Finset.sum_congr rfl (g := fun t : Fin 8 => if t.val = 7 ∨ t.val < 0 then 0 else if c = sgn d t then 1 else 0) fun t _ => by
    by_cases h : t.val = 7 ∨ t.val < 0
    · rw [if_pos h, if_pos h]; rfl
    · rw [if_neg h, if_neg h, tally_bar]]
  revert d c; decide

theorem owB_x {k : Fin 4} {t d : Dev nD} {h : Fin 2} : owB d 0 (xCell k t h c) () = 0 := by
  unfold owB
  rw [Finset.sum_apply, Finsupp.finset_sum_apply]
  refine Finset.sum_eq_zero fun t _ => ?_
  split
  · rfl
  · exact tally_bar_x

theorem owed_bar (d : Dev nD) : O₀ d (barCell c) () = if d = c then 0 else 1 := by
  unfold O₀ owG owR
  rw [Pi.add_apply, Pi.add_apply, Pi.add_apply, Finsupp.add_apply, Finsupp.add_apply, Finsupp.add_apply, owB_at,
    Tal_zero fun p => tally_x_bar, Tal_zero fun p => tally_x_bar, Tal_zero fun p => by rw [Pi.add_apply, Finsupp.add_apply, tally_x_bar, tally_x_bar]]
  simp only [Nat.zero_add]

theorem owR_eq (d : Dev nD) : owR d 0 = Tal d 0 (fun p => tallyAt (xCell 1 d 0 p) () N) + Tal d 0 (fun p => tallyAt (xCell 1 d 1 p) () N) := by
  unfold owR Tal
  rw [← Finset.sum_add_distrib]
  refine Finset.sum_congr rfl fun p _ => ?_
  split
  · rw [zero_add]
  · rfl

theorem owed_x {k : Fin 4} (hk : k = 1 ∨ k = 3) {h : Fin 2} {t : Dev nD} (ht : t ≠ c) (d : Dev nD) : O₀ d (xCell k t h c) () = if d = t then N else 0 := by
  unfold O₀ owG
  rw [owR_eq]
  simp only [Pi.add_apply, Finsupp.add_apply]
  rw [owB_x, Tal_x ht, Tal_x ht, Tal_x ht, Tal_x ht]
  by_cases e : d = t
  · simp only [if_pos e]
    rcases hk with rfl | rfl <;> obtain rfl | rfl : h = 0 ∨ h = 1 := by revert h; decide
    all_goals simp
  · simp only [if_neg e, Nat.add_zero]

theorem launch_bar : tallyOn (barCell c) (launchCredit (Pipeline.owing O₀) 0 (barCell c)) = (tallyAt (barCell c) () 7 : CellTallies nD τ sig Unit) := by
  unfold tallyAt; refine congrArg _ (Finsupp.ext fun u => ?_); cases u
  rw [Pipeline.launchCredit_owing, Finsupp.single_eq_same, Finset.sum_congr rfl fun d _ => owed_bar d]
  revert c; decide

theorem launch_x {k : Fin 4} (hk : k = 1 ∨ k = 3) {h : Fin 2} {t : Dev nD} (ht : t ≠ c) :
    tallyOn (xCell k t h c) (launchCredit (Pipeline.owing O₀) 0 (xCell k t h c)) = (tallyAt (xCell k t h c) () N : CellTallies nD τ sig Unit) := by
  rw [tallyAt.eq_1]; refine congrArg _ (Finsupp.ext fun u => ?_); cases u
  rw [Pipeline.launchCredit_owing, Finsupp.single_eq_same, Finset.sum_congr rfl fun d _ => owed_x hk ht d, Finset.sum_ite_eq' Finset.univ t fun _ => N,
    if_pos (Finset.mem_univ _)]

def xEmb : XIx ↪ SemLoc sig := ⟨fun x => .dma (xsem x.1 x.2.1 x.2.2), fun x y e => by
  have h := xsem_inj (SemLoc.dma.inj e)
  exact Prod.ext h.1 (Prod.ext h.2.1 h.2.2)⟩

theorem creds : (Pipeline.launchCred O₀ c : sProp 𝕄) ⊢ iprop(cred (tallyAt (barCell c) () 7) ∗ crds 1 c ∗ crds 3 c) := by
  unfold Pipeline.launchCred
  rw [BI.bigSep_univ_split (SemLoc.reg barS), launch_bar]
  refine sep_mono_right ?_
  refine BI.Entails.trans (BI.bigSep_subset (t := Finset.univ.map xEmb) fun sm hs => ?_) ?_
  · obtain ⟨x, -, rfl⟩ := Finset.mem_map.mp hs
    exact Finset.mem_erase.mpr ⟨(fun e => by cases e), Finset.mem_univ _⟩
  rw [BI.bigSep_map, all_eq (c := c)]
  have e {k : Fin 4} (hk : k = 1 ∨ k = 3) : Arr c (fun x : XIx => (cred (tallyOn ((c.tc : Thread nD τ), xEmb x) (launchCredit (Pipeline.owing O₀) 0 ((c.tc : Thread nD τ), xEmb x))) : sProp 𝕄)) k
      ⊢ crds k c := Oth_mono fun t ht => Entails.of_eq (congrArg₂ (fun x y => iprop(cred x ∗ cred y)) (launch_x hk ht) (launch_x hk ht))
  exact pick.trans (BIClass.sep_mono (e (Or.inl rfl)) (e (Or.inr rfl)))

/-! ## The ghost state from launch -/

def ghost (sC : Dev nD → Buf8 F) (gC : Buf8 F) (K : GSem nD τ sig → ℕ) (c : Dev nD) : sProp (MT nD τ sig Unit (Elt F) ℕ UU ℕ) :=
  iprop(invs sC gC K ∗ atPos ER (barCell c) 0 ∅ 0 ∗ (bigSep Finset.univ fun x : XIx => openTok ER (xAt c x))
    ∗ (bigSep Finset.univ fun p : Dev nD => reached ER (barCell p) 0) ∗ (bigSep Finset.univ fun p : Dev nD => dutyTok ER (barCell p) 0 c)
    ∗ bigSep Finset.univ fun x : XIx => dutyTok ER (payAt c x) 0 0)

/-- Its own transfer cells opened. -/
def opened (sC : Dev nD → Buf8 F) (gC : Buf8 F) (K : GSem nD τ sig → ℕ) (c : Dev nD) : sProp (MT nD τ sig Unit (Elt F) ℕ UU ℕ) :=
  iprop(invs sC gC K ∗ atPos ER (barCell c) 0 ∅ 0
    ∗ ((bigSep Finset.univ fun x : XIx => atPos ER (xAt c x) 0 ∅ 0) ∗ (bigSep Finset.univ fun x : XIx => reached ER (xAt c x) 0))
    ∗ (bigSep Finset.univ fun p : Dev nD => reached ER (barCell p) 0) ∗ (bigSep Finset.univ fun p : Dev nD => dutyTok ER (barCell p) 0 c)
    ∗ bigSep Finset.univ fun x : XIx => dutyTok ER (payAt c x) 0 0)

theorem open_one (x : XIx) : iprop(invs sC gC K ∗ (openTok ER (xAt c x) ∗ semVal (xAt c x) 0))
    ⊢ (|={Set.univ}=> (iprop(atPos ER (xAt c x) 0 ∅ 0 ∗ reached ER (xAt c x) 0)) : sProp 𝕄) := by
  refine BI.Entails.trans ?_ (Rounds.cell_open ER (Rd sC gC) (g := xAt c x) (Set.mem_univ (K (xAt c x))))
  exact sep_mono_left (invs_x sC gC K x.1 x.2.1 x.2.2 c)

theorem open_all : iprop(invs sC gC K ∗ ((bigSep Finset.univ fun x : XIx => openTok ER (xAt c x)) ∗ (bigSep Finset.univ fun x : XIx => semVal (xAt c x) 0)))
    ⊢ (|={Set.univ}=> (iprop((bigSep Finset.univ fun x : XIx => atPos ER (xAt c x) 0 ∅ 0) ∗ (bigSep Finset.univ fun x : XIx => reached ER (xAt c x) 0))) : sProp 𝕄) := by
  refine BI.Entails.trans (sep_mono_right (Entails.of_eq (BI.bigSep_sep _ _ _).symm)) ?_
  exact ((BI.bigSep_with_persistent fun x _ => open_one x).trans (BI.bigSep_fupd _ _)).trans (fupd_mono (Entails.of_eq (BI.bigSep_sep _ _ _)))

theorem open_ghost : iprop(ghost sC gC K c ∗ (bigSep Finset.univ fun x : XIx => semVal (xAt c x) 0)) ⊢ (|={Set.univ}=> opened sC gC K c : sProp 𝕄) := by
  unfold ghost opened
  iintro ⟨⟨#HI, Hb, Ho, Hr, Ht, Hx⟩, Hv⟩
  imod (open_all (sC := sC) (gC := gC) (K := K) (c := c)) $$ [Ho Hv] with HA
  · isplitr; · iexact HI
    isplitl [Ho]; · iexact Ho
    iexact Hv
  imodintro
  isplitr; · iexact HI
  isplitl [Hb]; · iexact Hb
  isplitl [HA]; · iexact HA
  isplitl [Hr]; · iexact Hr
  isplitl [Ht]; · iexact Ht
  iexact Hx

/-! ## Closing -/

theorem close_at (g : GSem nD τ sig) (R₀ : ℕ) (h : ∀ r, R₀ ≤ r → (Rd sC gC).duties g r = ∅) (κ : ℕ) :
    iprop(cellInv ER (Rd sC gC) κ g ∗ atPos ER g R₀ ∅ 0) ⊢ (|={Set.univ}=> semVal g 0 : sProp 𝕄) :=
  Rounds.cell_close ER (Rd sC gC) (Set.mem_univ κ) id h

/-- The round an own cell is left at: the cell for oneself is never used. -/
abbrev lastR (c : Dev nD) (x : XIx) : ℕ := if x.2.1 = c then 0 else 1

theorem close_one (x : XIx) : iprop(invs sC gC K ∗ atPos ER (xAt c x) (lastR c x) ∅ 0) ⊢ (|={Set.univ}=> semVal (xAt c x) 0 : sProp 𝕄) := by
  refine BI.Entails.trans (sep_mono_left (invs_x sC gC K x.1 x.2.1 x.2.2 c)) (close_at _ _ ?_ _)
  obtain ⟨k, t, h⟩ := x
  intro r hr
  by_cases ht : t = c
  · subst ht; exact duties_self sC gC t k h r
  · exact duties_later sC gC _ r ((show 1 = lastR c (k, t, h) from (if_neg ht).symm).trans_le hr)

/-- The own cells past their rounds, and those for oneself. -/
theorem last_of : iprop((Slf c (fun x => atPos ER (xAt c x) 0 ∅ 0) 0 ∗ Slf c (fun x => atPos ER (xAt c x) 0 ∅ 0) 1 ∗ Slf c (fun x => atPos ER (xAt c x) 0 ∅ 0) 2
      ∗ Slf c (fun x => atPos ER (xAt c x) 0 ∅ 0) 3) ∗ (past 0 c ∗ past 1 c ∗ past 2 c ∗ past 3 c))
    ⊢ (bigSep Finset.univ fun x : XIx => atPos ER (xAt c x) (lastR c x) ∅ 0 : sProp 𝕄) := by
  rw [all_eq (c := c)]
  have s (k : Fin 4) : Slf c (fun x => atPos ER (xAt c x) 0 ∅ 0) k ⊢ (Slf c (fun x => atPos ER (xAt c x) (lastR c x) ∅ 0) k : sProp 𝕄) :=
    Entails.of_eq (by dsimp only [Slf, lastR]; rw [if_pos rfl])
  have o (k : Fin 4) : past k c ⊢ (Arr c (fun x => atPos ER (xAt c x) (lastR c x) ∅ 0) k : sProp 𝕄) :=
    Oth_mono fun t ht => Entails.of_eq (by dsimp only [lastR]; rw [if_neg ht])
  refine BI.Entails.trans (BIClass.sep_mono (BIClass.sep_mono (s 0) (BIClass.sep_mono (s 1) (BIClass.sep_mono (s 2) (s 3))))
    (BIClass.sep_mono (o 0) (BIClass.sep_mono (o 1) (BIClass.sep_mono (o 2) (o 3))))) zip4

theorem close_all : iprop(invs sC gC K ∗ (bigSep Finset.univ fun x : XIx => atPos ER (xAt c x) (lastR c x) ∅ 0))
    ⊢ (|={Set.univ}=> (bigSep Finset.univ fun x : XIx => semVal (xAt c x) 0) : sProp 𝕄) :=
  (BI.bigSep_with_persistent fun x _ => close_one x).trans (BI.bigSep_fupd _ _)

theorem close_bar : iprop(invs sC gC K ∗ atPos ER (barCell c) 1 ∅ 0) ⊢ (|={Set.univ}=> semVal (barCell c) 0 : sProp 𝕄) :=
  BI.Entails.trans (sep_mono_left (invs_bar sC gC K c)) (close_at _ _ (duties_later sC gC _) _)

end Cert.KernelIdeal.Proto

end
-- ==== Proof.Ready.lean ====
/-
  The body's starting resources assembled, and its final ones taken apart.
-/
module

public import proofs.«01_k».proof.Proof.Start

@[expose] public section

set_option maxRecDepth 16384

noncomputable section

namespace Cert.KernelIdeal.Proto

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ UU ℕ

variable {sC : Dev nD → Buf8 F} {gC : Buf8 F} {K : GSem nD τ sig → ℕ}
variable {R S T : sProp (MT nD τ sig Unit (Elt F) ℕ UU ℕ)} {c : Dev nD} {A : Args} {I : Ins F}

abbrev atP (c : Dev nD) (x : XIx) : sProp (MT nD τ sig Unit (Elt F) ℕ UU ℕ) := atPos ER (xAt c x) 0 ∅ 0
abbrev rch (c : Dev nD) (x : XIx) : sProp (MT nD τ sig Unit (Elt F) ℕ UU ℕ) := reached ER (xAt c x) 0
abbrev dut (c : Dev nD) (x : XIx) : sProp (MT nD τ sig Unit (Elt F) ℕ UU ℕ) := dutyTok ER (payAt c x) 0 0

/-- The positions on the cells for oneself. -/
def selfs (c : Dev nD) : sProp (MT nD τ sig Unit (Elt F) ℕ UU ℕ) := iprop(Slf c (atP c) 0 ∗ Slf c (atP c) 1 ∗ Slf c (atP c) 2 ∗ Slf c (atP c) 3)

theorem pay_own {k : Fin 4} {t : Dev nD} {h : Fin 2} (hk : ¬(k = 1 ∨ k = 3)) : payAt c (k, t, h) = xCell k t h c := if_neg hk
theorem pay_oth {k : Fin 4} {t : Dev nD} {h : Fin 2} (hk : k = 1 ∨ k = 3) : payAt c (k, t, h) = xCell k c h t := if_pos hk

theorem tks_of {k k' : Fin 4} (hk : ¬(k = 1 ∨ k = 3)) (hk' : k' = 1 ∨ k' = 3) :
    iprop(Arr c (dut c) k ∗ Arr c (rch c) k ∗ Arr c (dut c) k') ⊢ (tks k k' c : sProp 𝕄) := by
  refine BI.Entails.trans (sep_mono_right (Entails.of_eq Oth_sep.symm)) ((Entails.of_eq Oth_sep.symm).trans (Oth_mono fun t _ => ?_))
  unfold tk
  dsimp only [dut, rch]
  rw [pay_own hk, pay_own hk, pay_oth hk', pay_oth hk']
  iintro ⟨⟨H0, H1⟩, ⟨H2, H3⟩, H4, H5⟩
  iframe

theorem r_univ (f : Buf8 F) : (rPt c Finset.univ f : sProp 𝕄) = iprop(rPt c (row c) f ∗ Oth c fun t => rPt c (row t) f) := by
  have h {J : Finset S8x64x768.Idx} (hJ : J = Finset.univ.biUnion row) : (rPt c J f : sProp 𝕄) = iprop(rPt c (row c) f ∗ Oth c fun t => rPt c (row t) f) := by
    rw [hJ]; exact (pointsTo_biUnion _ _ fun t _ t' _ hne => row_disj hne).trans all_split
  exact h univ_rows

theorem lent_of (f g : Buf8 F) : iprop((Oth c fun t => rPt c (row t) f) ∗ (Oth c fun t => gPt c (row t) fullShare g))
    ⊢ (Oth c (fun t => iprop((∃ f, rPt c (row t) f) ∗ (∃ f, gPt c (row t) fullShare f))) : sProp 𝕄) := by
  refine (Entails.of_eq Oth_sep.symm).trans (Oth_mono fun t _ => ?_)
  iintro ⟨H0, H1⟩
  isplitl [H0]
  · iexists f; iexact H0
  · iexists g; iexact H1

theorem others {B : Dev nD → sProp (MT nD τ sig Unit (Elt F) ℕ UU ℕ)} : bigSep Finset.univ B ⊢ Oth c B := by
  rw [all_split (c := c)]
  iintro ⟨-, H⟩; iexact H

theorem waits1 : iprop(crds 1 c ∗ poss 1 c) ⊢ (iprop(Oth c (wT 1 c 0) ∗ Oth c (wT 1 c 1)) : sProp 𝕄) :=
  (pairs 1).trans (Entails.of_eq Oth_sep)

/-- What a device starts the body with, beside its own buffers' contents. -/
def set0 (sC : Dev nD → Buf8 F) (gC : Buf8 F) (K : GSem nD τ sig → ℕ) (c : Dev nD) : sProp (MT nD τ sig Unit (Elt F) ℕ UU ℕ) :=
  iprop(opened sC gC K c ∗ levAts L lv ∗ cred (tallyAt (barCell c) () 7) ∗ crds 1 c ∗ crds 3 c)

theorem ready {out : Vec F S8x64x768 .f32} {q a : Vec F S512x512 .bf16} {w : Vec F S512x768 .bf16} {fs fr fg : Buf8 F} :
    iprop(set0 sC gC K c ∗ (sPt c Finset.univ fs ∗ rPt c Finset.univ fr ∗ gPt c Finset.univ fullShare fg)
      ∗ Loc A c ⟨I.x, I.wq, I.k, I.v, I.wo, out, q, a, w⟩ ∗ ow c (O₀ c) ∗ T)
    ⊢ sgn_ sC gC K (begun c A I out q a w fs iprop(selfs c ∗ T)) c 0 := by
  refine BI.Entails.trans ?_ sgn_intro
  unfold set0 opened
  rw [all_eq (c := c) (A := fun x : XIx => atPos ER (xAt c x) 0 ∅ 0), all_eq (c := c) (A := fun x : XIx => reached ER (xAt c x) 0),
    all_eq (c := c) (A := fun x : XIx => dutyTok ER (payAt c x) 0 0), r_univ, g_univ]
  show (_ : sProp 𝕄) ⊢ _
  iintro ⟨⟨⟨HI, Hbp, ⟨⟨⟨S0, P0⟩, ⟨S1, P1⟩, ⟨S2, P2⟩, ⟨S3, P3⟩⟩, ⟨⟨-, R0⟩, ⟨-, R1⟩, ⟨-, R2⟩, ⟨-, R3⟩⟩⟩, Hbr, Hbt, ⟨⟨-, D0⟩, ⟨-, D1⟩, ⟨-, D2⟩, ⟨-, D3⟩⟩⟩,
    Hlev, Hcb, C1, C3⟩, ⟨Hs, ⟨Hrc, Hr⟩, ⟨Hgc, Hg⟩⟩, HL, HO, HT⟩
  ihave T0 := (tks_of (F := F) (c := c) (k := 0) (k' := 1) (by decide) (by decide)) $$ [D0 R0 D1]
  · isplitl [D0]; · iexact D0
    isplitl [R0]; · iexact R0
    iexact D1
  ihave T2 := (tks_of (F := F) (c := c) (k := 2) (k' := 3) (by decide) (by decide)) $$ [D2 R2 D3]
  · isplitl [D2]; · iexact D2
    isplitl [R2]; · iexact R2
    iexact D3
  ihave W1 := (waits1 (F := F) (c := c)) $$ [C1 P1]
  · isplitl [C1]; · iexact C1
    iexact P1
  ihave W3 := (pairs (F := F) (c := c) 3) $$ [C3 P3]
  · isplitl [C3]; · iexact C3
    iexact P3
  icases W1 with ⟨W10, W11⟩
  ihave Hln := (lent_of (c := c) fr fg) $$ [Hr Hg]
  · isplitl [Hr]; · iexact Hr
    iexact Hg
  ihave Hbb := (BIClass.sep_mono (others (c := c)) (others (c := c))).trans (Entails.of_eq Oth_sep.symm) $$ [Hbt Hbr]
  · isplitl [Hbt]; · iexact Hbt
    iexact Hbr
  ihave Hrr := (Entails.of_eq Oth_sep.symm) $$ [R1 R3]
  · isplitl [R1]; · iexact R1
    iexact R3
  ihave Hsg := (sgT_of (F := F) (c := c)) $$ [Hbb Hln Hrr]
  · isplitl [Hbb]; · iexact Hbb
    isplitl [Hln]; · iexact Hln
    iexact Hrr
  isplitl [HI Hlev]
  · unfold Ctx; isplitl [HI]; · iexact HI
    iexact Hlev
  isplitl [Hsg]; · iexact Hsg
  isplitl [HO]; · iexact HO
  isplitl [HL]; · iexact HL
  isplitl [Hcb]; · iexact Hcb
  isplitl [Hbp]; · iexact Hbp
  isplitl [Hs]; · iexact Hs
  isplitl [T0]; · iexact T0
  isplitl [Hrc]; · iexists fr; iexact Hrc
  isplitl [W10]; · iexact W10
  isplitr [S0 S1 S2 S3 HT]
  · unfold later
    isplitl [Hgc]; · iexists fg; iexact Hgc
    isplitl [T2]; · iexact T2
    isplitl [W11]; · iexact W11
    isplitl [W3]; · iexact W3
    isplitl [P0]; · iexact P0
    iexact P2
  isplitr [HT]; swap; · iexact HT
  unfold selfs
  isplitl [S0]; · iexact S0
  isplitl [S1]; · iexact S1
  isplitl [S2]; · iexact S2
  iexact S3

/-- What it gives back: every counter at zero. -/
theorem finish : iprop(Ctx sC gC K ∗ ended sC gC A c I iprop(selfs c ∗ T))
    ⊢ (|={Set.univ}=> iprop((semVal (barCell c) 0 ∗ bigSep Finset.univ fun x : XIx => semVal (xAt c x) 0)
      ∗ Stored A c I gC ∗ (sPt c Finset.univ (sC c) ∗ rPt c Finset.univ (rC sC c) ∗ gPt c Finset.univ fullShare gC) ∗ ow c 0 ∗ T) : sProp 𝕄) := by
  unfold ended Ctx selfs
  iintro ⟨⟨#HI, -⟩, HS, Hg, H2, H3, HO, ⟨Hr, Hs, H0, H1⟩, Hb, Hsf, HT⟩
  imod (close_bar (sC := sC) (gC := gC) (K := K) (c := c)) $$ [Hb] with Hb
  · isplitr; · iexact HI
    iexact Hb
  ihave Hl := (last_of (F := F) (c := c)) $$ [Hsf H0 H1 H2 H3]
  · isplitl [Hsf]; · iexact Hsf
    isplitl [H0]; · iexact H0
    isplitl [H1]; · iexact H1
    isplitl [H2]; · iexact H2
    iexact H3
  imod (close_all (sC := sC) (gC := gC) (K := K) (c := c)) $$ [Hl] with Hl
  · isplitr; · iexact HI
    iexact Hl
  imodintro
  isplitl [Hb Hl]
  · isplitl [Hb]; · iexact Hb
    iexact Hl
  isplitl [HS]; · iexact HS
  isplitr [HO HT]
  · isplitl [Hs]; · iexact Hs
    isplitl [Hr]; · iexact Hr
    iexact Hg
  isplitl [HO]; · iexact HO
  iexact HT

end Cert.KernelIdeal.Proto

end
-- ==== Proof.Region.lean ====
/-
  The kernel's call as one item of the program: what it is entered with, what it leaves.
-/
module

public import proofs.«01_k».proof.Proof.Gen.KernelIdeal.Launch
public import proofs.«01_k».proof.Proof.Gen.KernelIdeal.Points
public import proofs.«01_k».proof.Proof.Gen.KernelIdeal.Regions
public import Idealize.ShloMosaic.Lib.Pipeline.RegionTalk
public import Idealize.ShloMosaic.Lib.Pipeline.ValueKit
public import proofs.«01_k».proof.Proof.Ready

@[expose] public section

set_option maxRecDepth 16384

noncomputable section

namespace Cert.KernelIdeal.Proto

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ UU ℕ

open Idealize.ShloMosaic.Pipeline (Dat BodyObligation)

variable (m : (ℓ : Idealize.ShloMosaic.Loc nD τ sig) → Buf (Elt F) ℓ)

/-! ## The contents -/

/-- What the kernel is called with on device `c`. -/
def insM (c : Dev nD) : Ins F := ⟨V1 m c main_arg0, V1 m c main_arg1, V1 m c main_v15, V1 m c main_v16, V1 m c main_arg4⟩
/-- The partial results device `c` computes, the totals, the result. -/
def sV (c : Dev nD) : Buf8 F := sF (insM m c).x (insM m c).wq (insM m c).k (insM m c).v (insM m c).wo
def gV : Buf8 F := gF (sV m)
def outsM : Cert.KernelIdeal.Gen.Outs (F := F) := fun _ r c => (Function.update (V1 m c) main_v17 (oF (gV m)) : Valuation τ sig (Elt F)) r

theorem outsM_v17 (c : Dev nD) : outsM m 2 main_v17 c = oF (gV m) := by
  unfold outsM; exact Function.update_self ..

/-! ## The windows: each the whole array -/

theorem emb_whole (w : Fin 6) (h : ∀ a, (cfg0.win w).index t0_0 a = 0) (j : ((cfg0.win w).xblock (cfg0.grid.coords t0_0)).Idx) (a : Fin (cfg0.win w).shape.rank) :
    (((cfg0.win w).rect t0_0).emb j a).val = (j a).val := Pipeline.Window.rect_emb_val_of_index_zero _ _ _ (h a) j

section
theorem stg0 (X : (⟨S2x256x768, .bf16⟩ : BufTy).Contents (Elt F)) : ((cfg0.win 0).blk t0_0).view.read (Elt F) X = X :=
  funext fun j => congrArg X (funext fun a => Fin.ext (emb_whole 0 (by decide) j a))
theorem stg1 (X : (⟨S768x512, .bf16⟩ : BufTy).Contents (Elt F)) : ((cfg0.win 1).blk t0_0).view.read (Elt F) X = X :=
  funext fun j => congrArg X (funext fun a => Fin.ext (emb_whole 1 (by decide) j a))
theorem stg2 (X : (⟨S2x8x512x64, .bf16⟩ : BufTy).Contents (Elt F)) : ((cfg0.win 2).blk t0_0).view.read (Elt F) X = X :=
  funext fun j => congrArg X (funext fun a => Fin.ext (emb_whole 2 (by decide) j a))
theorem stg3 (X : (⟨S2x8x512x64, .bf16⟩ : BufTy).Contents (Elt F)) : ((cfg0.win 3).blk t0_0).view.read (Elt F) X = X :=
  funext fun j => congrArg X (funext fun a => Fin.ext (emb_whole 3 (by decide) j a))
theorem stg4 (X : (⟨S512x768, .bf16⟩ : BufTy).Contents (Elt F)) : ((cfg0.win 4).blk t0_0).view.read (Elt F) X = X :=
  funext fun j => congrArg X (funext fun a => Fin.ext (emb_whole 4 (by decide) j a))
end

/-! ## The proof data -/

def osem (x : XIx) : SemLoc sig := .dma (xsem x.1 x.2.1 x.2.2)

theorem ownFacts : Pipeline.OwnSemFacts spec0 osem := by decide

theorem ownSems_eq (c : Dev nD) : (Pipeline.ownSems0 osem c : sProp 𝕄) = bigSep Finset.univ fun x : XIx => semVal (xAt c x) 0 := rfl

/-- Carried from launch, opened at the call's entry. -/
def Tk (c : Dev nD) : sProp 𝕄 := iprop((∃ K, ghost (sV m) (gV m) K c) ∗ cred (tallyAt (barCell c) () 7) ∗ crds 1 c ∗ crds 3 c)
def Xk (c : Dev nD) : sProp 𝕄 := iprop(∃ K, set0 (sV m) (gV m) K c)
abbrev scr (c : Dev nD) : sProp (MT nD τ sig Unit (Elt F) ℕ UU ℕ) := Pipeline.scopedRest (Ix := Unit) (Name := ℕ) (U := UU) (Lvl := ℕ) (Val := Elt F) spec0 c

def atStart (c : Dev nD) : sProp 𝕄 := iprop(Xk m c ∗ scr c ∗ ∃ r, prngReg c r)
def atEnd (c : Dev nD) : sProp 𝕄 := iprop(semVal (barCell c) 0 ∗ Pipeline.ownSems0 osem c ∗ scr c ∗ ∃ r, prngReg c r)

def dat (c : Dev nD) : Dat τ (Elt F) Unit ℕ UU ℕ cfg0 c where
  A w := V1 m c (Pipeline.arrRef spec0 w)
  after w _ := match w with
    | ⟨0, _⟩ => (insM m c).x
    | ⟨1, _⟩ => (insM m c).wq
    | ⟨2, _⟩ => (insM m c).k
    | ⟨3, _⟩ => (insM m c).v
    | ⟨4, _⟩ => (insM m c).wo
    | ⟨5, _⟩ => oF (gV m)
  Φ t := if t.val = 0 then atStart m c else atEnd c
  q _ := fullShare
  owed t := if t.val = 0 then O₀ c else 0

section
variable (c : Dev nD)
theorem before0 (d) : (dat m c).before 0 t0_0 d = (insM m c).x := by
  unfold Dat.before; rw [if_pos (fetch0_0 t0_0)]; exact stg0 (V1 m c (Pipeline.arrRef spec0 0))
theorem before1 (d) : (dat m c).before 1 t0_0 d = (insM m c).wq := by
  unfold Dat.before; rw [if_pos (fetch0_1 t0_0)]; exact stg1 (V1 m c (Pipeline.arrRef spec0 1))
theorem before2 (d) : (dat m c).before 2 t0_0 d = (insM m c).k := by
  unfold Dat.before; rw [if_pos (fetch0_2 t0_0)]; exact stg2 (V1 m c (Pipeline.arrRef spec0 2))
theorem before3 (d) : (dat m c).before 3 t0_0 d = (insM m c).v := by
  unfold Dat.before; rw [if_pos (fetch0_3 t0_0)]; exact stg3 (V1 m c (Pipeline.arrRef spec0 3))
theorem before4 (d) : (dat m c).before 4 t0_0 d = (insM m c).wo := by
  unfold Dat.before; rw [if_pos (fetch0_4 t0_0)]; exact stg4 (V1 m c (Pipeline.arrRef spec0 4))
end

/-! ## The body, as the call runs it -/

abbrev A0 : Args where
  a0 := win0_0.stage (cfg0.slots t0_0 0)
  h0 := hstage0_0 0
  a1 := win0_1.stage (cfg0.slots t0_0 1)
  h1 := hstage0_1 0
  a2 := win0_2.stage (cfg0.slots t0_0 2)
  h2 := hstage0_2 0
  a3 := win0_3.stage (cfg0.slots t0_0 3)
  h3 := hstage0_3 0
  a4 := win0_4.stage (cfg0.slots t0_0 4)
  h4 := hstage0_4 0
  a5 := win0_5.stage (cfg0.slots t0_0 5)
  h5 := hstage0_5 0
  a6 := Memref.whole cc0_scratch0
  h6 := Memref.isWhole_whole _
  a7 := Memref.whole cc0_scratch1
  h7 := Memref.isWhole_whole _
  a11 := Memref.whole cc0_scratch5
  h11 := Memref.isWhole_whole _

theorem owed_first (c : Dev nD) : (dat m c).owed t0_0.castSucc = O₀ c := by
  show (if (t0_0.castSucc : Fin (cfg0.N + 1)).val = 0 then O₀ c else 0) = _; exact if_pos rfl
theorem owed_last (c : Dev nD) : (dat m c).owed t0_0.succ = 0 := by
  show (if (t0_0.succ : Fin (cfg0.N + 1)).val = 0 then O₀ c else 0) = _; exact if_neg (by decide)
theorem Φ_first (c : Dev nD) : (dat m c).Φ t0_0.castSucc = atStart m c := by
  show (if (t0_0.castSucc : Fin (cfg0.N + 1)).val = 0 then atStart m c else atEnd c) = _; exact if_pos rfl
theorem Φ_last (c : Dev nD) : (dat m c).Φ t0_0.succ = atEnd c := by
  show (if (t0_0.succ : Fin (cfg0.N + 1)).val = 0 then atStart m c else atEnd c) = _; exact if_neg (by decide)

theorem owesAt_intro (c : Dev nD) (t : Fin (cfg0.N + 1)) (O : CellTallies nD τ sig Unit) (h : (dat m c).owed t = O) :
    ow c O ⊢ ((dat m c).owesAt () t : sProp 𝕄) := by
  unfold ow Dat.owesAt Pipeline.owesWithin Dat.bound; rw [h]
  iintro ⟨%W, HO⟩; iexists W; isplitr; · ipureintro; exact fun _ _ => Or.inl trivial
  iexact HO
theorem owesAt_elim (c : Dev nD) (t : Fin (cfg0.N + 1)) (O : CellTallies nD τ sig Unit) (h : (dat m c).owed t = O) :
    ((dat m c).owesAt () t : sProp 𝕄) ⊢ ow c O := by
  unfold ow Dat.owesAt Pipeline.owesWithin; rw [h]
  iintro ⟨%W, -, HO⟩; iexists W; iexact HO

theorem own6 (c : Dev nD) (f : Vec F S512x512 .bf16) : (owns (c : Thread nD τ) A0.a6 fullShare f : sProp 𝕄) = iprop(((c : Thread nD τ).loc cc0_scratch0) ↦{fullShare} f) := owns_whole ..
theorem own7 (c : Dev nD) (f : Vec F S512x512 .bf16) : (owns (c : Thread nD τ) A0.a7 fullShare f : sProp 𝕄) = iprop(((c : Thread nD τ).loc cc0_scratch1) ↦{fullShare} f) := owns_whole ..
theorem own11 (c : Dev nD) (f : Vec F S512x768 .bf16) : (owns (c : Thread nD τ) A0.a11 fullShare f : sProp 𝕄) = iprop(((c : Thread nD τ).loc cc0_scratch5) ↦{fullShare} f) := owns_whole ..

attribute [local irreducible] Idealize.SL.Sem.wp

/-- What the body leaves of the windows' buffers. -/
def left (c : Dev nD) (I : Ins F) (g : Buf8 F) : sProp 𝕄 := iprop(owns (c : Thread nD τ) A0.a0 fullShare I.x ∗ owns (c : Thread nD τ) A0.a1 fullShare I.wq
  ∗ owns (c : Thread nD τ) A0.a2 fullShare I.k ∗ owns (c : Thread nD τ) A0.a3 fullShare I.v ∗ owns (c : Thread nD τ) A0.a4 fullShare I.wo
  ∗ owns (c : Thread nD τ) A0.a5 fullShare (oF g))

section
variable {sC : Dev nD → Buf8 F} {gC : Buf8 F} {c : Dev nD} {I : Ins F}

theorem closing {K : GSem nD τ sig → ℕ} : iprop(Ctx sC gC K ∗ ended sC gC A0 c I iprop(selfs c ∗ ∃ r, prngReg c r))
    ⊢ |={Set.univ}=> (iprop(atEnd c ∗ ow c 0 ∗ left c I gC) : sProp 𝕄) := by
  refine finish.trans (fupd_mono ?_)
  unfold atEnd left Stored Proto.Loc
  unfold scr
  rw [ownSems_eq, scopedRest0_eq]
  iintro ⟨⟨Hb, Hx⟩, ⟨%a, W0, W1, W2, W3, W4, W5, W6, W7, W11⟩, ⟨Hs, Hr, Hg⟩, HO, HT⟩
  isplitr [HO W0 W1 W2 W3 W4 W5]
  · isplitl [Hb]; · iexact Hb
    isplitl [Hx]; · iexact Hx
    isplitr [HT]
    · isplitl [W6]; · iexists (mk I (oF gC) a).q; iapply (Entails.of_eq (own6 c _)); iexact W6
      isplitl [W7]; · iexists (mk I (oF gC) a).a; iapply (Entails.of_eq (own7 c _)); iexact W7
      isplitl [Hs]; · iexists _; iexact Hs
      isplitl [Hr]; · iexists _; iexact Hr
      isplitl [Hg]; · iexists _; iexact Hg
      iexists (mk I (oF gC) a).w; iapply (Entails.of_eq (own11 c _)); iexact W11
    iexact HT
  isplitl [HO]; · iexact HO
  iframe

theorem once (hsC : sC c = sF I.x I.wq I.k I.v I.wo) (hgC : gC = gF sC) (out : Vec F S8x64x768 .f32) :
    iprop((iprop(∃ K, set0 sC gC K c) ∗ scr c ∗ ∃ r, prngReg c r) ∗ ow c (O₀ c)
      ∗ owns (c : Thread nD τ) A0.a0 fullShare I.x ∗ owns (c : Thread nD τ) A0.a1 fullShare I.wq
      ∗ owns (c : Thread nD τ) A0.a2 fullShare I.k ∗ owns (c : Thread nD τ) A0.a3 fullShare I.v ∗ owns (c : Thread nD τ) A0.a4 fullShare I.wo
      ∗ owns (c : Thread nD τ) A0.a5 fullShare out)
    ⊢ WP c (app A0 (cc0__fused_body (F := F))) fun _ => iprop(atEnd c ∗ ow c 0 ∗ left c I gC) := by
  unfold scr
  rw [scopedRest0_eq]
  iintro ⟨⟨⟨%K, HX⟩, ⟨⟨%q, W6⟩, ⟨%a, W7⟩, ⟨%fs, Hs⟩, ⟨%fr, Hr⟩, ⟨%fg, Hg⟩, ⟨%w, W11⟩⟩, HT⟩, HO, W0, W1, W2, W3, W4, W5⟩
  iapply ((ready (sC := sC) (gC := gC) (K := K) (c := c) (A := A0) (I := I) (T := iprop(∃ r, prngReg c r)) (out := out) (q := q) (a := a) (w := w)
    (fs := fs) (fr := fr) (fg := fg)).trans ((the_body (Q := fun _ => iprop(|={Set.univ}=> (atEnd c ∗ ow c 0 ∗ left c I gC))) hsC hgC closing).trans (wp_fupd _ _ _ _ _))) $$ [HX W0 W1 W2 W3 W4 W5 W6 W7 W11 Hs Hr Hg HO HT]
  isplitl [HX]; · iexact HX
  isplitl [Hs Hr Hg]
  · isplitl [Hs]; · iexact Hs
    isplitl [Hr]; · iexact Hr
    iexact Hg
  isplitr [HO HT]
  · unfold Proto.Loc
    isplitl [W0]; · iexact W0
    isplitl [W1]; · iexact W1
    isplitl [W2]; · iexact W2
    isplitl [W3]; · iexact W3
    isplitl [W4]; · iexact W4
    isplitl [W5]; · iexact W5
    isplitl [W6]; · iapply (Entails.of_eq (own6 c q).symm); iexact W6
    isplitl [W7]; · iapply (Entails.of_eq (own7 c a).symm); iexact W7
    iapply (Entails.of_eq (own11 c w).symm); iexact W11
  isplitl [HO]; · iexact HO
  iexact HT
end

theorem body_ok (c : Dev nD) : BodyObligation (dat m c) (defs₀ (F := F)) 𝒱₀ () Set.univ := fun t => by
  obtain rfl := fin_N0 t
  rw [bigSep_W0, bigSep_W0, Φ_first, Φ_last]
  unfold atStart Xk
  show (_ : sProp 𝕄) ⊢ WP c (app A0 (cc0__fused_body (F := F))) _
  have ends : iprop(atEnd c ∗ ow c 0 ∗ left c (insM m c) (gV m)) ⊢ (iprop(atEnd c ∗ (dat m c).owesAt () t0_0.succ ∗ left c (insM m c) (gV m)) : sProp 𝕄) :=
    sep_mono_right (sep_mono_left (owesAt_intro m c _ _ (owed_last m c)))
  iintro ⟨HΦ, HO, ⟨%d0, H0⟩, ⟨%d1, H1⟩, ⟨%d2, H2⟩, ⟨%d3, H3⟩, ⟨%d4, H4⟩, ⟨%d5, H5⟩⟩
  rw [before0, before1, before2, before3, before4]
  iapply ((once (sC := sV m) (gC := gV m) (c := c) (I := insM m c) rfl rfl _).trans (wp_mono _ _ _ fun _ => ends)) $$ [HΦ HO H0 H1 H2 H3 H4 H5]
  isplitl [HΦ]; · iexact HΦ
  isplitl [HO]; · iapply (owesAt_elim m c _ _ (owed_first m c)); iexact HO
  isplitl [H0]; · iexact H0
  isplitl [H1]; · iexact H1
  isplitl [H2]; · iexact H2
  isplitl [H3]; · iexact H3
  isplitl [H4]; · iexact H4
  iexact H5

/-! ## The call as an item -/

def pdats (p : Fin 1) (c : Dev nD) : Dat τ (Elt F) Unit ℕ UU ℕ (cfgs p) c := match p with | 0 => dat m c

theorem owes_above (c : Dev nD) (g : GSem nD τ sig) (u : Unit) (h : 0 < O₀ c g u) : u ∈ L g ∧ 0 < lv g u := by
  have key : ∀ (p : Dev nD) (sm : SemLoc sig), g = ((p : Thread nD τ), sm) → 0 < lv g () → u ∈ L g ∧ 0 < lv g u := fun p sm hg hl =>
    ⟨by rw [hg, L_tc]; exact Finset.mem_singleton_self _, hl⟩
  unfold O₀ at h
  simp only [Pi.add_apply, Finsupp.add_apply] at h
  by_cases h3 : 0 < owG 1 c 0 g u
  · obtain ⟨p, hg⟩ := owG_pos h3; exact key p _ hg (by rw [hg, lv_x]; decide)
  by_cases h2 : 0 < owG 0 c 0 g u
  · obtain ⟨p, hg⟩ := owG_pos h2; exact key p _ hg (by rw [hg, lv_x]; decide)
  by_cases h1 : 0 < owR c 0 g u
  · obtain ⟨q, p, hg⟩ := owR_pos h1; exact key p _ hg (by rw [hg, lv_x]; decide)
  have h0 : 0 < owB c 0 g u := by omega
  obtain ⟨p, hg⟩ := owB_pos h0; exact key p _ hg (by rw [hg, lv_bar]; decide)

theorem cut (c : Dev nD) (t : Fin (cfg0.N + 1)) (g : GSem nD τ sig) (i : Unit) (h : 0 < (dat m c).owed t g i) : i ∈ L g ∧ 0 < lv g i := by
  have h' : 0 < (if t.val = 0 then O₀ c else 0) g i := h
  by_cases ht : t.val = 0
  · rw [if_pos ht] at h'; exact owes_above c g i h'
  · rw [if_neg ht] at h'; exact absurd h' (Nat.lt_irrefl 0)

theorem opens (c : Dev nD) : iprop(Tk m c ∗ Pipeline.ownSems0 osem c ∗ levAts L lv) ⊢ (|={Set.univ}=> Xk m c : sProp 𝕄) := by
  unfold Tk Xk set0
  rw [ownSems_eq]
  iintro ⟨⟨⟨%K, HG⟩, HC⟩, HS, HL⟩
  imod (open_ghost (sC := sV m) (gC := gV m) (K := K) (c := c)) $$ [HG HS] with HG
  · isplitl [HG] <;> iassumption
  imodintro
  iexists K
  isplitl [HG]; · iexact HG
  isplitl [HL]; · iexact HL
  iexact HC

/-- The end's barrier counter. -/
def Yk (c : Dev nD) : sProp 𝕄 := semVal (barCell c) 0

theorem held_none (c : Dev nD) (W : Valuation τ sig (Elt F)) : (StableHlo.held (c : Thread nD τ) ∅ W : sProp 𝕄) = BI.emp := by
  unfold StableHlo.held; exact BI.bigSep_empty

theorem enters (c : Dev nD) : iprop(scr c ∗ (∃ r, prngReg c r) ∗ StableHlo.held (c : Thread nD τ) ∅ (V1 m c) ∗ Xk m c) ⊢ (atStart m c : sProp 𝕄) := by
  unfold atStart
  iintro ⟨H0, H1, -, H3⟩
  iframe

theorem leaves (c : Dev nD) (W : Valuation τ sig (Elt F)) : atEnd c
    ⊢ (iprop(scr c ∗ (∃ r, prngReg c r) ∗ StableHlo.held (c : Thread nD τ) ∅ W ∗ Pipeline.ownSems0 osem c ∗ Yk c) : sProp 𝕄) := by
  unfold atEnd Yk
  rw [held_none]
  iintro ⟨H0, H1, H2, H3⟩
  isplitl [H2]; · iexact H2
  isplitl [H3]; · iexact H3
  isplitr; · iempintro
  isplitl [H1]; · iexact H1
  iexact H0

def kitP : Pipeline.PLaunchFacts (nD := nD) (τ := τ) (pcfgs (F := F)) 0 where
  cellOf_inj a := by rw [Subsingleton.elim a adm]; exact cellOf_inj
  win := winFacts0
  pre := Pipeline.PreFacts.none _
  block_pos := block_pos0
  arr_whole := arr_whole0
  stage_whole := stage_whole0

/-- The arrays the windows name. -/
abbrev arrs : Finset (DevRef τ sig) := Pipeline.arrRefs (τ := τ) spec0
abbrev rest : Finset (DevRef τ sig) := Pipeline.ucRefs τ sig \ arrs

theorem arr_v17 : (Proc.devRef .tc main_v17 : DevRef τ sig) ∈ arrs := by decide

theorem V2_ne (c : Dev nD) (b : DevRef τ sig) (h : b ≠ Proc.devRef .tc main_v17) : V2 m (outsM m) c b = V1 m c b := Function.update_of_ne h ..

theorem arr_in (c : Dev nD) (w : Fin 6) (hw : (cfg0.win w).isOut = false) (n : ℕ) (hne : (Proc.devRef .tc (Pipeline.arrRef spec0 w) : DevRef τ sig) ≠ Proc.devRef .tc main_v17) :
    (dat m c).arrAt w n = V2 m (outsM m) c (Proc.devRef .tc (Pipeline.arrRef spec0 w)) :=
  ((dat m c).arrAt_in w hw n).trans (V2_ne m c _ hne).symm

theorem arr_out (c : Dev nD) : (dat m c).arrAt 5 cfg0.N = V2 m (outsM m) c (Proc.devRef .tc (Pipeline.arrRef spec0 5)) := by
  have h : (dat m c).arrAt 5 cfg0.N = oF (gV m) :=
    (dat m c).arrAt_eq_of_after_last 5 t0_0 (by decide +kernel) (oF (gV m)) (fun j => rfl)
  rw [h]
  exact ((Function.update_self (Proc.devRef .tc main_v17) (outsM m 2 main_v17 c) (V1 m c)).trans (outsM_v17 m c)).symm

theorem arr_end (c : Dev nD) (w : Fin 6) : (dat m c).arrAt w cfg0.N = V2 m (outsM m) c (Proc.devRef .tc (Pipeline.arrRef spec0 w)) := by
  by_cases hw : w = 5
  · subst hw; exact arr_out m c
  · exact arr_in m c w ((by decide : ∀ w : Fin 6, w ≠ 5 → (cfg0.win w).isOut = false) w hw) _
      ((by decide : ∀ w : Fin 6, w ≠ 5 → (Proc.devRef .tc (Pipeline.arrRef spec0 w) : DevRef τ sig) ≠ Proc.devRef .tc main_v17) w hw)

theorem rest_end (c : Dev nD) (b : DevRef τ sig) (hb : b ∈ rest \ ∅) : V2 m (outsM m) c b = V1 m c b :=
  V2_ne m c b fun h => (Finset.mem_sdiff.mp (Finset.mem_sdiff.mp hb).1).2 (h ▸ arr_v17)

theorem stage_low (c : Dev nD) (w : Fin 6) (s : Fin (cfg0.win w).nbuf) : lv ((c : Thread nD τ), .dma ((cfg0.win w).sem s)) () ≤ 0 := by
  have h := (by decide : ∀ (w : Fin 6) (s : Fin (cfg0.win w).nbuf), ¬6 ≤ ((cfg0.win w).sem s).val) w s
  show (if 6 ≤ ((cfg0.win w).sem s).val then _ else 0) ≤ 0
  rw [if_neg h]

theorem shares (c : Dev nD) (w : Fin 6) : (dat m c).share w = fullShare := by
  unfold Dat.share
  cases (cfg0.win w).isOut <;> rfl

set_option backward.isDefEq.respectTransparency.types false in
/-- The kernel's call. -/
def reg0 : Pipeline.RegionSeg (pcfgs (F := F)) adm (pdats m) () defs₀ 𝒱₀ L lv 0 :=
  Pipeline.RegionSeg.ofTalk (pcfgs (F := F)) adm (pdats m) () defs₀ 𝒱₀ L lv 0 osem ownFacts ∅ rest (Finset.empty_subset _) kitP rfl
    (fun c => (body_ok m c).loose) (fun _ => 0) O₀ (fun c => (zero_add _).symm) (fun _ => rfl) (fun _ => rfl) (fun c w => shares m c w)
    (V1 m) (V2 m (outsM m)) (rest_end m) (Tk m) Yk (Xk m) Yk (opens m) (enters m) (fun c => leaves c _)
    (fun c => by iintro H; imodintro; iexact H) (fun _ => 0)
    ⟨fun c w s => by rw [L_tc]; exact Finset.mem_singleton_self _, stage_low, fun c t g i h => cut m c t g i h⟩
    (fun _ => iprop(emp)) (fun c w => rfl) (arr_end m)

end Cert.KernelIdeal.Proto

end
-- ==== Proof.Fund.lean ====
/-
  What the launch deals: every cell's invariant, the positions, and the token of each payment with its payer.
-/
module

public import proofs.«01_k».proof.Proof.Region

@[expose] public section

set_option maxRecDepth 16384

noncomputable section

namespace Cert.KernelIdeal.Proto

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ UU ℕ

variable {sC : Dev nD → Buf8 F} {gC : Buf8 F}

/-! ## The cells and the tokens -/

def barEmb : Dev nD ↪ GSem nD τ sig := ⟨barCell, fun _ _ e => dev_eq e⟩
def devEmb : Dev nD × XIx ↪ GSem nD τ sig := ⟨fun p => xAt p.1 p.2, fun a b e => by
  obtain ⟨h1, h2, h3, h4⟩ := xCell_inj e
  exact Prod.ext h4 (Prod.ext h1 (Prod.ext h2 h3))⟩

theorem payAt_inj {c c' : Dev nD} {x x' : XIx} (e : payAt c x = payAt c' x') : c = c' ∧ x = x' := by
  obtain ⟨k, t, h⟩ := x
  obtain ⟨k', t', h'⟩ := x'
  by_cases hk : k = 1 ∨ k = 3 <;> by_cases hk' : k' = 1 ∨ k' = 3
  · rw [pay_oth hk, pay_oth hk'] at e
    obtain ⟨h1, h2, h3, h4⟩ := xCell_inj e; subst h1 h2 h3 h4; exact ⟨rfl, rfl⟩
  · rw [pay_oth hk, pay_own hk'] at e
    exact absurd ((xCell_inj e).1 ▸ hk) hk'
  · rw [pay_own hk, pay_oth hk'] at e
    exact absurd ((xCell_inj e).1 ▸ hk') hk
  · rw [pay_own hk, pay_own hk'] at e
    obtain ⟨h1, h2, h3, h4⟩ := xCell_inj e; subst h1 h2 h3 h4; exact ⟨rfl, rfl⟩

theorem payAt_ne_bar {c p : Dev nD} {x : XIx} : barCell p ≠ payAt c x := fun e => by
  obtain ⟨k, t, h⟩ := x
  by_cases hk : k = 1 ∨ k = 3
  · rw [pay_oth hk] at e; exact bar_ne_x e
  · rw [pay_own hk] at e; exact bar_ne_x e

/-- The payments device `c` makes: a signal to each device, and its copies' two ends. -/
def tokAt (p : Dev nD × (Dev nD ⊕ XIx)) : GSem nD τ sig × ℕ × Dev nD := match p.2 with
  | .inl q => (barCell q, 0, p.1)
  | .inr x => (payAt p.1 x, 0, 0)

def tokEmb : Dev nD × (Dev nD ⊕ XIx) ↪ GSem nD τ sig × ℕ × Dev nD := ⟨tokAt, fun a b e => by
  obtain ⟨c, a⟩ := a
  obtain ⟨c', b⟩ := b
  rcases a with q | x <;> rcases b with q' | x'
  · have h1 := dev_eq (congrArg Prod.fst e)
    have h2 : c = c' := congrArg (fun t => t.2.2) e
    subst h1 h2; rfl
  · exact absurd (congrArg Prod.fst e) payAt_ne_bar
  · exact absurd (congrArg Prod.fst e).symm payAt_ne_bar
  · obtain ⟨h1, h2⟩ := payAt_inj (congrArg Prod.fst e)
    subst h1 h2; rfl⟩

abbrev live : Finset (GSem nD τ sig) := Finset.univ.map barEmb
abbrev dormant : Finset (GSem nD τ sig) := Finset.univ.map devEmb
abbrev toks : Finset (GSem nD τ sig × ℕ × Dev nD) := Finset.univ.map tokEmb

theorem apart : Disjoint live dormant := by
  rw [Finset.disjoint_left]
  intro g h1 h2
  obtain ⟨c, -, rfl⟩ := Finset.mem_map.mp h1
  obtain ⟨p, -, h⟩ := Finset.mem_map.mp h2
  exact bar_ne_x h.symm

theorem cell_mem (p : Dev nD × CellIx) : cellAt p.1 p.2 ∈ live ∪ dormant := by
  obtain ⟨c, x⟩ := p
  rcases x with - | x
  · exact Finset.mem_union_left _ (Finset.mem_map_of_mem barEmb (Finset.mem_univ c))
  · exact Finset.mem_union_right _ (Finset.mem_map_of_mem devEmb (Finset.mem_univ (c, x)))

/-! ## What all devices may consult -/

def records (sC : Dev nD → Buf8 F) (gC : Buf8 F) (κ : GSem nD τ sig → ℕ) : sProp (MT nD τ sig Unit (Elt F) ℕ UU ℕ) :=
  iprop((bigSep (live ∪ dormant) fun g => cellInv ER (Rd sC gC) (κ g) g) ∗ bigSep live fun g => reached ER g 0)

instance records_persistent (κ : GSem nD τ sig → ℕ) : BI.Persistent (records sC gC κ) := by unfold records; infer_instance

theorem invs_of (κ : GSem nD τ sig → ℕ) : (bigSep (live ∪ dormant) fun g => (cellInv ER (Rd sC gC) (κ g) g : sProp 𝕄)) ⊢ invs sC gC κ := by
  unfold invs
  have h := BI.bigSep_with_persistent (S := (Finset.univ : Finset (Dev nD × CellIx))) (R := bigSep (live ∪ dormant) fun g => (cellInv ER (Rd sC gC) (κ g) g : sProp 𝕄))
    (Φ := fun _ => (BI.emp : sProp 𝕄)) (Ψ := fun p : Dev nD × CellIx => cellInv ER (Rd sC gC) (κ (cellAt p.1 p.2)) (cellAt p.1 p.2)) fun p _ => by
      have h : (bigSep (live ∪ dormant) fun g => (cellInv ER (Rd sC gC) (κ g) g : sProp 𝕄)) ⊢ cellInv ER (Rd sC gC) (κ (cellAt p.1 p.2)) (cellAt p.1 p.2) :=
        BI.bigSep_elim (Φ := fun g => (cellInv ER (Rd sC gC) (κ g) g : sProp 𝕄)) (cell_mem p)
      iintro ⟨H, -⟩
      iapply h; iexact H
  rw [BI.bigSep_emp_const] at h
  refine BI.Entails.trans ?_ h
  show (_ : sProp 𝕄) ⊢ _
  iintro H
  isplitl [H]; · iexact H
  iempintro

/-- What only device `c` has. -/
def linear (c : Dev nD) : sProp (MT nD τ sig Unit (Elt F) ℕ UU ℕ) :=
  iprop(atPos ER (barCell c) 0 ∅ 0 ∗ (bigSep Finset.univ fun x : XIx => openTok ER (xAt c x))
    ∗ (bigSep Finset.univ fun p : Dev nD => dutyTok ER (barCell p) 0 c) ∗ bigSep Finset.univ fun x : XIx => dutyTok ER (payAt c x) 0 0)

theorem ghost_of (κ : GSem nD τ sig → ℕ) (c : Dev nD) : iprop(records sC gC κ ∗ linear c) ⊢ (iprop(∃ K, ghost sC gC K c) : sProp 𝕄) := by
  unfold records linear ghost
  iintro ⟨⟨HI, HR⟩, H0, H1, H2, H3⟩
  iexists κ
  isplitl [HI]; · iapply (invs_of κ); iexact HI
  isplitl [H0]; · iexact H0
  isplitl [H1]; · iexact H1
  isplitl [HR]; · iapply (Entails.of_eq (BI.bigSep_map (s := Finset.univ) barEmb (Φ := fun g : GSem nD τ sig => (reached ER g 0 : sProp 𝕄)))); iexact HR
  isplitl [H2]; · iexact H2
  iexact H3

/-! ## Dealing -/

theorem both {A B : Dev nD → sProp (MT nD τ sig Unit (Elt F) ℕ UU ℕ)} : iprop(bigSep Finset.univ A ∗ bigSep Finset.univ B) ⊢ bigSep Finset.univ fun c => iprop(A c ∗ B c) :=
  Entails.of_eq (BI.bigSep_sep _ _ _).symm
theorem apart_of {A B : Dev nD → sProp (MT nD τ sig Unit (Elt F) ℕ UU ℕ)} : (bigSep Finset.univ fun c => iprop(A c ∗ B c)) ⊢ iprop(bigSep Finset.univ A ∗ bigSep Finset.univ B) :=
  Entails.of_eq (BI.bigSep_sep _ _ _)

theorem at_all : bigSep live (fun g => (atPos ER g 0 ∅ 0 : sProp 𝕄)) ⊢ bigSep Finset.univ fun c : Dev nD => atPos ER (barCell c) 0 ∅ 0 :=
  Entails.of_eq (BI.bigSep_map (s := Finset.univ) barEmb (Φ := fun g : GSem nD τ sig => (atPos ER g 0 ∅ 0 : sProp 𝕄)))

theorem vals_all : bigSep Finset.univ (fun c : Dev nD => (semVal (barCell c) 0 : sProp 𝕄)) ⊢ bigSep live fun g => semVal g 0 :=
  Entails.of_eq (BI.bigSep_map (s := Finset.univ) barEmb (Φ := fun g : GSem nD τ sig => (semVal g 0 : sProp 𝕄))).symm

theorem opens_all : bigSep dormant (fun g => (openTok ER g : sProp 𝕄)) ⊢ bigSep Finset.univ fun c : Dev nD => bigSep Finset.univ fun x : XIx => openTok ER (xAt c x) :=
  Entails.of_eq (by rw [BI.bigSep_map, BI.bigSep_univ_prod]; rfl)

theorem tok_all : bigSep toks (fun x => (dutyTok ER x.1 x.2.1 x.2.2 : sProp 𝕄)) ⊢ bigSep Finset.univ fun c : Dev nD =>
    iprop((bigSep Finset.univ fun p : Dev nD => dutyTok ER (barCell p) 0 c) ∗ bigSep Finset.univ fun x : XIx => dutyTok ER (payAt c x) 0 0) :=
  Entails.of_eq (by
    rw [BI.bigSep_map, BI.bigSep_univ_prod]
    exact BI.bigSep_congr fun c _ => by rw [BI.bigSep_univ_sum]; rfl)

theorem linear_all : iprop(bigSep live (fun g => atPos ER g 0 ∅ 0) ∗ bigSep dormant (fun g => openTok ER g) ∗ bigSep toks fun x => dutyTok ER x.1 x.2.1 x.2.2)
    ⊢ (bigSep Finset.univ linear : sProp 𝕄) := by
  iintro ⟨H0, H1, H2⟩
  unfold linear
  iapply (both (F := F)); isplitl [H0]; · iapply at_all $$ H0
  iapply (both (F := F)); isplitl [H1]; · iapply opens_all $$ H1
  iapply tok_all $$ H2

/-! ## At launch -/

/-- A resource, all of it device `c₀`'s. -/
def parked (c₀ : Dev nD) (X : sProp (MT nD τ sig Unit (Elt F) ℕ UU ℕ)) (c : Dev nD) : sProp (MT nD τ sig Unit (Elt F) ℕ UU ℕ) := if c = c₀ then X else iprop(emp)
theorem parked_all (c₀ : Dev nD) (X : sProp (MT nD τ sig Unit (Elt F) ℕ UU ℕ)) : bigSep Finset.univ (parked c₀ X) = X := by
  have h : ∀ t ∈ Finset.univ.erase c₀, parked c₀ X t = (BI.emp : sProp 𝕄) := fun t ht => if_neg (Finset.ne_of_mem_erase ht)
  have h₀ : parked c₀ X c₀ = X := if_pos rfl
  rw [BI.bigSep_univ_split c₀, BI.bigSep_congr h, BI.bigSep_emp_const, h₀]
  exact BI.equiv_iff.mp sep_emp

def dealt : UX := launchOf live dormant toks
def G : Dev nD → sProp (MT nD τ sig Unit (Elt F) ℕ UU ℕ) := parked 0 (BI.own (ER dealt))

/-- With the barriers' counters, one step makes every device's own part. -/
theorem deal (B : Dev nD → sProp (MT nD τ sig Unit (Elt F) ℕ UU ℕ)) :
    iprop((bigSep Finset.univ fun c : Dev nD => iprop(semVal (barCell c) 0 ∗ G c)) ∗ bigSep Finset.univ B)
    ⊢ |={Set.univ}=> (bigSep Finset.univ fun c : Dev nD => iprop((∃ K, ghost sC gC K c) ∗ B c) : sProp 𝕄) := by
  iintro ⟨H, HB⟩
  ihave H' := (apart_of (F := F)) $$ H; icases H' with ⟨Hv, HG⟩
  ihave Hu := (show bigSep Finset.univ (G (F := F)) ⊢ BI.own (ER dealt) from Entails.of_eq (parked_all 0 (BI.own (ER dealt)))) $$ HG
  imod (Rounds.fund_launch ER (Rd sC gC) apart (fun g _ h => h) toks) $$ [Hv Hu] with ⟨%κ, -, Hinv, Hr, Hat, Hopen, Htok⟩
  · isplitl [Hv]
    · iapply vals_all $$ Hv
    · unfold dealt; iexact Hu
  imodintro
  iapply (BI.bigSep_with_persistent (R := records sC gC κ) (Φ := fun c => iprop(linear c ∗ B c)) fun c _ => by
    iintro ⟨HR, HL, HB⟩
    isplitl [HR HL]
    · iapply (ghost_of κ c); isplitl [HR] <;> iassumption
    iexact HB)
  isplitl [Hinv Hr]
  · unfold records; isplitl [Hinv] <;> iassumption
  iapply (both (F := F))
  isplitr [HB]
  · iapply linear_all
    isplitl [Hat]; · iexact Hat
    isplitl [Hopen] <;> iassumption
  iexact HB

end Cert.KernelIdeal.Proto

end
-- ==== Proof.Run.lean ====
/-
  The program's run: it ends on every device, the arguments unchanged, the result as named, every semaphore at zero.
-/
module

public import proofs.«01_k».proof.Proof.Fund

@[expose] public section

set_option maxRecDepth 16384

noncomputable section

namespace Cert.KernelIdeal.Proto

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ UU ℕ

open Idealize.ShloMosaic.Pipeline (Seg)

variable (m : (ℓ : Idealize.ShloMosaic.Loc nD τ sig) → Buf (Elt F) ℓ) (ρ : Dev nD → PrngReg)

/-- What a device holds beside its buffers, before the call and after it. -/
def E (j : Fin 2) (c : Dev nD) : sProp (MT nD τ sig Unit (Elt F) ℕ UU ℕ) :=
  if j = 0 then iprop(Tk m c ∗ (∃ r, prngReg c r) ∗ ∃ W, owes (c : Thread nD τ) (O₀ c) W)
  else iprop(Yk c ∗ ∃ W, owes (c : Thread nD τ) (0 : CellTallies nD τ sig Unit) W)

theorem E_zero (c : Dev nD) : E m 0 c = iprop(Tk m c ∗ (∃ r, prngReg c r) ∗ ∃ W, owes (c : Thread nD τ) (O₀ c) W) := if_pos rfl
theorem E_one (c : Dev nD) : E m 1 c = iprop(Yk c ∗ ∃ W, owes (c : Thread nD τ) (0 : CellTallies nD τ sig Unit) W) := if_neg (by decide)

theorem arrs_sub : arrs ⊆ Pipeline.ucRefs τ sig := Pipeline.arrRefs_sub_ucRefs spec0 (by decide)

theorem into (c : Dev nD) : iprop(StableHlo.held (c : Thread nD τ) (Pipeline.ucRefs τ sig) (V1 m c) ∗ E m 0 c) ⊢ ((reg0 m).pre c : sProp 𝕄) := by
  rw [E_zero, StableHlo.held_sub_split (c : Thread nD τ) arrs_sub (V1 m c)]
  show _ ⊢ iprop(StableHlo.held (c : Thread nD τ) arrs (V1 m c) ∗ (∃ r, prngReg c r) ∗ (StableHlo.held (c : Thread nD τ) rest (V1 m c) ∗ emp) ∗ Tk m c
    ∗ ∃ W, owes (c : Thread nD τ) (0 + O₀ c) W)
  rw [zero_add]
  iintro ⟨⟨Ha, Hr⟩, HT, Hp, HO⟩
  isplitl [Ha]; · iexact Ha
  isplitl [Hp]; · iexact Hp
  isplitl [Hr]
  · isplitl [Hr]; · iexact Hr
    iempintro
  isplitl [HT]; · iexact HT
  iexact HO

theorem outof (c : Dev nD) : ((reg0 m).post c : sProp 𝕄) ⊢ iprop(StableHlo.held (c : Thread nD τ) (Pipeline.ucRefs τ sig) (V2 m (outsM m) c) ∗ E m 1 c) := by
  rw [E_one, StableHlo.held_sub_split (c : Thread nD τ) arrs_sub (V2 m (outsM m) c)]
  show iprop(StableHlo.held (c : Thread nD τ) arrs (V2 m (outsM m) c) ∗ (∃ r, prngReg c r) ∗ (StableHlo.held (c : Thread nD τ) rest (V2 m (outsM m) c) ∗ emp) ∗ Yk c
    ∗ ∃ W, owes (c : Thread nD τ) (0 : CellTallies nD τ sig Unit) W) ⊢ _
  iintro ⟨Ha, -, ⟨Hr, -⟩, HT, HO⟩
  isplitl [Ha Hr]
  · isplitl [Ha] <;> iassumption
  isplitl [HT]; · iexact HT
  iexact HO

/-- The launch's element. -/
def u₀ : UU :=
  (initOf (Pipeline.cells (Pipeline.pin (pcfgs (F := F)) adm) cellOf_inj) (Pipeline.launchToks (Pipeline.pin (pcfgs (F := F)) adm) cellOf_inj), dealt)

theorem bar_only (c : Dev nD) : (unscopedSems0 c : sProp 𝕄) = semVal (barCell c) 0 := by
  unfold unscopedSems0
  rw [show (Finset.univ.filter fun sm : SemLoc sig => ¬sm.isScoped .tc = true) = {SemLoc.reg barS} from by decide, BI.bigSep_singleton]

/-- What the launch leaves beside the dealt. -/
def others0 (c : Dev nD) : sProp (MT nD τ sig Unit (Elt F) ℕ UU ℕ) :=
  iprop(StableHlo.held (c : Thread nD τ) (Pipeline.ucRefs τ sig) (V0 m c) ∗ (cred (tallyAt (barCell c) () 7) ∗ crds 1 c ∗ crds 3 c)
    ∗ (∃ r, prngReg c r) ∗ ∃ W, owes (c : Thread nD τ) (O₀ c) W)

abbrev T₀ (c : Dev nD) : sProp (MT nD τ sig Unit (Elt F) ℕ UU ℕ) := iprop(StableHlo.held (c : Thread nD τ) (Pipeline.ucRefs τ sig) (V0 m c) ∗ E m 0 c)
abbrev Tₙ (c : Dev nD) : sProp (MT nD τ sig Unit (Elt F) ℕ UU ℕ) := iprop(StableHlo.held (c : Thread nD τ) (Pipeline.ucRefs τ sig) (V3 m (outsM m) c) ∗ Yk c)

theorem core (c : Dev nD) : iprop(unscopedBufs c (fun b => m ((c : Thread nD τ).loc b)) ∗ unscopedSems0 c
      ∗ owes (c : Thread nD τ) (O₀ c) ∅ ∗ Pipeline.launchCred O₀ c ∗ prngReg c (ρ c) ∗ G c)
    ⊢ (iprop((semVal (barCell c) 0 ∗ G c) ∗ others0 m c) : sProp 𝕄) := by
  rw [show unscopedBufs c (fun b => m ((c : Thread nD τ).loc b)) = (StableHlo.held (c : Thread nD τ) (Pipeline.ucRefs τ sig) (V0 m c) : sProp 𝕄) from
    Pipeline.unscopedBufs_held (Ix := Unit) (Name := ℕ) (U := UU) (Lvl := ℕ) c (V0 m c), bar_only]
  unfold others0
  iintro ⟨Hh, Hs, HO, HC, Hp, HG⟩
  isplitl [Hs HG]; · isplitl [Hs] <;> iassumption
  isplitl [Hh]; · iexact Hh
  isplitl [HC]; · iapply creds; iexact HC
  isplitl [Hp]; · iexists _; iexact Hp
  iexists _; iexact HO

theorem start_of (c : Dev nD) : iprop((∃ K, ghost (sV m) (gV m) K c) ∗ others0 m c) ⊢ (T₀ m c : sProp 𝕄) := by
  unfold T₀ others0
  rw [E_zero]
  unfold Tk
  iintro ⟨HG, Hh, HC, Hp, HO⟩
  isplitl [Hh]; · iexact Hh
  isplitl [HG HC]
  · isplitl [HG]; · iexact HG
    iexact HC
  isplitl [Hp]; · iexact Hp
  iexact HO

theorem init : iprop((bigSep Finset.univ fun c : Dev nD => iprop(unscopedBufs c (fun b => m ((c : Thread nD τ).loc b)) ∗ unscopedSems0 c
      ∗ owes (c : Thread nD τ) (O₀ c) ∅ ∗ Pipeline.launchCred O₀ c ∗ prngReg c (ρ c) ∗ G c)) ∗ levAts L lv)
    ⊢ (|={Set.univ}=> bigSep Finset.univ (T₀ m) : sProp 𝕄) := by
  have h : (bigSep Finset.univ fun c : Dev nD => iprop(unscopedBufs c (fun b => m ((c : Thread nD τ).loc b)) ∗ unscopedSems0 c
      ∗ owes (c : Thread nD τ) (O₀ c) ∅ ∗ Pipeline.launchCred O₀ c ∗ prngReg c (ρ c) ∗ G c)) ⊢ (|={Set.univ}=> bigSep Finset.univ (T₀ m) : sProp 𝕄) :=
    (BI.bigSep_mono (s := Finset.univ) fun c _ => core m ρ c).trans (apart_of.trans ((deal (sC := sV m) (gC := gV m) (others0 m)).trans
    (fupd_mono (BI.bigSep_mono (s := Finset.univ) fun c _ => start_of m c))))
  iintro ⟨H, -⟩
  iapply h; iexact H

theorem only_bar : ∀ sm : SemLoc sig, sm.isScoped .tc = false → sm = .reg barS := by decide

/-- What is read of device `c` at the end. -/
def Ends (c : Dev nD) (s : MemSt nD τ sig (Elt F)) : Prop :=
  (∀ r : Ref sig .tc, r.isScoped = false → s.mem ((c : Thread nD τ).loc r) = V3 m (outsM m) c r) ∧ s.sem (barCell c) = 0

theorem reads (c : Dev nD) (s' : Phys nD τ sig (Elt F)) : iprop(Tₙ m c ∗ SI s') ⊢ |={Set.univ}=> (iprop(⌜Ends m c s'.mem⌝ ∗ SI s') : sProp 𝕄) := by
  unfold Tₙ Yk StableHlo.held
  iintro ⟨⟨Hh, Hb⟩, HSI⟩
  icombine HSI Hb gives %hb
  ihave Hr := (pointsTo_read_all (Pipeline.ucRefs τ sig) (fun b => ((c : Thread nD τ).1, b)) (V3 m (outsM m) c) s') $$ [Hh HSI]
  · isplitl [Hh] <;> iassumption
  icases Hr with ⟨%h, HSI⟩
  imodintro
  isplitr
  · ipureintro
    exact ⟨fun r hr => h (Proc.devRef .tc r) (Finset.mem_filter.mpr ⟨StableHlo.devRef_mem_tcRefs r, by simpa using hr⟩), by simpa using hb⟩
  iexact HSI

set_option backward.isDefEq.respectTransparency.types false in
/-- The run. -/
theorem run_main : θ_run defs (onTc (τ := τ) (main (F := F))) ⟨m, fun _ => 0, ρ⟩
    (fun r => (∀ c : Dev nD, ∀ b : Ref sig .tc, b.isScoped = false → r.2.mem ((c : Thread nD τ).loc b) = V3 m (outsM m) c b) ∧ r.2.sem = fun _ => 0) :=
  Pipeline.θ_run_regions_kit_dev_sems (pcfgs (F := F)) adm (pdats m) () cellOf_inj EP defs₀ 𝒱₀ L lv m ρ main
    (segs m (outsM m) 𝒱₀ L lv (E m) () (pdats m) (reg0 m))
    (fun c Q => by
      rewrite [main_chain c, Seg.run_eq_chain,
        show (segs m (outsM m) 𝒱₀ L lv (E m) () (pdats m) (reg0 m) c).map Seg.prog = [
          StableHlo.seq (hostOps0 c),
          Prog.lift (.customCall (Pipeline.entry 0) ()),
          StableHlo.seq hostOps1 ] from rfl]
      dsimp (config := { failIfUnchanged := false }) only
      exact .rfl)
    (fun c => by simp only [segs, Seg.pipes_host, Seg.pipes_region, Seg.pipes_nil]; decide)
    O₀ L_of_ne G u₀
    (by
      unfold u₀ G
      iintro Hu
      ihave H := (ownU_pair _ _) $$ Hu
      icases H with ⟨HP, HX⟩
      imodintro
      isplitl [HP]; · iexact HP
      rw [parked_all]; iexact HX)
    (T₀ m) (Tₙ m)
    (fun c => ⟨.rfl, into m c, outof m c, by
      show iprop(StableHlo.held (c : Thread nD τ) (Pipeline.ucRefs τ sig) (V3 m (outsM m) c) ∗ E m 1 c) ⊢ _
      rw [E_one]
      iintro ⟨Hh, Hb, HO⟩
      isplitr [HO]
      · isplitl [Hh] <;> iassumption
      · iexact HO⟩)
    (init m ρ) (Ends m) (reads m)
    (fun s h hs => ⟨fun c => (h c).1, sem_eq_zero hs fun c sm hsm => by
      obtain rfl := only_bar sm hsm
      exact (h c).2⟩)

end Cert.KernelIdeal.Proto

end
-- ==== Proof.Frames.lean ====
/-
  The kernel's frame: its run with the result forgotten.
-/
module

public import proofs.«01_k».proof.Proof.Run

@[expose] public section

set_option maxRecDepth 16384

noncomputable section

namespace Cert.KernelIdeal.Proto

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ UU ℕ

variable (m : (ℓ : Idealize.ShloMosaic.Loc nD τ sig) → Buf (Elt F) ℓ) (ρ : Dev nD → PrngReg)

/-- The arguments end as they began. -/
def ArgsKept (c : Dev nD) (s : MemSt nD τ sig (Elt F)) : Prop :=
  s.mem ((c : Thread nD τ).loc main_arg0) = m ((c : Thread nD τ).loc main_arg0) ∧ s.mem ((c : Thread nD τ).loc main_arg1) = m ((c : Thread nD τ).loc main_arg1)
  ∧ s.mem ((c : Thread nD τ).loc main_arg2) = m ((c : Thread nD τ).loc main_arg2) ∧ s.mem ((c : Thread nD τ).loc main_arg3) = m ((c : Thread nD τ).loc main_arg3)
  ∧ s.mem ((c : Thread nD τ).loc main_arg4) = m ((c : Thread nD τ).loc main_arg4)

theorem args_kept {c : Dev nD} {s : MemSt nD τ sig (Elt F)}
    (h : ∀ b : Ref sig .tc, b.isScoped = false → s.mem ((c : Thread nD τ).loc b) = V3 m (outsM m) c b) : ArgsKept m c s :=
  ⟨(h main_arg0 rfl).trans (V3_main_arg0 m _ c), (h main_arg1 rfl).trans (V3_main_arg1 m _ c), (h main_arg2 rfl).trans (V3_main_arg2 m _ c),
    (h main_arg3 rfl).trans (V3_main_arg3 m _ c), (h main_arg4 rfl).trans (V3_main_arg4 m _ c)⟩

theorem run_frame : θ_run defs (onTc (τ := τ) (main (F := F))) ⟨m, fun _ => 0, ρ⟩ (fun r => (∀ c : Dev nD, ArgsKept m c r.2) ∧ r.2.sem = fun _ => 0) :=
  (θ_run defs _ _).mono (fun _ h => ⟨fun c => args_kept m (h.1 c), h.2⟩) (run_main m ρ)

end Cert.KernelIdeal.Proto

end
-- ==== Proof.Same.lean ====
module
public import proofs.«01_k».proof.Defs
public import proofs.«01_k».proof.Proof.Gen.Kernel
public import proofs.«01_k».proof.Proof.Gen.KernelIdeal

/-! The two prints of the kernel are one program: no operation was rewritten between them, so their
bodies and their launches agree word for word, and a run of the one is a run of the other. -/

@[expose] public section

set_option backward.isDefEq.respectTransparency.types false

noncomputable section

namespace Cert.Proof

open Idealize.ShloMosaic Idealize.SL.Sem

instance : Cert.Kernel.Facts := Cert.Kernel.Gen.facts

variable {F : FTy → Type} [FloatOps F]

/-- The kernel's body is the same in both prints. -/
theorem kernels_same : Cert.Kernel.defs₀ (F := F) = Cert.KernelIdeal.defs₀ (F := F) := by
  unfold Cert.Kernel.defs₀ Cert.KernelIdeal.defs₀
  congr 1
  funext l
  match l with
  | 0 => rfl

/-- So is the whole table, the kernel's body under its pipeline. -/
theorem defs_same : Cert.Kernel.defs (F := F) = Cert.KernelIdeal.defs (F := F) :=
  congrArg (Pipeline.defs Cert.KernelIdeal.pcfgs) kernels_same

/-- And the program each device runs. -/
theorem main_same : Cert.Kernel.main (F := F) = Cert.KernelIdeal.main (F := F) := rfl

/-- What holds of every run of the one print holds of every run of the other. -/
theorem run_same {s : MemSt Cert.KernelIdeal.nD Cert.KernelIdeal.τ Cert.KernelIdeal.sig (Elt F)}
    {Q : _ → Prop} (h : θ_run Cert.KernelIdeal.defs (onTc (Cert.KernelIdeal.main (F := F))) s Q) :
    θ_run Cert.Kernel.defs (onTc (Cert.Kernel.main (F := F))) s Q := by
  rw [defs_same]
  exact h

end Cert.Proof

end
-- ==== Proof.Softmax.lean ====
/-
  Softmax over extended reals: shifting every score by the largest one changes nothing as long as the scores are
  finite. The values that are averaged may be infinite.
-/
module

public import Idealize.ShloMosaic.Lib.Pointwise

@[expose] public section

noncomputable section

namespace Cert.Math

open Idealize.ShloMosaic

/-- The average of `v` with the exponentials of `s` as weights. -/
def soft {n : ℕ} (s v : Fin n → EReal) : EReal :=
  Ideal.div (∑ j, Ideal.exp (s j) * v j) (∑ j, Ideal.exp (s j))

/-- The largest score, from minus infinity on. -/
def top {n : ℕ} (s : Fin n → EReal) : EReal := Finset.univ.fold max ⊥ s

/-- A finite extended real. -/
def IsReal (x : EReal) : Prop := ∃ r : ℝ, x = (r : EReal)

theorem IsReal.mul {x y : EReal} : IsReal x → IsReal y → IsReal (x * y)
  | ⟨a, ha⟩, ⟨b, hb⟩ => ⟨a * b, by rw [ha, hb, EReal.coe_mul]⟩

theorem IsReal.sum {ι : Type} (S : Finset ι) {f : ι → EReal} (h : ∀ i ∈ S, IsReal (f i)) : IsReal (∑ i ∈ S, f i) := by
  classical
  induction S using Finset.induction_on with
  | empty => exact ⟨0, by simp⟩
  | insert a S ha ih =>
    obtain ⟨x, hx⟩ := h a (Finset.mem_insert_self _ _)
    obtain ⟨y, hy⟩ := ih fun i hi => h i (Finset.mem_insert_of_mem hi)
    exact ⟨x + y, by rw [Finset.sum_insert ha, hx, hy, EReal.coe_add]⟩

/-- The largest of finitely many finite scores, at least one, is finite. -/
theorem IsReal.top {n : ℕ} {s : Fin (n + 1) → EReal} (h : ∀ j, IsReal (s j)) : IsReal (top s) := by
  have hle : ∀ j, s j ≤ Cert.Math.top s := fun j =>
    (Finset.fold_max_le (b := ⊥) (f := s) (s := Finset.univ) (Cert.Math.top s)).1 le_rfl |>.2 j (Finset.mem_univ j)
  have hlt : Cert.Math.top s < ⊤ :=
    (Finset.fold_max_lt (b := ⊥) (f := s) (s := Finset.univ) ⊤).2 ⟨bot_lt_top, fun j _ => by
      obtain ⟨r, hr⟩ := h j; rw [hr]; exact EReal.coe_lt_top r⟩
  have hbot : Cert.Math.top s ≠ ⊥ := fun e => by
    obtain ⟨r, hr⟩ := h 0
    have := hle 0
    rw [e, hr] at this
    exact absurd (le_bot_iff.1 this) (EReal.coe_ne_bot r)
  exact ⟨_, (EReal.coe_toReal hlt.ne hbot).symm⟩

/-- A positive finite factor goes through a sum. -/
theorem mul_sum_coe {ι : Type} (S : Finset ι) {c : ℝ} (hc : 0 ≤ c) (f : ι → EReal) : (c : EReal) * ∑ i ∈ S, f i = ∑ i ∈ S, (c : EReal) * f i := by
  classical
  induction S using Finset.induction_on with
  | empty => simp
  | insert a S ha ih =>
    rw [Finset.sum_insert ha, Finset.sum_insert ha,
      EReal.left_distrib_of_nonneg_of_ne_top (EReal.coe_nonneg.2 hc) (EReal.coe_ne_top c), ih]

theorem sum_coe {ι : Type} (S : Finset ι) (f : ι → ℝ) : ∑ i ∈ S, ((f i : ℝ) : EReal) = ((∑ i ∈ S, f i : ℝ) : EReal) := by
  classical
  induction S using Finset.induction_on with
  | empty => simp
  | insert a S ha ih => rw [Finset.sum_insert ha, Finset.sum_insert ha, ih, EReal.coe_add]

/-- A quotient with numerator and denominator multiplied by one positive factor. -/
theorem div_scale {c l : ℝ} (hc : 0 < c) (hl : 0 < l) (x : EReal) :
    Ideal.div ((c : EReal) * x) (((c * l : ℝ)) : EReal) = Ideal.div x (l : EReal) := by
  rw [Ideal.div_coe (mul_pos hc hl).ne', Ideal.div_coe hl.ne', mul_comm (c : EReal) x, mul_assoc, ← EReal.coe_mul]
  congr 2
  field_simp

/-- The shifted softmax is the plain one. -/
theorem soft_shift {n : ℕ} {s : Fin (n + 1) → EReal} (h : ∀ j, IsReal (s j)) {m : EReal} (hm : IsReal m) (v : Fin (n + 1) → EReal) :
    Ideal.div (∑ j, v j * Ideal.exp (s j - m)) (∑ j, Ideal.exp (s j - m)) = soft s v := by
  choose r hr using h
  obtain ⟨m, rfl⟩ := hm
  obtain rfl : s = fun j => ((r j : ℝ) : EReal) := funext hr
  have e1 : ∀ j, Ideal.exp (((r j : ℝ) : EReal) - (m : EReal)) = ((Real.exp (-m) : ℝ) : EReal) * ((Real.exp (r j) : ℝ) : EReal) := fun j => by
    rw [← EReal.coe_sub, ← EReal.coe_mul, ← Real.exp_add, add_comm, ← sub_eq_add_neg]; rfl
  have e2 : ∀ j, Ideal.exp ((r j : ℝ) : EReal) = ((Real.exp (r j) : ℝ) : EReal) := fun j => rfl
  have hl : 0 < ∑ j : Fin (n + 1), Real.exp (r j) := Finset.sum_pos (fun j _ => Real.exp_pos _) ⟨0, Finset.mem_univ _⟩
  unfold soft
  simp only [e1, e2]
  rw [← mul_sum_coe _ (Real.exp_pos _).le, sum_coe, ← EReal.coe_mul]
  rw [← div_scale (Real.exp_pos (-m)) hl, mul_sum_coe _ (Real.exp_pos _).le]
  congr 1
  refine Finset.sum_congr rfl fun j _ => ?_
  rw [mul_left_comm, mul_comm (v j)]

/-! ## The constants -/

/-- An eighth is finite. -/
theorem eighth_real : IsReal (Ideal.ofBits .f32 0x3E000000#32) := by
  refine ⟨1 / 8, ?_⟩
  simp [Ideal.ofBits, Ideal.ieee, -EReal.coe_mul]
  norm_num

theorem minus_inf : Ideal.ofBits .f32 0xFF800000#32 = ⊥ := by simp [Ideal.ofBits, Ideal.ieee]
theorem plus_inf : Ideal.ofBits .bf16 0x7F80#16 = ⊤ := by simp [Ideal.ofBits, Ideal.ieee]

/-- Large sums cut into equal pieces. -/
theorem sum_pieces {M : Type} [AddCommMonoid M] (a b : ℕ) (f : Fin (a * b) → M) :
    ∑ k, f k = ∑ p : Fin a, ∑ k : Fin b, f ⟨b * p.val + k.val, by
      have := p.isLt; have := k.isLt
      calc b * p.val + k.val < b * p.val + b := by omega
        _ = b * (p.val + 1) := by rw [Nat.mul_succ]
        _ ≤ b * a := Nat.mul_le_mul_left _ (by omega)
        _ = a * b := Nat.mul_comm _ _⟩ := by
  rw [← finProdFinEquiv.sum_comp, Fintype.sum_prod_type]
  refine Finset.sum_congr rfl fun p _ => Finset.sum_congr rfl fun k _ => congrArg f (Fin.ext ?_)
  show k.val + b * p.val = b * p.val + k.val
  omega

end Cert.Math

end
-- ==== Proof.Entries.lean ====
/-
  The kernel's blocks over the extended reals, entry by entry: the projected queries, one attention head, the product
  with the output projection, and the sum over the devices.
-/
module

public import proofs.«01_k».proof.Proof.Values
public import proofs.«01_k».proof.Proof.Softmax

@[expose] public section

set_option maxRecDepth 16384

noncomputable section

namespace Cert.KernelIdeal.Proto

open Idealize.ShloMosaic Idealize.ShloMosaic.TcCoe
open Cert.KernelIdeal Cert.KernelIdeal.Gen Cert.Math

/-- The factor on the scores, an eighth. -/
abbrev scale : EReal := Ideal.ofBits .f32 0x3E000000#32

/-- An entry of the queries: a row of `x` times a column of the block of the projection. -/
theorem q_entry (x : Vec Ideal S2x256x768 .bf16) (wq : Vec Ideal S768x512 .bf16) (b : Fin 2) (i : Fin 256) (n : Fin 512) :
    qF x wq (ix2 (⟨256 * b.val + i.val, by omega⟩ : Fin 512) n) = ∑ k : Fin 768, x (ix3 b i k) * wq (ix2 k n) := by
  pointwise [qF, k0_pay1]

/-- An entry of one head: the values averaged with the exponentials of the scores as weights. -/
theorem head_entry (q : Vec Ideal S256x64 .bf16) (k v : Vec Ideal S1x1x512x64 .bf16) (i : Fin 256) (d : Fin 64) :
    headO q k v (ix2 i d) = soft (fun j : Fin 512 => (∑ e : Fin 64, q (ix2 i e) * k (ix4 0 0 j e)) * scale) (fun j => v (ix4 0 0 j d)) := by
  pointwise [headO, k0_pay7, soft]

/-- An entry of one batch's part of the result: a row of heads' results times a column of the output projection. -/
theorem part_entry (a : Vec Ideal S256x512 .bf16) (wo : Vec Ideal S512x768 .bf16) (t : Fin 4) (r : Fin 64) (n : Fin 768) :
    partF a wo (ix3 t r n) = ∑ k : Fin 512, a (ix2 (⟨t.val * 64 + r.val, by omega⟩ : Fin 256) k) * wo (ix2 k n) := by
  pointwise [partF, k0_pay20]

theorem wo_entry (wo : Vec Ideal S512x768 .bf16) : k0_pay2 wo = wo := by
  funext j
  pointwise [k0_pay2]

theorem out_entry (g : Buf8 Ideal) : oF g = g := by
  funext j
  pointwise [oF, k0_pay39]

/-- What a load of a box reads at an entry. -/
theorem rd_eq {α : Type} {s : Shape} (X : s.Idx → α) (o sz : Fin s.rank → ℕ) (inb : ∀ a, o a + sz a ≤ s.size a)
    (i : (⟨s.rank, sz⟩ : Shape).Idx) (j : s.Idx) (h : ∀ a, (j a).val = o a + (i a).val) : rd X o sz inb i = X j := by
  refine congrArg X (funext fun a => Fin.ext ((Rect.emb_apply ..).trans ?_))
  show o a + 1 * (i a).val = (j a).val
  rw [h a, Nat.one_mul]

theorem rdQ_entry (q : Vec Ideal S512x512 .bf16) (b : Fin 2) (h : Fin 8) (i : Fin 256) (e : Fin 64) :
    rdQ q b h (ix2 i e) = q (ix2 (⟨256 * b.val + i.val, by omega⟩ : Fin 512) (⟨64 * h.val + e.val, by omega⟩ : Fin 512)) :=
  rd_eq q _ _ (inbQ b h) _ _ fun a => match a with | ⟨0, _⟩ => rfl | ⟨1, _⟩ => rfl

theorem rdK_entry (k : Vec Ideal S2x8x512x64 .bf16) (b : Fin 2) (h : Fin 8) (j : Fin 512) (e : Fin 64) :
    rdK k b h (ix4 0 0 j e) = k (ix4 b h j e) :=
  rd_eq k _ _ (inbK b h) _ _ fun a => match a with
    | ⟨0, _⟩ => rfl | ⟨1, _⟩ => rfl | ⟨2, _⟩ => (Nat.zero_add _).symm | ⟨3, _⟩ => (Nat.zero_add _).symm

theorem rdA_entry (A : Vec Ideal S512x512 .bf16) (b : Fin 2) (i : Fin 256) (n : Fin 512) :
    rdA A b (ix2 i n) = A (ix2 (⟨256 * b.val + i.val, by omega⟩ : Fin 512) n) :=
  rd_eq A _ _ (inbA b) _ _ fun a => match a with | ⟨0, _⟩ => rfl | ⟨1, _⟩ => (Nat.zero_add _).symm

/-- The sum over the devices' slots, at an entry of one half of the columns. -/
theorem sum_entry (r : Buf8 Ideal) (h : Fin 2) (i : Fin 64) (n : Fin 384) :
    sumF r h (ix3 0 i n) = ∑ p : Fin 8, r (ix3 p i (⟨384 * h.val + n.val, by omega⟩ : Fin 768)) := by
  have e : sumF r h (ix3 0 i n) = ∑ p : Fin 8, rd r ![0, 0, 384 * h.val] S8x64x384.size (inbH h) (ix3 p i n) := by
    pointwise [sumF, k0_pay37]
  exact e.trans (Finset.sum_congr rfl fun p _ => rd_eq r _ _ (inbH h) _ _ fun a => match a with
    | ⟨0, _⟩ => (Nat.zero_add _).symm | ⟨1, _⟩ => (Nat.zero_add _).symm | ⟨2, _⟩ => rfl)

/-! ## One device's partial result -/

section Device
variable (x : Vec Ideal S2x256x768 .bf16) (wq : Vec Ideal S768x512 .bf16) (k v : Vec Ideal S2x8x512x64 .bf16) (wo : Vec Ideal S512x768 .bf16)

/-- The scores of one query against every key of one head. -/
def scores (b : Fin 2) (h : Fin 8) (i : Fin 256) (j : Fin 512) : EReal :=
  (∑ e : Fin 64, (∑ m : Fin 768, x (ix3 b i m) * wq (ix2 m (⟨64 * h.val + e.val, by omega⟩ : Fin 512))) * k (ix4 b h j e)) * scale

/-- One head's result for one query. -/
def headAt (b : Fin 2) (h : Fin 8) (i : Fin 256) (d : Fin 64) : EReal := soft (scores x wq k b h i) fun j => v (ix4 b h j d)

/-- The heads' results side by side, at batch `b`, query `i` and column `d` of head `h`. -/
theorem heads_entry (b : Fin 2) (h : Fin 8) (i : Fin 256) (d : Fin 64) :
    aF (qF x wq) k v (ix2 (⟨256 * b.val + i.val, by omega⟩ : Fin 512) (⟨64 * h.val + d.val, by omega⟩ : Fin 512)) = headAt x wq k v b h i d := by
  have eb : (⟨(256 * b.val + i.val) / 256, by omega⟩ : Fin 2) = b := Fin.ext (by show (256 * b.val + i.val) / 256 = b.val; omega)
  have eh : (⟨(64 * h.val + d.val) / 64, by omega⟩ : Fin 8) = h := Fin.ext (by show (64 * h.val + d.val) / 64 = h.val; omega)
  have ei : (⟨(256 * b.val + i.val) % 256, by omega⟩ : Fin 256) = i := Fin.ext (by show (256 * b.val + i.val) % 256 = i.val; omega)
  have ed : (⟨(64 * h.val + d.val) % 64, by omega⟩ : Fin 64) = d := Fin.ext (by show (64 * h.val + d.val) % 64 = d.val; omega)
  have e : aF (qF x wq) k v (ix2 (⟨256 * b.val + i.val, by omega⟩ : Fin 512) (⟨64 * h.val + d.val, by omega⟩ : Fin 512))
      = headO (rdQ (qF x wq) (⟨(256 * b.val + i.val) / 256, by omega⟩ : Fin 2) (⟨(64 * h.val + d.val) / 64, by omega⟩ : Fin 8))
          (rdK k (⟨(256 * b.val + i.val) / 256, by omega⟩ : Fin 2) (⟨(64 * h.val + d.val) / 64, by omega⟩ : Fin 8))
          (rdK v (⟨(256 * b.val + i.val) / 256, by omega⟩ : Fin 2) (⟨(64 * h.val + d.val) / 64, by omega⟩ : Fin 8))
          (ix2 (⟨(256 * b.val + i.val) % 256, by omega⟩ : Fin 256) (⟨(64 * h.val + d.val) % 64, by omega⟩ : Fin 64)) := rfl
  rw [e, eb, eh, ei, ed, head_entry]
  unfold headAt
  congr 1
  · funext j
    refine congrArg (· * scale) (Finset.sum_congr rfl fun e' _ => ?_)
    rw [rdQ_entry, rdK_entry, q_entry]
  · funext j
    rw [rdK_entry]

/-- The device's partial result at slot `4 b + t`, row `r`: the heads' results of one query times a column of the output
    projection's block, the sum taken head by head. -/
theorem partial_entry (b : Fin 2) (t : Fin 4) (r : Fin 64) (n : Fin 768) :
    sF x wq k v wo (ix3 (⟨4 * b.val + t.val, by omega⟩ : Fin 8) r n)
      = ∑ h : Fin 8, ∑ d : Fin 64, headAt x wq k v b h (⟨t.val * 64 + r.val, by omega⟩ : Fin 256) d * wo (ix2 (⟨64 * h.val + d.val, by omega⟩ : Fin 512) n) := by
  have eb : (⟨(4 * b.val + t.val) / 4, by omega⟩ : Fin 2) = b := Fin.ext (by show (4 * b.val + t.val) / 4 = b.val; omega)
  have et : (⟨(4 * b.val + t.val) % 4, by omega⟩ : Fin 4) = t := Fin.ext (by show (4 * b.val + t.val) % 4 = t.val; omega)
  have e : sF x wq k v wo (ix3 (⟨4 * b.val + t.val, by omega⟩ : Fin 8) r n)
      = partF (rdA (aF (qF x wq) k v) (⟨(4 * b.val + t.val) / 4, by omega⟩ : Fin 2)) (k0_pay2 wo) (ix3 (⟨(4 * b.val + t.val) % 4, by omega⟩ : Fin 4) r n) := rfl
  rw [e, eb, et, part_entry, wo_entry, sum_pieces 8 64 fun c : Fin (8 * 64) => rdA (aF (qF x wq) k v) b (ix2 (⟨t.val * 64 + r.val, by omega⟩ : Fin 256) c) * wo (ix2 c n)]
  refine Finset.sum_congr rfl fun h _ => Finset.sum_congr rfl fun d _ => ?_
  rw [rdA_entry, heads_entry]

end Device

/-- The totals: at slot `t`, the sum over the devices of their partial results' slot `t`. -/
theorem total_entry (sC : Dev nD → Buf8 Ideal) (t : Fin 8) (r : Fin 64) (n : Fin 768) :
    gF sC (ix3 t r n) = ∑ p : Fin 8, sC p (ix3 t r n) := by
  have e : gF sC (ix3 t r n) = sumF (rC sC t) (⟨n.val / 384, by omega⟩ : Fin 2) (ix3 0 r (⟨n.val % 384, Nat.mod_lt _ (by decide)⟩ : Fin 384)) := rfl
  rw [e, sum_entry]
  have en : (⟨384 * (n.val / 384) + n.val % 384, by omega⟩ : Fin 768) = n := Fin.ext (Nat.div_add_mod _ _)
  refine Finset.sum_congr rfl fun p _ => ?_
  show rC sC t (ix3 p r (⟨384 * (n.val / 384) + n.val % 384, by omega⟩ : Fin 768)) = _
  rw [en]
  exact congrArg (sC p) (funext fun a => match a with | ⟨0, _⟩ => rfl | ⟨1, _⟩ => rfl | ⟨2, _⟩ => rfl)

end Cert.KernelIdeal.Proto

end
-- ==== Proof.Reference.lean ====
/-
  The reference over the extended reals, entry by entry: scores, their largest, the weights, the heads, the product with
  the output projection.
-/
module

public import proofs.«01_k».proof.Proof.Gen.ReferenceIdeal.Run
public import proofs.«01_k».proof.Proof.Softmax

@[expose] public section

set_option maxRecDepth 16384

noncomputable section

namespace Cert.ReferenceIdeal.Proto

open Idealize.ShloMosaic Idealize.ShloMosaic.TcCoe
open Cert.ReferenceIdeal Cert.ReferenceIdeal.Gen Cert.Math

/-- The scores of all queries against all keys, head by head. -/
def scoresR (x : FVec Ideal S2x256x768 .bf16) (wq : FVec Ideal S768x4096 .bf16) (k : FVec Ideal S2x512x64x64 .bf16) : FVec Ideal S2x64x256x512 .f32 :=
  mulf (Host.dotGeneral dot_S2x256x64x64_S2x512x64x64_S2x64x256x512_3_3_1_1_02_02 none
      (shapeCast S2x256x64x64 (Host.dotGeneral dot_S512x768_S768x4096_S512x4096_1_0_0_1_n_n none
        (shapeCast S512x768 (extf .f32 x bitsLt_bf16_f32) shapeCasts_S2x256x768_S512x768) (extf .f32 wq bitsLt_bf16_f32)) shapeCasts_S512x4096_S2x256x64x64)
      (extf .f32 k bitsLt_bf16_f32))
    (broadcastInDim S2x64x256x512 ![] bcast_S_S2x64x256x512 (constant S_ .f32 0x3E000000#32))

/-- Each query's largest score. -/
def topR (s : FVec Ideal S2x64x256x512 .f32) : FVec Ideal S2x64x256 .f32 :=
  Host.reduce FloatOps.maximumf s (constant S_ .f32 0xFF800000#32) reducesTo_S2x64x256x512_S2x64x256_d3 h_S_

/-- The weights: the exponentials of the scores less the largest. -/
def weightsR (s : FVec Ideal S2x64x256x512 .f32) : FVec Ideal S2x64x256x512 .f32 :=
  Host.exp (subf s (broadcastInDim S2x64x256x512 ![0, 1, 2, 3] bcast_S2x64x256x1_S2x64x256x512_0_1_2_3
    (broadcastInDim S2x64x256x1 ![0, 1, 2] bcast_S2x64x256_S2x64x256x1_0_1_2 (topR s))))

/-- The heads' results: the weighted values over the sum of the weights. -/
def headsR (p : FVec Ideal S2x64x256x512 .f32) (v : FVec Ideal S2x512x64x64 .bf16) : FVec Ideal S2x256x64x64 .f32 :=
  Host.divf (transpose S2x256x64x64 [0, 3, 1, 2]
      (Host.dotGeneral dot_S2x512x64x64_S2x64x256x512_S2x64x64x256_1_3_3_2_02_01 none (extf .f32 v bitsLt_bf16_f32) p) transposes_S2x64x64x256_S2x256x64x64_0_3_1_2)
    (broadcastInDim S2x256x64x64 ![0, 1, 2, 3] bcast_S2x256x64x1_S2x256x64x64_0_1_2_3
      (transpose S2x256x64x1 [0, 2, 1, 3] (broadcastInDim S2x64x256x1 ![0, 1, 2] bcast_S2x64x256_S2x64x256x1_0_1_2
        (Host.reduceAdd p (constant S_ .f32 0x00000000#32) reducesTo_S2x64x256x512_S2x64x256_d3 h_S_)) transposes_S2x64x256x1_S2x256x64x1_0_2_1_3))

/-- The heads' results through the output projection. -/
def outR (a : FVec Ideal S2x256x64x64 .f32) (wo : FVec Ideal S4096x768 .bf16) : FVec Ideal S2x256x768 .f32 :=
  shapeCast S2x256x768 (Host.dotGeneral dot_S512x4096_S4096x768_S512x768_1_0_0_1_n_n none
    (shapeCast S512x4096 a shapeCasts_S2x256x64x64_S512x4096) (extf .f32 wo bitsLt_bf16_f32)) shapeCasts_S512x768_S2x256x768

/-- The whole reference. -/
def refR (x : FVec Ideal S2x256x768 .bf16) (wq : FVec Ideal S768x4096 .bf16) (k v : FVec Ideal S2x512x64x64 .bf16) (wo : FVec Ideal S4096x768 .bf16) :
    FVec Ideal S2x256x768 .f32 := outR (headsR (weightsR (scoresR x wq k)) v) wo

variable (x : FVec Ideal S2x256x768 .bf16) (wq : FVec Ideal S768x4096 .bf16) (k v : FVec Ideal S2x512x64x64 .bf16) (wo : FVec Ideal S4096x768 .bf16)

theorem scores_entry (b : Fin 2) (h : Fin 64) (i : Fin 256) (j : Fin 512) :
    scoresR x wq k (ix4 b h i j) = (∑ e : Fin 64, (∑ m : Fin 768, x (ix3 b i m) * wq (ix2 m (⟨h.val * 64 + e.val, by omega⟩ : Fin 4096))) * k (ix4 b j h e))
      * Ideal.ofBits .f32 0x3E000000#32 := by
  pointwise [scoresR]

theorem top_entry (s : FVec Ideal S2x64x256x512 .f32) (b : Fin 2) (h : Fin 64) (i : Fin 256) : topR s (ix3 b h i) = top fun j : Fin 512 => s (ix4 b h i j) := by
  pointwise [topR, top]
  rw [minus_inf]

theorem weights_entry (s : FVec Ideal S2x64x256x512 .f32) (b : Fin 2) (h : Fin 64) (i : Fin 256) (j : Fin 512) :
    weightsR s (ix4 b h i j) = Ideal.exp (s (ix4 b h i j) - topR s (ix3 b h i)) := by
  pointwise [weightsR]

theorem heads_entry (p : FVec Ideal S2x64x256x512 .f32) (b : Fin 2) (i : Fin 256) (h : Fin 64) (d : Fin 64) :
    headsR p v (ix4 b i h d) = Ideal.div (∑ j : Fin 512, v (ix4 b j h d) * p (ix4 b h i j)) (∑ j : Fin 512, p (ix4 b h i j)) := by
  pointwise [headsR]

theorem out_entry (a : FVec Ideal S2x256x64x64 .f32) (b : Fin 2) (i : Fin 256) (n : Fin 768) :
    outR a wo (ix3 b i n) = ∑ c : Fin 4096, a (ix4 b i (⟨c.val / 64, by omega⟩ : Fin 64) (⟨c.val % 64, by omega⟩ : Fin 64)) * wo (ix2 c n) := by
  pointwise [outR]

/-- The reference at an entry, the scores being finite: the heads' softmax averages times a column of the output projection. -/
theorem ref_entry (hs : ∀ b h i j, IsReal (scoresR x wq k (ix4 b h i j))) (b : Fin 2) (i : Fin 256) (n : Fin 768) :
    refR x wq k v wo (ix3 b i n) = ∑ c : Fin 4096,
      soft (fun j : Fin 512 => scoresR x wq k (ix4 b (⟨c.val / 64, by omega⟩ : Fin 64) i j)) (fun j => v (ix4 b j (⟨c.val / 64, by omega⟩ : Fin 64) (⟨c.val % 64, by omega⟩ : Fin 64)))
        * wo (ix2 c n) := by
  unfold refR
  rw [out_entry]
  refine Finset.sum_congr rfl fun c _ => ?_
  rw [heads_entry]
  simp only [weights_entry]
  rw [top_entry, soft_shift (fun j => hs b _ i j) (IsReal.top fun j => hs b _ i j)]

/-- The scores are finite where `x`, the projection and the keys are. -/
theorem scores_real (hx : ∀ a, IsReal (x a)) (hw : ∀ a, IsReal (wq a)) (hk : ∀ a, IsReal (k a)) (b : Fin 2) (h : Fin 64) (i : Fin 256) (j : Fin 512) :
    IsReal (scoresR x wq k (ix4 b h i j)) := by
  rw [scores_entry]
  exact (IsReal.sum _ fun e _ => (IsReal.sum _ fun m _ => (hx _).mul (hw _)).mul (hk _)).mul eighth_real

end Cert.ReferenceIdeal.Proto

end
-- ==== Proof.Equation.lean ====
/-
  The equation: the devices' partial results, each over its own heads, add up to the reference's product over all of them.
-/
module

public import proofs.«01_k».proof.Proof.Attn
public import proofs.«01_k».proof.Proof.Entries
public import proofs.«01_k».proof.Proof.Reference

@[expose] public section

set_option maxRecDepth 16384

noncomputable section

namespace Cert.Math

open Idealize.ShloMosaic Idealize.ShloMosaic.TcCoe
open Cert.KernelIdeal Cert.KernelIdeal.Gen Cert.KernelIdeal.Proto
open Cert.ReferenceIdeal.Proto (refR scoresR ref_entry)

/-- The whole arrays, and what each device holds of them: its columns of the projection, its heads' keys and values, its
    rows of the output projection. -/
structure Held (x : Vec Ideal S2x256x768 .bf16) (wq : Vec Ideal ⟨2, ![768, 4096]⟩ .bf16) (k v : Vec Ideal S2x512x64x64 .bf16)
    (wo : Vec Ideal ⟨2, ![4096, 768]⟩ .bf16) (I : Fin 8 → Ins Ideal) : Prop where
  x : ∀ p, (I p).x = x
  wq : ∀ (p : Fin 8) (m : Fin 768) (n : Fin 512), (I p).wq (ix2 m n) = wq (ix2 m (⟨512 * p.val + n.val, by omega⟩ : Fin 4096))
  k : ∀ (p : Fin 8) (b : Fin 2) (h : Fin 8) (j : Fin 512) (e : Fin 64), (I p).k (ix4 b h j e) = k (ix4 b j (⟨8 * p.val + h.val, by omega⟩ : Fin 64) e)
  v : ∀ (p : Fin 8) (b : Fin 2) (h : Fin 8) (j : Fin 512) (e : Fin 64), (I p).v (ix4 b h j e) = v (ix4 b j (⟨8 * p.val + h.val, by omega⟩ : Fin 64) e)
  wo : ∀ (p : Fin 8) (n : Fin 512) (m : Fin 768), (I p).wo (ix2 n m) = wo (ix2 (⟨512 * p.val + n.val, by omega⟩ : Fin 4096) m)

variable {x : Vec Ideal S2x256x768 .bf16} {wq : Vec Ideal ⟨2, ![768, 4096]⟩ .bf16} {k v : Vec Ideal S2x512x64x64 .bf16}
  {wo : Vec Ideal ⟨2, ![4096, 768]⟩ .bf16} {I : Fin 8 → Ins Ideal}

/-- Device `p`'s head `h` is the reference's head `8 p + h`. -/
theorem scores_eq (H : Held x wq k v wo I) (p : Fin 8) (b : Fin 2) (h : Fin 8) (i : Fin 256) :
    scores (I p).x (I p).wq (I p).k b h i = fun j => scoresR x wq k (ix4 b (⟨8 * p.val + h.val, by omega⟩ : Fin 64) i j) := by
  funext j
  rw [Cert.ReferenceIdeal.Proto.scores_entry, H.x]
  refine congrArg (· * scale) (Finset.sum_congr rfl fun e _ => ?_)
  rw [H.k]
  refine congrArg (· * _) (Finset.sum_congr rfl fun m _ => ?_)
  rw [H.wq]
  refine congrArg (fun n => x (ix3 b i m) * wq (ix2 m n)) (Fin.ext ?_)
  show 512 * p.val + (64 * h.val + e.val) = (8 * p.val + h.val) * 64 + e.val
  omega

/-- The sum over the devices is the reference. -/
theorem equation (H : Held x wq k v wo I) (hx : ∀ a, IsReal (x a)) (hw : ∀ a, IsReal (wq a)) (hk : ∀ a, IsReal (k a))
    (b : Fin 2) (t : Fin 4) (r : Fin 64) (n : Fin 768) :
    (gF (F := Ideal) (fun p => sF (I p).x (I p).wq (I p).k (I p).v (I p).wo) (ix3 (⟨4 * b.val + t.val, by omega⟩ : Fin 8) r n) : EReal)
      = refR x wq k v wo (ix3 b (⟨t.val * 64 + r.val, by omega⟩ : Fin 256) n) := by
  rw [total_entry, ref_entry x wq k v wo (Cert.ReferenceIdeal.Proto.scores_real x wq k hx hw hk),
    sum_pieces 8 512 fun c : Fin (8 * 512) => soft (fun j : Fin 512 => scoresR x wq k (ix4 b (⟨c.val / 64, by omega⟩ : Fin 64) (⟨t.val * 64 + r.val, by omega⟩ : Fin 256) j))
      (fun j => v (ix4 b j (⟨c.val / 64, by omega⟩ : Fin 64) (⟨c.val % 64, by omega⟩ : Fin 64))) * wo (ix2 c n)]
  refine Finset.sum_congr rfl fun p _ => ?_
  rw [partial_entry, sum_pieces 8 64 fun c : Fin (8 * 64) => soft (fun j : Fin 512 => scoresR x wq k (ix4 b (⟨(512 * p.val + c.val) / 64, by omega⟩ : Fin 64) (⟨t.val * 64 + r.val, by omega⟩ : Fin 256) j))
      (fun j => v (ix4 b j (⟨(512 * p.val + c.val) / 64, by omega⟩ : Fin 64) (⟨(512 * p.val + c.val) % 64, by omega⟩ : Fin 64)))
        * wo (ix2 (⟨512 * p.val + c.val, by omega⟩ : Fin 4096) n)]
  refine Finset.sum_congr rfl fun h _ => Finset.sum_congr rfl fun d _ => ?_
  have eh : (⟨(512 * p.val + (64 * h.val + d.val)) / 64, by omega⟩ : Fin 64) = (⟨8 * p.val + h.val, by omega⟩ : Fin 64) := Fin.ext (by
    show (512 * p.val + (64 * h.val + d.val)) / 64 = 8 * p.val + h.val; omega)
  have ed : (⟨(512 * p.val + (64 * h.val + d.val)) % 64, by omega⟩ : Fin 64) = d := Fin.ext (by
    show (512 * p.val + (64 * h.val + d.val)) % 64 = d.val; omega)
  show _ = soft (fun j => scoresR x wq k (ix4 b (⟨(512 * p.val + (64 * h.val + d.val)) / 64, by omega⟩ : Fin 64) _ j))
    (fun j => v (ix4 b j (⟨(512 * p.val + (64 * h.val + d.val)) / 64, by omega⟩ : Fin 64) (⟨(512 * p.val + (64 * h.val + d.val)) % 64, by omega⟩ : Fin 64))) * _
  rw [eh, ed, H.wo]
  unfold headAt
  rw [scores_eq H]
  simp only [H.v]

end Cert.Math

end
-- ==== Proof.Finite.lean ====
/-
  What the precondition says over the extended reals: every entry of `x`, of the projection and of the keys is finite.
-/
module

public import proofs.«01_k».proof.Defs
public import proofs.«01_k».proof.Proof.Softmax

@[expose] public section

set_option maxRecDepth 16384

noncomputable section

namespace Cert.Math

open Idealize.ShloMosaic

/-- The side conditions of the precondition's operations, at one device's shapes. -/
theorem finite_facts : Cert.Pre_finite_KernelIdeal.Facts where
  bcast_S_S2x256x768 := by decide
  reducesTo_S2x256x768_S_d0_1_2 := by decide
  h_S_ := by decide
  bcast_S_S768x512 := by decide
  reducesTo_S768x512_S_d0_1 := by decide
  bcast_S_S2x512x64x64 := by decide
  reducesTo_S2x512x64x64_S_d0_1_2_3 := by decide

/-- The same at the reference's shapes. -/
theorem finite_facts_ref : Cert.Pre_finite_ReferenceIdeal.Facts where
  bcast_S_S2x256x768 := by decide
  reducesTo_S2x256x768_S_d0_1_2 := by decide
  h_S_ := by decide
  bcast_S_S768x4096 := by decide
  reducesTo_S768x4096_S_d0_1 := by decide
  bcast_S_S2x512x64x64 := by decide
  reducesTo_S2x512x64x64_S_d0_1_2_3 := by decide

theorem and_one {a b : BitVec 1} (h : IntOp.andi a b = 1#1) : a = 1#1 ∧ b = 1#1 := by
  revert h; revert a b; decide

/-- A conjunction of a list that holds: each member holds. -/
theorem all_of_foldl {ι : Type} (f : ι → BitVec 1) (L : List ι) : ∀ r, L.foldl (fun r n => IntOp.andi r (f n)) r = 1#1 → r = 1#1 ∧ ∀ n ∈ L, f n = 1#1 := by
  induction L with
  | nil => exact fun r h => ⟨h, fun n hn => absurd hn List.not_mem_nil⟩
  | cons a L ih =>
    intro r h
    obtain ⟨h1, h2⟩ := ih _ h
    obtain ⟨h3, h4⟩ := and_one h1
    exact ⟨h3, List.forall_mem_cons.2 ⟨h4, h2⟩⟩

/-- A conjunction over a whole array that holds: each entry holds. -/
theorem all_of_reduce {s u : Shape} {axes : List (Fin s.rank)} (x : IVec s 1) (init : IVec u 1) (h : s.ReducesTo axes ⟨0, ![]⟩) (hu : 0 < u.numel)
    (j : (⟨0, ![]⟩ : Shape).Idx) (e : Host.reduce IntOp.andi x init h hu j = 1#1) (i : s.Idx) : x i = 1#1 := by
  have k := (all_of_foldl (fun n => x (s.rowMajor.symm n)) _ _ e).2 (s.rowMajor i)
    (List.mem_filter.2 ⟨List.mem_finRange _, decide_eq_true (funext fun a => a.elim0)⟩)
  simpa using k

/-- An entry whose absolute value is below infinity is finite. -/
theorem real_of_lt {x : EReal} (h : FloatOps.cmpf (F := Ideal) (φ := .bf16) .olt (FloatOps.absf (F := Ideal) (φ := .bf16) x) (Ideal.ofBits .bf16 0x7F80#16) = 1#1) :
    IsReal x := by
  rw [plus_inf] at h
  have hlt : max x (-x) < ⊤ := by
    by_contra hc
    have : FloatOps.cmpf (F := Ideal) (φ := .bf16) .olt (FloatOps.absf (F := Ideal) (φ := .bf16) x) (⊤ : EReal) = 0#1 := by
      show BitVec.ofBool (decide (max x (-x) < ⊤)) = 0#1
      rw [decide_eq_false hc]
      rfl
    rw [this] at h
    exact absurd h (by decide)
  refine ⟨_, (EReal.coe_toReal (ne_of_lt (lt_of_le_of_lt (le_max_left _ _) hlt)) fun e => ?_).symm⟩
  rw [e] at hlt
  simp at hlt

/-- The precondition, read at one device's arrays. -/
theorem real_of_finite (x : FVec Ideal ⟨3, ![2, 256, 768]⟩ .bf16) (wq : FVec Ideal ⟨2, ![768, 512]⟩ .bf16)
    (k v : FVec Ideal ⟨4, ![2, 512, 64, 64]⟩ .bf16) (wo : FVec Ideal ⟨2, ![512, 768]⟩ .bf16)
    (h : @Cert.Pre_finite_KernelIdeal.fn finite_facts Ideal _ x wq k v wo = fun _ => 1#1) :
    (∀ a, IsReal (x a)) ∧ (∀ a, IsReal (wq a)) ∧ (∀ a, IsReal (k a)) := by
  have h0 := congrFun h (fun a : Fin 0 => a.elim0)
  obtain ⟨h1, hk⟩ := and_one h0
  obtain ⟨hx, hw⟩ := and_one h1
  exact ⟨fun a => real_of_lt (all_of_reduce _ _ _ _ _ hx a), fun a => real_of_lt (all_of_reduce _ _ _ _ _ hw a),
    fun a => real_of_lt (all_of_reduce _ _ _ _ _ hk a)⟩

end Cert.Math

end
-- ==== Proof.Slices.lean ====
/-
  What the kernel call reads and what is made of its result. It reads `x` and the device's blocks of the projections as they are, and the keys and values of the
  device's eight heads, cut out and with the heads put before the positions.
-/
module

public import proofs.«01_k».proof.Proof.Region
public import proofs.«01_k».proof.Proof.Entries
public import Idealize.ShloMosaic.Lib.StableHlo.Run
public import Idealize.ShloMosaic.Lib.Pointwise

@[expose] public section

set_option maxRecDepth 16384

noncomputable section

namespace Cert.KernelIdeal.Proto

open Idealize.ShloMosaic Idealize.ShloMosaic.TcCoe
open Cert.KernelIdeal Cert.KernelIdeal.Gen

/-- The word at which device `c`'s heads start. -/
def first (c : Dev nD) : IVec S_ 32 :=
  let t := muli (Host.remui (Host.divui (constantI S_ 32 (Dev.word c)) (constantI S_ 32 1#32)) (constantI S_ 32 8#32)) (constantI S_ 32 8#32)
  select (cmpi .slt t (constantI S_ 32 0#32)) (addi t (constantI S_ 32 64#32)) t

theorem first_eq (c : Dev nD) : (first c (Shape.Idx.first h_S_)).toInt = 8 * c.val := by
  revert c
  decide

/-- A cut of eight heads, put before the positions, at an entry. -/
theorem slice_entry (c : Dev nD) (k : FVec Ideal S2x512x64x64 .bf16) (st : Fin 4 → Int) (h0 : st 0 = 0) (h1 : st 1 = 0) (h2 : st 2 = 8 * c.val) (h3 : st 3 = 0)
   (b : Fin 2) (h : Fin 8) (j : Fin 512) (e : Fin 64) :
    transpose S2x8x512x64 [0, 2, 1, 3] (Host.dynamicSlice S2x512x8x64 k st sliceFits_S2x512x64x64_S2x512x8x64) transposes_S2x512x8x64_S2x8x512x64_0_2_1_3 (ix4 b h j e)
      = k (ix4 b j (⟨8 * c.val + h.val, by have : c.val < 8 := c.isLt; omega⟩ : Fin 64) e) := by
  pointwise []
  have hc : c.val < 8 := c.isLt
  refine congrArg k (congr (congr (congr (congrArg ix4 (Fin.ext ?_)) (Fin.ext ?_)) (Fin.ext ?_)) (Fin.ext ?_))
  · show (min (max (st 0) 0) ((2 - 2 : ℕ) : Int)).toNat + b.val = b.val
    omega
  · show (min (max (st 1) 0) ((512 - 512 : ℕ) : Int)).toNat + j.val = j.val
    omega
  · show (min (max (st 2) 0) ((64 - 8 : ℕ) : Int)).toNat + h.val = 8 * c.val + h.val
    omega
  · show (min (max (st 3) 0) ((64 - 64 : ℕ) : Int)).toNat + e.val = e.val
    omega

variable (m : (ℓ : Idealize.ShloMosaic.Loc nD τ sig) → Buf (Elt Ideal) ℓ) (c : Dev nD)

/-- The keys the call reads: those of the device's heads. -/
theorem v15_entry (b : Fin 2) (h : Fin 8) (j : Fin 512) (e : Fin 64) :
    V1 m c main_v15 (ix4 b h j e) = m ((c : Thread nD τ).loc main_arg2) (ix4 b j (⟨8 * c.val + h.val, by have : c.val < 8 := c.isLt; omega⟩ : Fin 64) e) := by
  unfold V1
  after_results
  refine (slice_entry c _ _ ?_ ?_ ?_ ?_ b h j e).trans rfl
  · rfl
  · rfl
  · exact first_eq c
  · rfl

/-- The values the call reads: those of the device's heads. -/
theorem v16_entry (b : Fin 2) (h : Fin 8) (j : Fin 512) (e : Fin 64) :
    V1 m c main_v16 (ix4 b h j e) = m ((c : Thread nD τ).loc main_arg3) (ix4 b j (⟨8 * c.val + h.val, by have : c.val < 8 := c.isLt; omega⟩ : Fin 64) e) := by
  unfold V1
  after_results
  refine (slice_entry c _ _ ?_ ?_ ?_ ?_ b h j e).trans rfl
  · rfl
  · rfl
  · exact first_eq c
  · rfl

/-- The result: the totals, their slots put one behind the other. -/
theorem v18_eq : V3 m (outsM m) c main_v18 = shapeCast S2x256x768 (gV m) shapeCasts_S8x64x768_S2x256x768 := by
  have e : V3 m (outsM m) c main_v18 = shapeCast S2x256x768 (V2 m (outsM m) c main_v17) shapeCasts_S8x64x768_S2x256x768 := by
    unfold V3
    after_results
    rfl
  have e2 : V2 m (outsM m) c main_v17 = outsM m 2 main_v17 c := Function.update_self (Proc.devRef .tc main_v17) _ _
  rw [e, e2, outsM_v17, out_entry]

theorem v18_entry (b : Fin 2) (t : Fin 4) (r : Fin 64) (n : Fin 768) :
    V3 m (outsM m) c main_v18 (ix3 b (⟨t.val * 64 + r.val, by omega⟩ : Fin 256) n) = gV m (ix3 (⟨4 * b.val + t.val, by omega⟩ : Fin 8) r n) := by
  rw [v18_eq]
  pointwise []
  refine congrArg (fun a => gV m (ix3 a r n)) (Fin.ext ?_)
  show b.val * 4 + (t.val * 64 + r.val) / 64 = 4 * b.val + t.val
  omega

end Cert.KernelIdeal.Proto

end
-- ==== Proof.Result.lean ====
/-
  The kernel's result is the reference's, the whole arrays being cut over the devices as the claim says.
-/
module

public import proofs.«01_k».proof.Proof.Equation
public import proofs.«01_k».proof.Proof.Finite
public import proofs.«01_k».proof.Proof.Slices
public import proofs.«01_k».proof.Proof.Frames

@[expose] public section

set_option maxRecDepth 16384

noncomputable section

namespace Cert.Math

open Idealize.ShloMosaic Idealize.ShloMosaic.TcCoe Idealize.SL.Sem
open Cert.KernelIdeal Cert.KernelIdeal.Gen Cert.KernelIdeal.Proto
open Cert.ReferenceIdeal.Proto (refR)

/-! ## What the devices hold -/

section
variable (m : (ℓ : Idealize.ShloMosaic.Loc nD τ sig) → Buf (Elt Ideal) ℓ)
  (x : Vec Ideal S2x256x768 .bf16) (wq : Vec Ideal ⟨2, ![768, 4096]⟩ .bf16) (k v : Vec Ideal S2x512x64x64 .bf16) (wo : Vec Ideal ⟨2, ![4096, 768]⟩ .bf16)

/-- The devices' arguments are the whole arrays, or blocks of them. -/
def Cut : Prop := ∀ c : Dev nD,
  m ((c : Thread nD τ).loc main_arg0) = x
  ∧ m ((c : Thread nD τ).loc main_arg1) = Layout.block ⟨2, ![768, 512]⟩ ⟨2, ![768, 4096]⟩ 1 8 c wq
  ∧ m ((c : Thread nD τ).loc main_arg2) = k
  ∧ m ((c : Thread nD τ).loc main_arg3) = v
  ∧ m ((c : Thread nD τ).loc main_arg4) = Layout.block ⟨2, ![512, 768]⟩ ⟨2, ![4096, 768]⟩ 0 8 c wo

variable {m x wq k v wo}

theorem held (h : Cut m x wq k v wo) : Held x wq k v wo (insM m) where
  x := fun p => (V1_of m p main_arg0 (by decide)).trans (h p).1
  wq := fun p i n => by
    show V1 m p main_arg1 (ix2 i n) = _
    rw [V1_of m p main_arg1 (by decide)]
    show m ((p : Thread nD τ).loc main_arg1) (ix2 i n) = _
    rw [(h p).2.1, Layout.block_apply]
    refine congrArg wq (funext fun a => match a with | ⟨0, _⟩ => rfl | ⟨1, _⟩ => Fin.ext ?_)
    show p.val * 512 + n.val = 512 * p.val + n.val
    omega
  k := fun p b i j e => by
    show V1 m p main_v15 (ix4 b i j e) = _
    rw [v15_entry, (h p).2.2.1]
  v := fun p b i j e => by
    show V1 m p main_v16 (ix4 b i j e) = _
    rw [v16_entry, (h p).2.2.2.1]
  wo := fun p n i => by
    show V1 m p main_arg4 (ix2 n i) = _
    rw [V1_of m p main_arg4 (by decide)]
    show m ((p : Thread nD τ).loc main_arg4) (ix2 n i) = _
    rw [(h p).2.2.2.2, Layout.block_apply]
    refine congrArg wo (funext fun a => match a with | ⟨0, _⟩ => Fin.ext ?_ | ⟨1, _⟩ => rfl)
    show p.val * 512 + n.val = 512 * p.val + n.val
    omega

/-- What every device's block of the projection has, the whole projection has. -/
theorem whole_real (H : Held x wq k v wo (insM m)) (h : ∀ p a, IsReal ((insM m p).wq a)) (a : (⟨2, ![768, 4096]⟩ : Shape).Idx) : IsReal (wq a) := by
  have hn : (a 1).val < 4096 := (a 1).isLt
  have e : a = ix2 (a 0) (⟨512 * ((a 1).val / 512) + (a 1).val % 512, by omega⟩ : Fin 4096) :=
    (eq_ix2 a).trans (congrArg (ix2 (a 0)) (Fin.ext (Nat.div_add_mod _ _).symm))
  rw [e]
  exact (H.wq (⟨(a 1).val / 512, by omega⟩ : Fin 8) (a 0) (⟨(a 1).val % 512, Nat.mod_lt _ (by decide)⟩ : Fin 512)) ▸ h _ _

/-- Two arrays of rows equal at every entry, the rows counted in fours of sixty-four. -/
theorem ext_rows (f g : S2x256x768.Idx → EReal)
    (h : ∀ (b : Fin 2) (t : Fin 4) (r : Fin 64) (n : Fin 768), f (ix3 b (⟨t.val * 64 + r.val, by omega⟩ : Fin 256) n) = g (ix3 b (⟨t.val * 64 + r.val, by omega⟩ : Fin 256) n)) : f = g := by
  funext j
  have hi : (j 1).val < 256 := (j 1).isLt
  have e : j = ix3 (j 0) (⟨(⟨(j 1).val / 64, by omega⟩ : Fin 4).val * 64 + (⟨(j 1).val % 64, Nat.mod_lt _ (by decide)⟩ : Fin 64).val, by
      show (j 1).val / 64 * 64 + (j 1).val % 64 < 256; omega⟩ : Fin 256) (j 2) :=
    (eq_ix3 j).trans (congrArg (fun i => ix3 (j 0) i (j 2)) (Fin.ext (by
      show (j 1).val = (j 1).val / 64 * 64 + (j 1).val % 64; omega)))
  rw [e]
  exact h (j 0) _ _ (j 2)

/-- The kernel's result on every device. -/
theorem result (h : Cut m x wq k v wo)
    (hf : ∀ c : Dev nD, (∀ a, IsReal (m ((c : Thread nD τ).loc main_arg0) a)) ∧ (∀ a, IsReal (m ((c : Thread nD τ).loc main_arg1) a)) ∧ (∀ a, IsReal (m ((c : Thread nD τ).loc main_arg2) a)))
    (c : Dev nD) : V3 m (outsM m) c main_v18 = refR x wq k v wo := by
  have H := held h
  have hx : ∀ a, IsReal (x a) := (h 0).1 ▸ (hf 0).1
  have hk : ∀ a, IsReal (k a) := (h 0).2.2.1 ▸ (hf 0).2.2
  have hw : ∀ a, IsReal (wq a) := whole_real H fun p a => by
    show IsReal (V1 m p main_arg1 a)
    rw [V1_of m p main_arg1 (by decide)]
    exact (hf p).2.1 a
  exact ext_rows _ _ fun b t r n => (v18_entry m c b t r n).trans (equation H hx hw hk b t r n)

end

end Cert.Math

end
-- ==== Proof.lean ====
/-
  The claims: both readings of the kernel and the reference end with arguments unchanged and every semaphore at zero, the
  two readings are one program, and over the extended reals the kernel's result is the reference's.
-/
module

public import proofs.«01_k».proof.Defs
public import proofs.«01_k».proof.Proof.Gen.Kernel
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Regions
public import proofs.«01_k».proof.Proof.Gen.KernelIdeal.Points
public import proofs.«01_k».proof.Proof.Gen.ReferenceIdeal
public import proofs.«01_k».proof.Proof.Gen.ReferenceIdeal.Run
public import proofs.«01_k».proof.Proof.Frames
public import proofs.«01_k».proof.Proof.Same
public import proofs.«01_k».proof.Proof.Result

@[expose] public section

noncomputable section

namespace Cert.Proof

open Idealize.ShloMosaic Idealize.SL.Sem

/-- The kernel as run on the device: its run is the one proved for every reading of the floats. -/
theorem frame_kernel : @Cert.quiescent_Kernel Cert.Kernel.Gen.facts := fun m ρ _ =>
  run_same (Cert.KernelIdeal.Proto.run_frame (F := Bits) m ρ)

/-- The kernel over the extended reals. -/
theorem frame_kernelIdeal : @Cert.quiescent_KernelIdeal Cert.KernelIdeal.Gen.facts := fun m ρ _ =>
  Cert.KernelIdeal.Proto.run_frame (F := Ideal) m ρ

/-- The reference over the extended reals: it writes no argument and has no semaphore. -/
theorem frame_reference : @Cert.quiescent_ReferenceIdeal Cert.ReferenceIdeal.Gen.facts := fun m ρ _ =>
  (θ_run Cert.ReferenceIdeal.defs _ _).mono
    (fun r h => ⟨fun c => (h c).2, Idealize.ShloMosaic.sem_eq_zero_of_no_sems (by decide) r.2⟩)
    (Cert.ReferenceIdeal.Value.run (F := Ideal) m ρ)

/-- Over the extended reals, `x`, the projection and the keys finite, every device ends with the reference's result. -/
theorem equal : @Cert.algebraic_KernelIdeal_ReferenceIdeal_pre_finite_KernelIdeal Cert.KernelIdeal.Gen.facts Cert.ReferenceIdeal.Gen.facts Cert.Math.finite_facts :=
  fun m g m' g' hpre hcut => ⟨_,
    (θ_run Cert.KernelIdeal.defs _ _).mono
      (fun r h c => ⟨(h.1 c Cert.KernelIdeal.main_v18 rfl).trans (Cert.Math.result hcut (fun d => Cert.Math.real_of_finite _ _ _ _ _ (hpre d)) c),
        Cert.KernelIdeal.Proto.args_kept m (h.1 c)⟩)
      (Cert.KernelIdeal.Proto.run_main (F := Ideal) m g),
    (θ_run Cert.ReferenceIdeal.defs _ _).mono (fun r h => h 0) (Cert.ReferenceIdeal.Value.run (F := Ideal) m' g')⟩

theorem claim : Cert.Claim := ⟨Cert.Kernel.Gen.facts, Cert.KernelIdeal.Gen.facts, Cert.ReferenceIdeal.Gen.facts,
  Cert.Math.finite_facts, Cert.Math.finite_facts_ref,
  frame_kernel, frame_kernelIdeal, fun m ρ _ => frame_kernelIdeal m ρ trivial,
  frame_reference, fun m ρ _ => frame_reference m ρ trivial, trivial, equal⟩

end Cert.Proof

end
